-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21)
      ∧ r.2.mem ((c.tc : Thread Cert.Kernel3.nD Cert.Kernel3.τ).loc Cert.Kernel3.main_arg22) = m ((c.tc : Thread Cert.Kernel3.nD Cert.Kernel3.τ).loc Cert.Kernel3.main_arg22))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v37)) (v2 : (c : Dev Cert.Kernel2Ideal.nD) → Buf (Elt Ideal) ((c.tc : Thread Cert.Kernel2Ideal.nD Cert.Kernel2Ideal.τ).loc Cert.Kernel2Ideal.main_v38)) (v3 : (c : Dev Cert.Kernel2Ideal.nD) → Buf (Elt Ideal) ((c.tc : Thread Cert.Kernel2Ideal.nD Cert.Kernel2Ideal.τ).loc Cert.Kernel2Ideal.main_v43)) (v4 : (c : Dev Cert.Kernel2Ideal.nD) → Buf (Elt Ideal) ((c.tc : Thread Cert.Kernel2Ideal.nD Cert.Kernel2Ideal.τ).loc Cert.Kernel2Ideal.main_v45)) (v5 : (c : Dev Cert.Kernel2Ideal.nD) → Buf (Elt Ideal) ((c.tc : Thread Cert.Kernel2Ideal.nD Cert.Kernel2Ideal.τ).loc Cert.Kernel2Ideal.main_v47)) (v6 : (c : Dev Cert.Kernel2Ideal.nD) → Buf (Elt Ideal) ((c.tc : Thread Cert.Kernel2Ideal.nD Cert.Kernel2Ideal.τ).loc Cert.Kernel2Ideal.main_v49)) (v7 : (c : Dev Cert.Kernel2Ideal.nD) → Buf (Elt Ideal) ((c.tc : Thread Cert.Kernel2Ideal.nD Cert.Kernel2Ideal.τ).loc Cert.Kernel2Ideal.main_v51)) (v8 : (c : Dev Cert.Kernel2Ideal.nD) → Buf (Elt Ideal) ((c.tc : Thread Cert.Kernel2Ideal.nD Cert.Kernel2Ideal.τ).loc Cert.Kernel2Ideal.main_v53)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v37) = v1 c
          ∧ r.2.mem ((c.tc : Thread Cert.Kernel2Ideal.nD Cert.Kernel2Ideal.τ).loc Cert.Kernel2Ideal.main_v38) = v2 c
          ∧ r.2.mem ((c.tc : Thread Cert.Kernel2Ideal.nD Cert.Kernel2Ideal.τ).loc Cert.Kernel2Ideal.main_v43) = v3 c
          ∧ r.2.mem ((c.tc : Thread Cert.Kernel2Ideal.nD Cert.Kernel2Ideal.τ).loc Cert.Kernel2Ideal.main_v45) = v4 c
          ∧ r.2.mem ((c.tc : Thread Cert.Kernel2Ideal.nD Cert.Kernel2Ideal.τ).loc Cert.Kernel2Ideal.main_v47) = v5 c
          ∧ r.2.mem ((c.tc : Thread Cert.Kernel2Ideal.nD Cert.Kernel2Ideal.τ).loc Cert.Kernel2Ideal.main_v49) = v6 c
          ∧ r.2.mem ((c.tc : Thread Cert.Kernel2Ideal.nD Cert.Kernel2Ideal.τ).loc Cert.Kernel2Ideal.main_v51) = v7 c
          ∧ r.2.mem ((c.tc : Thread Cert.Kernel2Ideal.nD Cert.Kernel2Ideal.τ).loc Cert.Kernel2Ideal.main_v53) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v110) = v0 c
          ∧ r.2.mem ((c.tc : Thread Cert.Reference2Ideal.nD Cert.Reference2Ideal.τ).loc Cert.Reference2Ideal.main_v113) = v1 c
          ∧ r.2.mem ((c.tc : Thread Cert.Reference2Ideal.nD Cert.Reference2Ideal.τ).loc Cert.Reference2Ideal.main_v116) = v2 c
          ∧ r.2.mem ((c.tc : Thread Cert.Reference2Ideal.nD Cert.Reference2Ideal.τ).loc Cert.Reference2Ideal.main_v51) = v3 c
          ∧ r.2.mem ((c.tc : Thread Cert.Reference2Ideal.nD Cert.Reference2Ideal.τ).loc Cert.Reference2Ideal.main_v52) = v4 c
          ∧ r.2.mem ((c.tc : Thread Cert.Reference2Ideal.nD Cert.Reference2Ideal.τ).loc Cert.Reference2Ideal.main_v53) = v5 c
          ∧ r.2.mem ((c.tc : Thread Cert.Reference2Ideal.nD Cert.Reference2Ideal.τ).loc Cert.Reference2Ideal.main_v105) = v6 c
          ∧ r.2.mem ((c.tc : Thread Cert.Reference2Ideal.nD Cert.Reference2Ideal.τ).loc Cert.Reference2Ideal.main_v106) = v7 c
          ∧ r.2.mem ((c.tc : Thread Cert.Reference2Ideal.nD Cert.Reference2Ideal.τ).loc Cert.Reference2Ideal.main_v107) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)) →
    ∃ (v0 : (c : Dev Cert.Kernel3Ideal.nD) → Buf (Elt Ideal) ((c.tc : Thread Cert.Kernel3Ideal.nD Cert.Kernel3Ideal.τ).loc Cert.Kernel3Ideal.main_v35)) (v1 : (c : Dev Cert.Kernel3Ideal.nD) → Buf (Elt Ideal) ((c.tc : Thread Cert.Kernel3Ideal.nD Cert.Kernel3Ideal.τ).loc Cert.Kernel3Ideal.main_v37)) (v2 : (c : Dev Cert.Kernel3Ideal.nD) → Buf (Elt Ideal) ((c.tc : Thread Cert.Kernel3Ideal.nD Cert.Kernel3Ideal.τ).loc Cert.Kernel3Ideal.main_v38)) (v3 : (c : Dev Cert.Kernel3Ideal.nD) → Buf (Elt Ideal) ((c.tc : Thread Cert.Kernel3Ideal.nD Cert.Kernel3Ideal.τ).loc Cert.Kernel3Ideal.main_v39)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35) = v0 c
          ∧ r.2.mem ((c.tc : Thread Cert.Kernel3Ideal.nD Cert.Kernel3Ideal.τ).loc Cert.Kernel3Ideal.main_v37) = v1 c
          ∧ r.2.mem ((c.tc : Thread Cert.Kernel3Ideal.nD Cert.Kernel3Ideal.τ).loc Cert.Kernel3Ideal.main_v38) = v2 c
          ∧ r.2.mem ((c.tc : Thread Cert.Kernel3Ideal.nD Cert.Kernel3Ideal.τ).loc Cert.Kernel3Ideal.main_v39) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
          ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v143) = v0 c
          ∧ r.2.mem ((c.tc : Thread Cert.Reference3Ideal.nD Cert.Reference3Ideal.τ).loc Cert.Reference3Ideal.main_v279) = v1 c
          ∧ r.2.mem ((c.tc : Thread Cert.Reference3Ideal.nD Cert.Reference3Ideal.τ).loc Cert.Reference3Ideal.main_v280) = v2 c
          ∧ r.2.mem ((c.tc : Thread Cert.Reference3Ideal.nD Cert.Reference3Ideal.τ).loc Cert.Reference3Ideal.main_v281) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21)
          ∧ r.2.mem ((c.tc : Thread Cert.Reference3Ideal.nD Cert.Reference3Ideal.τ).loc Cert.Reference3Ideal.main_arg22) = m' ((c.tc : Thread Cert.Reference3Ideal.nD Cert.Reference3Ideal.τ).loc Cert.Reference3Ideal.main_arg22))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8704x25600 : Shape := ⟨2, ![8704, 25600]⟩
abbrev S8704x256 : Shape := ⟨2, ![8704, 256]⟩
abbrev S32x3x6144 : Shape := ⟨3, ![32, 3, 6144]⟩
abbrev S32x64x64x128 : Shape := ⟨4, ![32, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8704x64 : Shape := ⟨2, ![8704, 64]⟩
abbrev S64x64 : Shape := ⟨2, ![64, 64]⟩
abbrev S_ : Shape := ⟨0, ![]⟩
abbrev S1x6144 : Shape := ⟨2, ![1, 6144]⟩
abbrev S1x64 : Shape := ⟨2, ![1, 64]⟩
abbrev S32x2 : Shape := ⟨2, ![32, 2]⟩
abbrev S32x2x16 : Shape := ⟨3, ![32, 2, 16]⟩
abbrev S32x32 : Shape := ⟨2, ![32, 32]⟩
abbrev S1x4096 : Shape := ⟨2, ![1, 4096]⟩
abbrev S64x64x64 : Shape := ⟨3, ![64, 64, 64]⟩
abbrev S64x4096 : Shape := ⟨2, ![64, 4096]⟩
abbrev S64x64x16 : Shape := ⟨3, ![64, 64, 16]⟩
abbrev S64x1024 : Shape := ⟨2, ![64, 1024]⟩
abbrev S512x64 : Shape := ⟨2, ![512, 64]⟩
abbrev S32x16x32x2 : Shape := ⟨4, ![32, 16, 32, 2]⟩
abbrev S32x32x2x16 : Shape := ⟨4, ![32, 32, 2, 16]⟩
abbrev S32x32x32 : Shape := ⟨3, ![32, 32, 32]⟩
abbrev S32x4096x128 : Shape := ⟨3, ![32, 4096, 128]⟩
abbrev S512x4096 : Shape := ⟨2, ![512, 4096]⟩
abbrev S16x4096 : Shape := ⟨2, ![16, 4096]⟩
abbrev S16x2048 : Shape := ⟨2, ![16, 2048]⟩
abbrev S16x256 : Shape := ⟨2, ![16, 256]⟩
abbrev S1x32x32 : Shape := ⟨3, ![1, 32, 32]⟩
abbrev S1x3x6144 : Shape := ⟨3, ![1, 3, 6144]⟩
abbrev S1x4096x128 : Shape := ⟨3, ![1, 4096, 128]⟩
abbrev S24x4096 : Shape := ⟨2, ![24, 4096]⟩
abbrev S24x2048 : Shape := ⟨2, ![24, 2048]⟩
abbrev S1x3x4096 : Shape := ⟨3, ![1, 3, 4096]⟩
abbrev S3x4096 : Shape := ⟨2, ![3, 4096]⟩
abbrev S1x3x2048 : Shape := ⟨3, ![1, 3, 2048]⟩
abbrev S3x2048 : Shape := ⟨2, ![3, 2048]⟩
abbrev S4096x128 : Shape := ⟨2, ![4096, 128]⟩
abbrev S1x2048 : Shape := ⟨2, ![1, 2048]⟩
abbrev S16x64 : Shape := ⟨2, ![16, 64]⟩
abbrev S16x16 : Shape := ⟨2, ![16, 16]⟩
abbrev S16x1024 : Shape := ⟨2, ![16, 1024]⟩
abbrev S16x32 : Shape := ⟨2, ![16, 32]⟩
abbrev S32x128 : Shape := ⟨2, ![32, 128]⟩
abbrev S16x128 : Shape := ⟨2, ![16, 128]⟩
abbrev S1x512x128 : Shape := ⟨3, ![1, 512, 128]⟩
abbrev S512x128 : Shape := ⟨2, ![512, 128]⟩
abbrev S16x512 : Shape := ⟨2, ![16, 512]⟩
abbrev S1x32 : Shape := ⟨2, ![1, 32]⟩
abbrev S1x512 : Shape := ⟨2, ![1, 512]⟩
abbrev S16 : Shape := ⟨1, ![16]⟩
abbrev S16x1 : Shape := ⟨2, ![16, 1]⟩

abbrev nBuf : Space → Nat
  | .hbm => 43
  | .vmem => 32
  | .smem => 0
  | _ => 0

abbrev bufTy : (tb : Table) → Fin (tcTables nBuf tb) → BufTy
  | .hbm, ⟨0, _⟩ => ⟨S8704x25600, .f32⟩
  | .hbm, ⟨1, _⟩ => ⟨S8704x256, .f32⟩
  | .hbm, ⟨2, _⟩ => ⟨S32x3x6144, .f32⟩
  | .hbm, ⟨3, _⟩ => ⟨S32x64x64x128, .f32⟩
  | .hbm, ⟨4, _⟩ => ⟨S4x6144, .f32⟩
  | .hbm, ⟨5, _⟩ => ⟨S6144, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S4096, .f32⟩
  | .hbm, ⟨10, _⟩ => ⟨S8704x64, .f32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .f32⟩
  | .hbm, ⟨18, _⟩ => ⟨S1x6144, .f32⟩
  | .hbm, ⟨19, _⟩ => ⟨S1x64, .f32⟩
  | .hbm, ⟨20, _⟩ => ⟨S1x64, .f32⟩
  | .hbm, ⟨21, _⟩ => ⟨S32x2, .f32⟩
  | .hbm, ⟨22, _⟩ => ⟨S32x2x16, .f32⟩
  | .hbm, ⟨23, _⟩ => ⟨S32x32, .f32⟩
  | .hbm, ⟨24, _⟩ => ⟨S32x2, .f32⟩
  | .hbm, ⟨25, _⟩ => ⟨S32x2x16, .f32⟩
  | .hbm, ⟨26, _⟩ => ⟨S32x32, .f32⟩
  | .hbm, ⟨27, _⟩ => ⟨S64x64, .f32⟩
  | .hbm, ⟨28, _⟩ => ⟨S4096, .f32⟩
  | .hbm, ⟨29, _⟩ => ⟨S1x4096, .f32⟩
  | .hbm, ⟨30, _⟩ => ⟨S1x4096, .f32⟩
  | .hbm, ⟨31, _⟩ => ⟨S64x64x64, .f32⟩
  | .hbm, ⟨32, _⟩ => ⟨S64x4096, .f32⟩
  | .hbm, ⟨33, _⟩ => ⟨S64x64x16, .f32⟩
  | .hbm, ⟨34, _⟩ => ⟨S64x1024, .f32⟩
  | .hbm, ⟨35, _⟩ => ⟨S512x64, .f32⟩
  | .hbm, ⟨36, _⟩ => ⟨S32x16x32x2, .f32⟩
  | .hbm, ⟨37, _⟩ => ⟨S32x32x2x16, .f32⟩
  | .hbm, ⟨38, _⟩ => ⟨S32x32x32, .f32⟩
  | .hbm, ⟨39, _⟩ => ⟨S32x4096x128, .f32⟩
  | .hbm, ⟨40, _⟩ => ⟨S512x4096, .bf16⟩
  | .hbm, ⟨41, _⟩ => ⟨S32x3x6144, .f32⟩
  | .hbm, ⟨42, _⟩ => ⟨S32x4096x128, .f32⟩
  | .local _ .vmem, ⟨0, _⟩ => ⟨S16x4096, .f32⟩
  | .local _ .vmem, ⟨1, _⟩ => ⟨S16x4096, .f32⟩
  | .local _ .vmem, ⟨2, _⟩ => ⟨S16x4096, .f32⟩
  | .local _ .vmem, ⟨3, _⟩ => ⟨S16x4096, .f32⟩
  | .local _ .vmem, ⟨4, _⟩ => ⟨S16x2048, .f32⟩
  | .local _ .vmem, ⟨5, _⟩ => ⟨S16x2048, .f32⟩
  | .local _ .vmem, ⟨6, _⟩ => ⟨S16x256, .f32⟩
  | .local _ .vmem, ⟨7, _⟩ => ⟨S16x256, .f32⟩
  | .local _ .vmem, ⟨8, _⟩ => ⟨S1x32x32, .f32⟩
  | .local _ .vmem, ⟨9, _⟩ => ⟨S1x32x32, .f32⟩
  | .local _ .vmem, ⟨10, _⟩ => ⟨S1x3x6144, .f32⟩
  | .local _ .vmem, ⟨11, _⟩ => ⟨S1x3x6144, .f32⟩
  | .local _ .vmem, ⟨12, _⟩ => ⟨S1x4096x128, .f32⟩
  | .local _ .vmem, ⟨13, _⟩ => ⟨S1x4096x128, .f32⟩
  | .local _ .vmem, ⟨14, _⟩ => ⟨S4x6144, .f32⟩
  | .local _ .vmem, ⟨15, _⟩ => ⟨S1x6144, .f32⟩
  | .local _ .vmem, ⟨16, _⟩ => ⟨S1x64, .f32⟩
  | .local _ .vmem, ⟨17, _⟩ => ⟨S1x64, .f32⟩
  | .local _ .vmem, ⟨18, _⟩ => ⟨S32x32, .f32⟩
  | .local _ .vmem, ⟨19, _⟩ => ⟨S32x32, .f32⟩
  | .local _ .vmem, ⟨20, _⟩ => ⟨S1x4096, .f32⟩
  | .local _ .vmem, ⟨21, _⟩ => ⟨S1x4096, .f32⟩
  | .local _ .vmem, ⟨22, _⟩ => ⟨S64x4096, .f32⟩
  | .local _ .vmem, ⟨23, _⟩ => ⟨S64x1024, .f32⟩
  | .local _ .vmem, ⟨24, _⟩ => ⟨S16x4096, .bf16⟩
  | .local _ .vmem, ⟨25, _⟩ => ⟨S16x4096, .bf16⟩
  | .local _ .vmem, ⟨26, _⟩ => ⟨S1x3x6144, .f32⟩
  | .local _ .vmem, ⟨27, _⟩ => ⟨S1x3x6144, .f32⟩
  | .local _ .vmem, ⟨28, _⟩ => ⟨S1x4096x128, .f32⟩
  | .local _ .vmem, ⟨29, _⟩ => ⟨S1x4096x128, .f32⟩
  | .local _ .vmem, ⟨30, _⟩ => ⟨S24x4096, .f32⟩
  | .local _ .vmem, ⟨31, _⟩ => ⟨S24x2048, .f32⟩
  | _, _ => ⟨S8704x25600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c10_i32 : BitVec 32 := 10#32
  let c0_i32 : BitVec 32 := 0#32
  ![v2.toNat, c10_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S64x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S16x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x3x6144 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x4096x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S8704x25600 : Shape := ⟨2, ![8704, 25600]⟩
abbrev S8704x256 : Shape := ⟨2, ![8704, 256]⟩
abbrev S32x3x6144 : Shape := ⟨3, ![32, 3, 6144]⟩
abbrev S32x64x64x128 : Shape := ⟨4, ![32, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S512x25600 : Shape := ⟨2, ![512, 25600]⟩
abbrev S32x16x25600 : Shape := ⟨3, ![32, 16, 25600]⟩
abbrev S32x16x4096 : Shape := ⟨3, ![32, 16, 4096]⟩
abbrev S32x16x2048 : Shape := ⟨3, ![32, 16, 2048]⟩
abbrev S32x16x6144 : Shape := ⟨3, ![32, 16, 6144]⟩
abbrev S512x64 : Shape := ⟨2, ![512, 64]⟩
abbrev S32x16x64 : Shape := ⟨3, ![32, 16, 64]⟩
abbrev S32x19x6144 : Shape := ⟨3, ![32, 19, 6144]⟩
abbrev S1x6144 : Shape := ⟨2, ![1, 6144]⟩
abbrev S1x1x6144 : Shape := ⟨3, ![1, 1, 6144]⟩
abbrev S_ : Shape := ⟨0, ![]⟩
abbrev S32x16x1024 : Shape := ⟨3, ![32, 16, 1024]⟩
abbrev S32x16x8x8x64 : Shape := ⟨5, ![32, 16, 8, 8, 64]⟩
abbrev S32x16x8x128 : Shape := ⟨4, ![32, 16, 8, 128]⟩
abbrev S1x1x64 : Shape := ⟨3, ![1, 1, 64]⟩
abbrev S32x16x8x8 : Shape := ⟨4, ![32, 16, 8, 8]⟩
abbrev S8x8 : Shape := ⟨2, ![8, 8]⟩
abbrev S32x8x8x64x128 : Shape := ⟨5, ![32, 8, 8, 64, 128]⟩
abbrev S32x16x8x8x1 : Shape := ⟨5, ![32, 16, 8, 8, 1]⟩
abbrev S32x1x16x8x8x64 : Shape := ⟨6, ![32, 1, 16, 8, 8, 64]⟩
abbrev S32x1x16x8x128 : Shape := ⟨5, ![32, 1, 16, 8, 128]⟩
abbrev S1x1x8x8 : Shape := ⟨4, ![1, 1, 8, 8]⟩
abbrev S32x1x16x8x8 : Shape := ⟨5, ![32, 1, 16, 8, 8]⟩
abbrev S16x16 : Shape := ⟨2, ![16, 16]⟩
abbrev S32x1x16x1x8x8 : Shape := ⟨6, ![32, 1, 16, 1, 8, 8]⟩
abbrev S32x1x1x16x8x8 : Shape := ⟨6, ![32, 1, 1, 16, 8, 8]⟩
abbrev S32x1x16x16x8x8 : Shape := ⟨6, ![32, 1, 16, 16, 8, 8]⟩
abbrev S16x16x1x1 : Shape := ⟨4, ![16, 16, 1, 1]⟩
abbrev S32x1x8x16x16 : Shape := ⟨5, ![32, 1, 8, 16, 16]⟩
abbrev S32x1x16x16x8 : Shape := ⟨5, ![32, 1, 16, 16, 8]⟩
abbrev S32x1x16x16x8x1 : Shape := ⟨6, ![32, 1, 16, 16, 8, 1]⟩
abbrev S32x1x8x8x64x16 : Shape := ⟨6, ![32, 1, 8, 8, 64, 16]⟩
abbrev S32x1x1x8x8 : Shape := ⟨5, ![32, 1, 1, 8, 8]⟩
abbrev S32x1x16x8x8x1 : Shape := ⟨6, ![32, 1, 16, 8, 8, 1]⟩
abbrev S32x1x8x8x64x128 : Shape := ⟨6, ![32, 1, 8, 8, 64, 128]⟩
abbrev S32x1x8x8 : Shape := ⟨4, ![32, 1, 8, 8]⟩
abbrev S32x8x8 : Shape := ⟨3, ![32, 8, 8]⟩
abbrev S32x8x8x1x1 : Shape := ⟨5, ![32, 8, 8, 1, 1]⟩
abbrev S8x8x1 : Shape := ⟨3, ![8, 8, 1]⟩
abbrev S1x1x8x8x1 : Shape := ⟨5, ![1, 1, 8, 8, 1]⟩
abbrev S32x16x8x512 : Shape := ⟨4, ![32, 16, 8, 512]⟩
abbrev S32x16x8 : Shape := ⟨3, ![32, 16, 8]⟩
abbrev S32x16x8x1 : Shape := ⟨4, ![32, 16, 8, 1]⟩
abbrev S1x1x4096 : Shape := ⟨3, ![1, 1, 4096]⟩
abbrev S512x4096 : Shape := ⟨2, ![512, 4096]⟩
abbrev S32x4096x128 : Shape := ⟨3, ![32, 4096, 128]⟩

abbrev nBuf : Space → Nat
  | .hbm => 195
  | .vmem => 0
  | .smem => 0
  | _ => 0

abbrev hbmTy0_0 (i : Nat) : BufTy := match i % 128 with
  | 0 => ⟨S8704x25600, .f32⟩
  | 1 => ⟨S8704x256, .f32⟩
  | 2 => ⟨S32x3x6144, .f32⟩
  | 3 => ⟨S32x64x64x128, .f32⟩
  | 4 => ⟨S4x6144, .f32⟩
  | 5 => ⟨S6144, .f32⟩
  | 6 => ⟨S64, .f32⟩
  | 7 => ⟨S64, .f32⟩
  | 8 => ⟨S64, .f32⟩
  | 9 => ⟨S4096, .f32⟩
  | 10 => ⟨S512x25600, .f32⟩
  | 11 => ⟨S32x16x25600, .f32⟩
  | 12 => ⟨S32x16x4096, .f32⟩
  | 13 => ⟨S32x16x4096, .f32⟩
  | 14 => ⟨S32x16x2048, .f32⟩
  | 15 => ⟨S32x16x6144, .f32⟩
  | 16 => ⟨S512x64, .f32⟩
  | 17 => ⟨S32x16x64, .f32⟩
  | 18 => ⟨S32x19x6144, .f32⟩
  | 19 => ⟨S1x6144, .f32⟩
  | 20 => ⟨S6144, .f32⟩
  | 21 => ⟨S32x16x6144, .f32⟩
  | 22 => ⟨S1x1x6144, .f32⟩
  | 23 => ⟨S32x16x6144, .f32⟩
  | 24 => ⟨S32x16x6144, .f32⟩
  | 25 => ⟨S1x1x6144, .f32⟩
  | 26 => ⟨S32x16x6144, .f32⟩
  | 27 => ⟨S32x16x6144, .f32⟩
  | 28 => ⟨S1x6144, .f32⟩
  | 29 => ⟨S6144, .f32⟩
  | 30 => ⟨S32x16x6144, .f32⟩
  | 31 => ⟨S1x1x6144, .f32⟩
  | 32 => ⟨S32x16x6144, .f32⟩
  | 33 => ⟨S32x16x6144, .f32⟩
  | 34 => ⟨S32x16x6144, .f32⟩
  | 35 => ⟨S1x6144, .f32⟩
  | 36 => ⟨S6144, .f32⟩
  | 37 => ⟨S32x16x6144, .f32⟩
  | 38 => ⟨S1x1x6144, .f32⟩
  | 39 => ⟨S32x16x6144, .f32⟩
  | 40 => ⟨S32x16x6144, .f32⟩
  | 41 => ⟨S32x16x6144, .f32⟩
  | 42 => ⟨S1x6144, .f32⟩
  | 43 => ⟨S6144, .f32⟩
  | 44 => ⟨S32x16x6144, .f32⟩
  | 45 => ⟨S1x1x6144, .f32⟩
  | 46 => ⟨S32x16x6144, .f32⟩
  | 47 => ⟨S32x16x6144, .f32⟩
  | 48 => ⟨S32x16x6144, .f32⟩
  | 49 => ⟨S32x3x6144, .f32⟩
  | 50 => ⟨S32x16x6144, .f32⟩
  | 51 => ⟨S32x16x6144, .f32⟩
  | 52 => ⟨S_, .f32⟩
  | 53 => ⟨S32x16x6144, .f32⟩
  | 54 => ⟨S32x16x6144, .f32⟩
  | 55 => ⟨S_, .f32⟩
  | 56 => ⟨S32x16x6144, .f32⟩
  | 57 => ⟨S32x16x6144, .f32⟩
  | 58 => ⟨S32x16x6144, .f32⟩
  | 59 => ⟨S32x16x4096, .f32⟩
  | 60 => ⟨S32x16x1024, .f32⟩
  | 61 => ⟨S32x16x1024, .f32⟩
  | 62 => ⟨S32x16x8x8x64, .f32⟩
  | 63 => ⟨S32x16x8x128, .f32⟩
  | 64 => ⟨S32x16x8x128, .f32⟩
  | 65 => ⟨S1x1x64, .f32⟩
  | 66 => ⟨S32x16x64, .f32⟩
  | 67 => ⟨S32x16x64, .f32⟩
  | 68 => ⟨S_, .f32⟩
  | 69 => ⟨S32x16x64, .f32⟩
  | 70 => ⟨S32x16x64, .f32⟩
  | 71 => ⟨S32x16x64, .f32⟩
  | 72 => ⟨S32x16x64, .f32⟩
  | 73 => ⟨S32x16x64, .i1⟩
  | 74 => ⟨S32x16x64, .f32⟩
  | 75 => ⟨S32x16x64, .f32⟩
  | 76 => ⟨S32x16x64, .f32⟩
  | 77 => ⟨S32x16x64, .f32⟩
  | 78 => ⟨S32x16x64, .f32⟩
  | 79 => ⟨S32x16x64, .f32⟩
  | 80 => ⟨S32x16x64, .f32⟩
  | 81 => ⟨S32x16x64, .f32⟩
  | 82 => ⟨S32x16x8x8, .f32⟩
  | 83 => ⟨S64, .f32⟩
  | 84 => ⟨S8x8, .f32⟩
  | 85 => ⟨S8x8, .f32⟩
  | 86 => ⟨S32x8x8x64x128, .f32⟩
  | 87 => ⟨S32x16x8x8x1, .f32⟩
  | 88 => ⟨S32x16x8x8x64, .f32⟩
  | 89 => ⟨S32x16x8x8x64, .f32⟩
  | 90 => ⟨S32x1x16x8x8x64, .f32⟩
  | 91 => ⟨S32x1x16x8x128, .f32⟩
  | 92 => ⟨S32x1x16x8x128, .f32⟩
  | 93 => ⟨S1x1x8x8, .f32⟩
  | 94 => ⟨S32x16x8x8, .f32⟩
  | 95 => ⟨S32x16x8x8, .f32⟩
  | 96 => ⟨S32x1x16x8x8, .f32⟩
  | 97 => ⟨S_, .f32⟩
  | 98 => ⟨S_, .f32⟩
  | 99 => ⟨S32x1x16x8x8, .f32⟩
  | 100 => ⟨S_, .i1⟩
  | 101 => ⟨S16x16, .i1⟩
  | 102 => ⟨S16x16, .i32⟩
  | 103 => ⟨S_, .i32⟩
  | 104 => ⟨S16x16, .i32⟩
  | 105 => ⟨S16x16, .i32⟩
  | 106 => ⟨S16x16, .i32⟩
  | 107 => ⟨S16x16, .i1⟩
  | 108 => ⟨S_, .i1⟩
  | 109 => ⟨S16x16, .i1⟩
  | 110 => ⟨S16x16, .i1⟩
  | 111 => ⟨S32x1x16x1x8x8, .f32⟩
  | 112 => ⟨S32x1x1x16x8x8, .f32⟩
  | 113 => ⟨S32x1x16x16x8x8, .f32⟩
  | 114 => ⟨S32x1x16x16x8x8, .f32⟩
  | 115 => ⟨S32x1x16x16x8x8, .f32⟩
  | 116 => ⟨S16x16x1x1, .i1⟩
  | 117 => ⟨S_, .f32⟩
  | 118 => ⟨S_, .f32⟩
  | 119 => ⟨S32x1x16x16x8x8, .i1⟩
  | 120 => ⟨S32x1x16x16x8x8, .f32⟩
  | 121 => ⟨S32x1x16x16x8x8, .f32⟩
  | 122 => ⟨S32x1x16x16x8x8, .f32⟩
  | 123 => ⟨S32x1x8x16x16, .f32⟩
  | 124 => ⟨S32x1x16x16x8, .f32⟩
  | 125 => ⟨S32x1x16x16x8x1, .f32⟩
  | 126 => ⟨S32x1x16x16x8x8, .f32⟩
  | 127 => ⟨S32x1x16x16x8x8, .f32⟩
  | _ => ⟨S8704x25600, .f32⟩

abbrev hbmTy0_1 (i : Nat) : BufTy := match i % 128 with
  | 0 => ⟨S32x1x8x8x64x16, .f32⟩
  | 1 => ⟨S32x1x16x8x8x64, .f32⟩
  | 2 => ⟨S32x1x1x8x8, .f32⟩
  | 3 => ⟨S32x1x16x8x8, .f32⟩
  | 4 => ⟨S32x1x16x8x8, .f32⟩
  | 5 => ⟨S32x1x16x8x8, .f32⟩
  | 6 => ⟨S32x1x16x8x8x1, .f32⟩
  | 7 => ⟨S32x1x16x8x8x64, .f32⟩
  | 8 => ⟨S32x1x16x8x8x64, .f32⟩
  | 9 => ⟨S32x1x8x8x64x128, .f32⟩
  | 10 => ⟨S32x1x1x8x8, .f32⟩
  | 11 => ⟨S32x1x8x8, .f32⟩
  | 12 => ⟨S32x1x8x8, .f32⟩
  | 13 => ⟨S32x8x8, .f32⟩
  | 14 => ⟨S32x8x8x1x1, .f32⟩
  | 15 => ⟨S32x8x8x64x128, .f32⟩
  | 16 => ⟨S32x8x8x64x128, .f32⟩
  | 17 => ⟨S32x8x8x64x128, .f32⟩
  | 18 => ⟨S32x8x8x64x128, .f32⟩
  | 19 => ⟨S32x1x8x8x64x128, .f32⟩
  | 20 => ⟨S32x1x8x8x64x16, .f32⟩
  | 21 => ⟨S32x1x16x8x8x64, .f32⟩
  | 22 => ⟨S32x1x16x8x8, .f32⟩
  | 23 => ⟨S32x1x16x8x8x1, .f32⟩
  | 24 => ⟨S32x1x16x8x8x64, .f32⟩
  | 25 => ⟨S32x1x16x8x8x64, .f32⟩
  | 26 => ⟨S32x1x16x8x8x64, .f32⟩
  | 27 => ⟨S32x16x8x8x64, .f32⟩
  | 28 => ⟨S8x8, .f32⟩
  | 29 => ⟨S8x8x1, .f32⟩
  | 30 => ⟨S1x1x8x8x1, .f32⟩
  | 31 => ⟨S32x16x8x8x64, .f32⟩
  | 32 => ⟨S32x16x8x8x64, .f32⟩
  | 33 => ⟨S32x16x8x8x64, .f32⟩
  | 34 => ⟨S32x16x4096, .f32⟩
  | 35 => ⟨S32x16x4096, .f32⟩
  | 36 => ⟨S32x16x4096, .f32⟩
  | 37 => ⟨S_, .f32⟩
  | 38 => ⟨S32x16x4096, .f32⟩
  | 39 => ⟨S32x16x4096, .f32⟩
  | 40 => ⟨S_, .f32⟩
  | 41 => ⟨S32x16x4096, .f32⟩
  | 42 => ⟨S32x16x4096, .f32⟩
  | 43 => ⟨S32x16x4096, .f32⟩
  | 44 => ⟨S32x16x4096, .f32⟩
  | 45 => ⟨S32x16x8x512, .f32⟩
  | 46 => ⟨S32x16x8x512, .f32⟩
  | 47 => ⟨S_, .f32⟩
  | 48 => ⟨S32x16x8, .f32⟩
  | 49 => ⟨S32x16x8x1, .f32⟩
  | 50 => ⟨S_, .f32⟩
  | 51 => ⟨S32x16x8x1, .f32⟩
  | 52 => ⟨S32x16x8x1, .f32⟩
  | 53 => ⟨S_, .f32⟩
  | 54 => ⟨S32x16x8x1, .f32⟩
  | 55 => ⟨S32x16x8x1, .f32⟩
  | 56 => ⟨S32x16x8x1, .f32⟩
  | 57 => ⟨S32x16x8x512, .f32⟩
  | 58 => ⟨S32x16x8x512, .f32⟩
  | 59 => ⟨S32x16x4096, .f32⟩
  | 60 => ⟨S1x1x4096, .f32⟩
  | 61 => ⟨S32x16x4096, .f32⟩
  | 62 => ⟨S32x16x4096, .f32⟩
  | 63 => ⟨S32x64x64x128, .f32⟩
  | 64 => ⟨S512x4096, .f32⟩
  | 65 => ⟨S512x4096, .bf16⟩
  | 66 => ⟨S32x4096x128, .f32⟩
  | _ => ⟨S8704x25600, .f32⟩

abbrev hbmTy (i : Nat) : BufTy := match i / 128 with
  | 0 => hbmTy0_0 i
  | 1 => hbmTy0_1 i
  | _ => ⟨S8704x25600, .f32⟩

abbrev bufTy : (tb : Table) → Fin (tcTables nBuf tb) → BufTy
  | .hbm, ⟨i, _⟩ => hbmTy i
  | _, _ => ⟨S8704x25600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_call0_cst : Ref sig .tc := ⟨.hbm, 97, rfl⟩
abbrev main_call2_call0_v0 : Ref sig .tc := ⟨.hbm, 98, rfl⟩
abbrev main_v66 : Ref sig .tc := ⟨.hbm, 99, rfl⟩
abbrev main_c : Ref sig .tc := ⟨.hbm, 100, rfl⟩
abbrev main_v67 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_c_0 : Ref sig .tc := ⟨.hbm, 108, rfl⟩
abbrev main_call3_v5 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call5_v0 : Ref sig .tc := ⟨.hbm, 163, rfl⟩
abbrev main_call5_v1 : Ref sig .tc := ⟨.hbm, 164, rfl⟩
abbrev main_call5_cst : Ref sig .tc := ⟨.hbm, 165, rfl⟩
abbrev main_call5_v2 : Ref sig .tc := ⟨.hbm, 166, rfl⟩
abbrev main_call5_v3 : Ref sig .tc := ⟨.hbm, 167, rfl⟩
abbrev main_call5_cst_0 : Ref sig .tc := ⟨.hbm, 168, rfl⟩
abbrev main_call5_v4 : Ref sig .tc := ⟨.hbm, 169, rfl⟩
abbrev main_call5_v5 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_0 : Ref sig .tc := ⟨.hbm, 175, rfl⟩
abbrev main_v121 : Ref sig .tc := ⟨.hbm, 176, rfl⟩
abbrev main_v122 : Ref sig .tc := ⟨.hbm, 177, rfl⟩
abbrev main_cst_1 : Ref sig .tc := ⟨.hbm, 178, rfl⟩
abbrev main_v123 : Ref sig .tc := ⟨.hbm, 179, rfl⟩
abbrev main_v124 : Ref sig .tc := ⟨.hbm, 180, rfl⟩
abbrev main_cst_2 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩

abbrev nD : Nat := 1
abbrev τ : Topo := Topo.v7x

variable {F : FTy → Type} [FloatOps F]
-- ==== Kernel2.lean ====
abbrev S2x4096x4096 : Shape := ⟨3, ![2, 4096, 4096]⟩
abbrev S32x16x4096 : Shape := ⟨3, ![32, 16, 4096]⟩
abbrev S4096x11008 : Shape := ⟨2, ![4096, 11008]⟩
abbrev S11008x4096 : Shape := ⟨2, ![11008, 4096]⟩
abbrev S4096 : Shape := ⟨1, ![4096]⟩
abbrev S4096x25744 : Shape := ⟨2, ![4096, 25744]⟩
abbrev S4096x4096 : Shape := ⟨2, ![4096, 4096]⟩
abbrev S4096x2048 : Shape := ⟨2, ![4096, 2048]⟩
abbrev S4096x1024 : Shape := ⟨2, ![4096, 1024]⟩
abbrev S4096x25600 : Shape := ⟨2, ![4096, 25600]⟩
abbrev S4096x64 : Shape := ⟨2, ![4096, 64]⟩
abbrev S4096x16 : Shape := ⟨2, ![4096, 16]⟩
abbrev S_ : Shape := ⟨0, ![]⟩
abbrev S4096x112 : Shape := ⟨2, ![4096, 112]⟩
abbrev S4096x256 : Shape := ⟨2, ![4096, 256]⟩
abbrev S8192x4096 : Shape := ⟨2, ![8192, 4096]⟩
abbrev S512x4096 : Shape := ⟨2, ![512, 4096]⟩
abbrev S8704x4096 : Shape := ⟨2, ![8704, 4096]⟩
abbrev S8704x11008 : Shape := ⟨2, ![8704, 11008]⟩
abbrev S1088x4096 : Shape := ⟨2, ![1088, 4096]⟩
abbrev S1088x256 : Shape := ⟨2, ![1088, 256]⟩
abbrev S544x11008 : Shape := ⟨2, ![544, 11008]⟩
abbrev S11008x256 : Shape := ⟨2, ![11008, 256]⟩
abbrev S544x256 : Shape := ⟨2, ![544, 256]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8704x25600 : Shape := ⟨2, ![8704, 25600]⟩
abbrev S4096x512 : Shape := ⟨2, ![4096, 512]⟩
abbrev S1088x512 : Shape := ⟨2, ![1088, 512]⟩
abbrev S8704x256 : Shape := ⟨2, ![8704, 256]⟩
abbrev S8704x1024 : Shape := ⟨2, ![8704, 1024]⟩
abbrev S8704x64 : Shape := ⟨2, ![8704, 64]⟩
abbrev S8192x1024 : Shape := ⟨2, ![8192, 1024]⟩
abbrev S1x2x4096x8x128 : Shape := ⟨5, ![1, 2, 4096, 8, 128]⟩
abbrev S8192x64 : Shape := ⟨2, ![8192, 64]⟩
abbrev S1x2x4096x64 : Shape := ⟨4, ![1, 2, 4096, 64]⟩
abbrev S512x1024 : Shape := ⟨2, ![512, 1024]⟩
abbrev S1x32x16x8x128 : Shape := ⟨5, ![1, 32, 16, 8, 128]⟩
abbrev S512x64 : Shape := ⟨2, ![512, 64]⟩
abbrev S1x32x16x64 : Shape := ⟨4, ![1, 32, 16, 64]⟩

abbrev nBuf : Space → Nat
  | .hbm => 64
  | .vmem => 35
  | .smem => 0
  | _ => 0

abbrev bufTy : (tb : Table) → Fin (tcTables nBuf tb) → BufTy
  | .hbm, ⟨0, _⟩ => ⟨S2x4096x4096, .f32⟩
  | .hbm, ⟨1, _⟩ => ⟨S32x16x4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096, .f32⟩
  | .hbm, ⟨6, _⟩ => ⟨S4096, .f32⟩
  | .hbm, ⟨7, _⟩ => ⟨S4096x25744, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x4096, .bf16⟩
  | .hbm, ⟨18, _⟩ => ⟨S4096x4096, .bf16⟩
  | .hbm, ⟨19, _⟩ => ⟨S4096x4096, .bf16⟩
  | .hbm, ⟨20, _⟩ => ⟨S4096x4096, .bf16⟩
  | .hbm, ⟨21, _⟩ => ⟨S4096x4096, .bf16⟩
  | .hbm, ⟨22, _⟩ => ⟨S4096x2048, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x25600, .bf16⟩
  | .hbm, ⟨27, _⟩ => ⟨S4096x64, .f32⟩
  | .hbm, ⟨28, _⟩ => ⟨S4096x16, .f32⟩
  | .hbm, ⟨29, _⟩ => ⟨S4096x64, .f32⟩
  | .hbm, ⟨30, _⟩ => ⟨S_, .f32⟩
  | .hbm, ⟨31, _⟩ => ⟨S4096x112, .f32⟩
  | .hbm, ⟨32, _⟩ => ⟨S4096x256, .f32⟩
  | .hbm, ⟨33, _⟩ => ⟨S4096x256, .bf16⟩
  | .hbm, ⟨34, _⟩ => ⟨S8192x4096, .f32⟩
  | .hbm, ⟨35, _⟩ => ⟨S512x4096, .f32⟩
  | .hbm, ⟨36, _⟩ => ⟨S8704x4096, .f32⟩
  | .hbm, ⟨37, _⟩ => ⟨S8704x4096, .bf16⟩
  | .hbm, ⟨38, _⟩ => ⟨S4096x11008, .bf16⟩
  | .hbm, ⟨39, _⟩ => ⟨S4096x11008, .bf16⟩
  | .hbm, ⟨40, _⟩ => ⟨S8704x11008, .bf16⟩
  | .hbm, ⟨41, _⟩ => ⟨S11008x4096, .bf16⟩
  | .hbm, ⟨42, _⟩ => ⟨S8704x4096, .f32⟩
  | .hbm, ⟨43, _⟩ => ⟨S1x4096, .f32⟩
  | .hbm, ⟨44, _⟩ => ⟨S1x4096, .f32⟩
  | .hbm, ⟨45, _⟩ => ⟨S8704x4096, .f32⟩
  | .hbm, ⟨46, _⟩ => ⟨S8704x4096, .bf16⟩
  | .hbm, ⟨47, _⟩ => ⟨S8704x25600, .f32⟩
  | .hbm, ⟨48, _⟩ => ⟨S8704x256, .f32⟩
  | .hbm, ⟨49, _⟩ => ⟨S8704x1024, .f32⟩
  | .hbm, ⟨50, _⟩ => ⟨S8704x1024, .f32⟩
  | .hbm, ⟨51, _⟩ => ⟨S8704x64, .f32⟩
  | .hbm, ⟨52, _⟩ => ⟨S8192x1024, .f32⟩
  | .hbm, ⟨53, _⟩ => ⟨S1x2x4096x8x128, .f32⟩
  | .hbm, ⟨54, _⟩ => ⟨S8192x1024, .f32⟩
  | .hbm, ⟨55, _⟩ => ⟨S1x2x4096x8x128, .f32⟩
  | .hbm, ⟨56, _⟩ => ⟨S8192x64, .f32⟩
  | .hbm, ⟨57, _⟩ => ⟨S1x2x4096x64, .f32⟩
  | .hbm, ⟨58, _⟩ => ⟨S512x1024, .f32⟩
  | .hbm, ⟨59, _⟩ => ⟨S1x32x16x8x128, .f32⟩
  | .hbm, ⟨60, _⟩ => ⟨S512x1024, .f32⟩
  | .hbm, ⟨61, _⟩ => ⟨S1x32x16x8x128, .f32⟩
  | .hbm, ⟨62, _⟩ => ⟨S512x64, .f32⟩
  | .hbm, ⟨63, _⟩ => ⟨S1x32x16x64, .f32⟩
  | .local _ .vmem, ⟨0, _⟩ => ⟨S1088x4096, .bf16⟩
  | .local _ .vmem, ⟨1, _⟩ => ⟨S1088x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1088x256, .bf16⟩
  | .local _ .vmem, ⟨7, _⟩ => ⟨S1088x256, .bf16⟩
  | .local _ .vmem, ⟨8, _⟩ => ⟨S544x11008, .bf16⟩
  | .local _ .vmem, ⟨9, _⟩ => ⟨S544x11008, .bf16⟩
  | .local _ .vmem, ⟨10, _⟩ => ⟨S11008x256, .bf16⟩
  | .local _ .vmem, ⟨11, _⟩ => ⟨S11008x256, .bf16⟩
  | .local _ .vmem, ⟨12, _⟩ => ⟨S544x256, .f32⟩
  | .local _ .vmem, ⟨13, _⟩ => ⟨S544x256, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S1x4096, .f32⟩
  | .local _ .vmem, ⟨19, _⟩ => ⟨S1x4096, .f32⟩
  | .local _ .vmem, ⟨20, _⟩ => ⟨S256x4096, .f32⟩
  | .local _ .vmem, ⟨21, _⟩ => ⟨S256x4096, .f32⟩
  | .local _ .vmem, ⟨22, _⟩ => ⟨S256x4096, .bf16⟩
  | .local _ .vmem, ⟨23, _⟩ => ⟨S256x4096, .bf16⟩
  | .local _ .vmem, ⟨24, _⟩ => ⟨S1088x4096, .bf16⟩
  | .local _ .vmem, ⟨25, _⟩ => ⟨S1088x4096, .bf16⟩
  | .local _ .vmem, ⟨26, _⟩ => ⟨S4096x512, .bf16⟩
  | .local _ .vmem, ⟨27, _⟩ => ⟨S4096x512, .bf16⟩
  | .local _ .vmem, ⟨28, _⟩ => ⟨S1088x512, .f32⟩
  | .local _ .vmem, ⟨29, _⟩ => ⟨S1088x512, .f32⟩
  | .local _ .vmem, ⟨30, _⟩ => ⟨S1088x4096, .bf16⟩
  | .local _ .vmem, ⟨31, _⟩ => ⟨S1088x4096, .bf16⟩
  | .local _ .vmem, ⟨32, _⟩ => ⟨S4096x256, .bf16⟩
  | .local _ .vmem, ⟨33, _⟩ => ⟨S1088x256, .f32⟩
  | .local _ .vmem, ⟨34, _⟩ => ⟨S1088x256, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S544x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S11008x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S544x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![8, 50], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1088x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1088x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1088x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1088x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference2Ideal.lean ====
abbrev S2x4096x4096 : Shape := ⟨3, ![2, 4096, 4096]⟩
abbrev S32x16x4096 : Shape := ⟨3, ![32, 16, 4096]⟩
abbrev S4096x11008 : Shape := ⟨2, ![4096, 11008]⟩
abbrev S11008x4096 : Shape := ⟨2, ![11008, 4096]⟩
abbrev S4096 : Shape := ⟨1, ![4096]⟩
abbrev S4096x25744 : Shape := ⟨2, ![4096, 25744]⟩
abbrev S_ : Shape := ⟨0, ![]⟩
abbrev S2x4096x11008 : Shape := ⟨3, ![2, 4096, 11008]⟩
abbrev S2x4096 : Shape := ⟨2, ![2, 4096]⟩
abbrev S2x4096x1 : Shape := ⟨3, ![2, 4096, 1]⟩
abbrev S1x1x4096 : Shape := ⟨3, ![1, 1, 4096]⟩
abbrev S2x4096x25744 : Shape := ⟨3, ![2, 4096, 25744]⟩
abbrev S2x4096x6144 : Shape := ⟨3, ![2, 4096, 6144]⟩
abbrev S2x4096x64 : Shape := ⟨3, ![2, 4096, 64]⟩
abbrev S2x4096x1024 : Shape := ⟨3, ![2, 4096, 1024]⟩
abbrev S2x4096x16 : Shape := ⟨3, ![2, 4096, 16]⟩
abbrev S2x4096x2048 : Shape := ⟨3, ![2, 4096, 2048]⟩
abbrev S2x4096x25600 : Shape := ⟨3, ![2, 4096, 25600]⟩
abbrev S2x4096x112 : Shape := ⟨3, ![2, 4096, 112]⟩
abbrev S2x4096x256 : Shape := ⟨3, ![2, 4096, 256]⟩
abbrev S1x2x4096x8x128 : Shape := ⟨5, ![1, 2, 4096, 8, 128]⟩
abbrev S1x2x4096x64 : Shape := ⟨4, ![1, 2, 4096, 64]⟩
abbrev S32x16x11008 : Shape := ⟨3, ![32, 16, 11008]⟩
abbrev S32x16 : Shape := ⟨2, ![32, 16]⟩
abbrev S32x16x1 : Shape := ⟨3, ![32, 16, 1]⟩
abbrev S32x16x25744 : Shape := ⟨3, ![32, 16, 25744]⟩
abbrev S32x16x6144 : Shape := ⟨3, ![32, 16, 6144]⟩
abbrev S32x16x64 : Shape := ⟨3, ![32, 16, 64]⟩
abbrev S32x16x1024 : Shape := ⟨3, ![32, 16, 1024]⟩
abbrev S32x16x16 : Shape := ⟨3, ![32, 16, 16]⟩
abbrev S32x16x2048 : Shape := ⟨3, ![32, 16, 2048]⟩
abbrev S32x16x25600 : Shape := ⟨3, ![32, 16, 25600]⟩
abbrev S32x16x112 : Shape := ⟨3, ![32, 16, 112]⟩
abbrev S32x16x256 : Shape := ⟨3, ![32, 16, 256]⟩
abbrev S1x32x16x8x128 : Shape := ⟨5, ![1, 32, 16, 8, 128]⟩
abbrev S1x32x16x64 : Shape := ⟨4, ![1, 32, 16, 64]⟩
abbrev S8192x4096 : Shape := ⟨2, ![8192, 4096]⟩
abbrev S512x4096 : Shape := ⟨2, ![512, 4096]⟩
abbrev S8704x4096 : Shape := ⟨2, ![8704, 4096]⟩
abbrev S8192x25600 : Shape := ⟨2, ![8192, 25600]⟩
abbrev S512x25600 : Shape := ⟨2, ![512, 25600]⟩
abbrev S8704x25600 : Shape := ⟨2, ![8704, 25600]⟩
abbrev S8192x256 : Shape := ⟨2, ![8192, 256]⟩
abbrev S512x256 : Shape := ⟨2, ![512, 256]⟩
abbrev S8704x256 : Shape := ⟨2, ![8704, 256]⟩

abbrev nBuf : Space → Nat
  | .hbm => 157
  | .vmem => 0
  | .smem => 0
  | _ => 0

abbrev hbmTy0_0 (i : Nat) : BufTy := match i % 128 with
  | 0 => ⟨S2x4096x4096, .f32⟩
  | 1 => ⟨S32x16x4096, .f32⟩
  | 2 => ⟨S4096x11008, .f32⟩
  | 3 => ⟨S4096x11008, .f32⟩
  | 4 => ⟨S11008x4096, .f32⟩
  | 5 => ⟨S4096, .f32⟩
  | 6 => ⟨S4096, .f32⟩
  | 7 => ⟨S4096x25744, .f32⟩
  | 8 => ⟨S_, .f32⟩
  | 9 => ⟨S2x4096x4096, .f32⟩
  | 10 => ⟨S2x4096x4096, .f32⟩
  | 11 => ⟨S2x4096x11008, .f32⟩
  | 12 => ⟨S2x4096x11008, .f32⟩
  | 13 => ⟨S2x4096x11008, .f32⟩
  | 14 => ⟨S_, .f32⟩
  | 15 => ⟨S2x4096x11008, .f32⟩
  | 16 => ⟨S2x4096x11008, .f32⟩
  | 17 => ⟨S_, .f32⟩
  | 18 => ⟨S2x4096x11008, .f32⟩
  | 19 => ⟨S2x4096x11008, .f32⟩
  | 20 => ⟨S2x4096x11008, .f32⟩
  | 21 => ⟨S2x4096x11008, .f32⟩
  | 22 => ⟨S2x4096x11008, .f32⟩
  | 23 => ⟨S2x4096x4096, .f32⟩
  | 24 => ⟨S_, .f32⟩
  | 25 => ⟨S2x4096x4096, .f32⟩
  | 26 => ⟨S2x4096x4096, .f32⟩
  | 27 => ⟨S2x4096x4096, .f32⟩
  | 28 => ⟨S_, .f32⟩
  | 29 => ⟨S2x4096, .f32⟩
  | 30 => ⟨S2x4096x1, .f32⟩
  | 31 => ⟨S_, .f32⟩
  | 32 => ⟨S2x4096x1, .f32⟩
  | 33 => ⟨S2x4096x1, .f32⟩
  | 34 => ⟨S2x4096x4096, .f32⟩
  | 35 => ⟨S2x4096x4096, .f32⟩
  | 36 => ⟨S2x4096x4096, .f32⟩
  | 37 => ⟨S_, .f32⟩
  | 38 => ⟨S2x4096, .f32⟩
  | 39 => ⟨S2x4096x1, .f32⟩
  | 40 => ⟨S_, .f32⟩
  | 41 => ⟨S2x4096x1, .f32⟩
  | 42 => ⟨S2x4096x1, .f32⟩
  | 43 => ⟨S2x4096x4096, .f32⟩
  | 44 => ⟨S2x4096x4096, .f32⟩
  | 45 => ⟨S_, .f32⟩
  | 46 => ⟨S2x4096x1, .f32⟩
  | 47 => ⟨S2x4096x1, .f32⟩
  | 48 => ⟨S2x4096x1, .f32⟩
  | 49 => ⟨S2x4096x4096, .f32⟩
  | 50 => ⟨S2x4096x4096, .f32⟩
  | 51 => ⟨S1x1x4096, .f32⟩
  | 52 => ⟨S2x4096x4096, .f32⟩
  | 53 => ⟨S2x4096x4096, .f32⟩
  | 54 => ⟨S1x1x4096, .f32⟩
  | 55 => ⟨S2x4096x4096, .f32⟩
  | 56 => ⟨S2x4096x4096, .f32⟩
  | 57 => ⟨S2x4096x25744, .f32⟩
  | 58 => ⟨S2x4096x4096, .f32⟩
  | 59 => ⟨S2x4096x6144, .f32⟩
  | 60 => ⟨S2x4096x64, .f32⟩
  | 61 => ⟨S2x4096x4096, .f32⟩
  | 62 => ⟨S2x4096x1024, .f32⟩
  | 63 => ⟨S2x4096x1024, .f32⟩
  | 64 => ⟨S2x4096x1024, .f32⟩
  | 65 => ⟨S2x4096x16, .f32⟩
  | 66 => ⟨S2x4096x64, .f32⟩
  | 67 => ⟨S2x4096x4096, .f32⟩
  | 68 => ⟨S2x4096x4096, .f32⟩
  | 69 => ⟨S2x4096x4096, .f32⟩
  | 70 => ⟨S2x4096x2048, .f32⟩
  | 71 => ⟨S2x4096x25600, .f32⟩
  | 72 => ⟨S_, .f32⟩
  | 73 => ⟨S2x4096x112, .f32⟩
  | 74 => ⟨S2x4096x256, .f32⟩
  | 75 => ⟨S1x2x4096x8x128, .f32⟩
  | 76 => ⟨S1x2x4096x8x128, .f32⟩
  | 77 => ⟨S1x2x4096x64, .f32⟩
  | 78 => ⟨S_, .f32⟩
  | 79 => ⟨S32x16x4096, .f32⟩
  | 80 => ⟨S32x16x4096, .f32⟩
  | 81 => ⟨S32x16x11008, .f32⟩
  | 82 => ⟨S32x16x11008, .f32⟩
  | 83 => ⟨S32x16x11008, .f32⟩
  | 84 => ⟨S_, .f32⟩
  | 85 => ⟨S32x16x11008, .f32⟩
  | 86 => ⟨S32x16x11008, .f32⟩
  | 87 => ⟨S_, .f32⟩
  | 88 => ⟨S32x16x11008, .f32⟩
  | 89 => ⟨S32x16x11008, .f32⟩
  | 90 => ⟨S32x16x11008, .f32⟩
  | 91 => ⟨S32x16x11008, .f32⟩
  | 92 => ⟨S32x16x11008, .f32⟩
  | 93 => ⟨S32x16x4096, .f32⟩
  | 94 => ⟨S_, .f32⟩
  | 95 => ⟨S32x16x4096, .f32⟩
  | 96 => ⟨S32x16x4096, .f32⟩
  | 97 => ⟨S32x16x4096, .f32⟩
  | 98 => ⟨S_, .f32⟩
  | 99 => ⟨S32x16, .f32⟩
  | 100 => ⟨S32x16x1, .f32⟩
  | 101 => ⟨S_, .f32⟩
  | 102 => ⟨S32x16x1, .f32⟩
  | 103 => ⟨S32x16x1, .f32⟩
  | 104 => ⟨S32x16x4096, .f32⟩
  | 105 => ⟨S32x16x4096, .f32⟩
  | 106 => ⟨S32x16x4096, .f32⟩
  | 107 => ⟨S_, .f32⟩
  | 108 => ⟨S32x16, .f32⟩
  | 109 => ⟨S32x16x1, .f32⟩
  | 110 => ⟨S_, .f32⟩
  | 111 => ⟨S32x16x1, .f32⟩
  | 112 => ⟨S32x16x1, .f32⟩
  | 113 => ⟨S32x16x4096, .f32⟩
  | 114 => ⟨S32x16x4096, .f32⟩
  | 115 => ⟨S_, .f32⟩
  | 116 => ⟨S32x16x1, .f32⟩
  | 117 => ⟨S32x16x1, .f32⟩
  | 118 => ⟨S32x16x1, .f32⟩
  | 119 => ⟨S32x16x4096, .f32⟩
  | 120 => ⟨S32x16x4096, .f32⟩
  | 121 => ⟨S1x1x4096, .f32⟩
  | 122 => ⟨S32x16x4096, .f32⟩
  | 123 => ⟨S32x16x4096, .f32⟩
  | 124 => ⟨S1x1x4096, .f32⟩
  | 125 => ⟨S32x16x4096, .f32⟩
  | 126 => ⟨S32x16x4096, .f32⟩
  | 127 => ⟨S32x16x25744, .f32⟩
  | _ => ⟨S2x4096x4096, .f32⟩

abbrev hbmTy0_1 (i : Nat) : BufTy := match i % 128 with
  | 0 => ⟨S32x16x4096, .f32⟩
  | 1 => ⟨S32x16x6144, .f32⟩
  | 2 => ⟨S32x16x64, .f32⟩
  | 3 => ⟨S32x16x4096, .f32⟩
  | 4 => ⟨S32x16x1024, .f32⟩
  | 5 => ⟨S32x16x1024, .f32⟩
  | 6 => ⟨S32x16x1024, .f32⟩
  | 7 => ⟨S32x16x16, .f32⟩
  | 8 => ⟨S32x16x64, .f32⟩
  | 9 => ⟨S32x16x4096, .f32⟩
  | 10 => ⟨S32x16x4096, .f32⟩
  | 11 => ⟨S32x16x4096, .f32⟩
  | 12 => ⟨S32x16x2048, .f32⟩
  | 13 => ⟨S32x16x25600, .f32⟩
  | 14 => ⟨S_, .f32⟩
  | 15 => ⟨S32x16x112, .f32⟩
  | 16 => ⟨S32x16x256, .f32⟩
  | 17 => ⟨S1x32x16x8x128, .f32⟩
  | 18 => ⟨S1x32x16x8x128, .f32⟩
  | 19 => ⟨S1x32x16x64, .f32⟩
  | 20 => ⟨S8192x4096, .f32⟩
  | 21 => ⟨S512x4096, .f32⟩
  | 22 => ⟨S8704x4096, .f32⟩
  | 23 => ⟨S8192x25600, .f32⟩
  | 24 => ⟨S512x25600, .f32⟩
  | 25 => ⟨S8704x25600, .f32⟩
  | 26 => ⟨S8192x256, .f32⟩
  | 27 => ⟨S512x256, .f32⟩
  | 28 => ⟨S8704x256, .f32⟩
  | _ => ⟨S2x4096x4096, .f32⟩

abbrev hbmTy (i : Nat) : BufTy := match i / 128 with
  | 0 => hbmTy0_0 i
  | 1 => hbmTy0_1 i
  | _ => ⟨S2x4096x4096, .f32⟩

abbrev bufTy : (tb : Table) → Fin (tcTables nBuf tb) → BufTy
  | .hbm, ⟨i, _⟩ => hbmTy i
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_8 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_9 : Ref sig .tc := ⟨.hbm, 98, rfl⟩
abbrev main_v64 : Ref sig .tc := ⟨.hbm, 99, rfl⟩
abbrev main_v65 : Ref sig .tc := ⟨.hbm, 100, rfl⟩
abbrev main_cst_10 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_11 : Ref sig .tc := ⟨.hbm, 107, rfl⟩
abbrev main_v71 : Ref sig .tc := ⟨.hbm, 108, rfl⟩
abbrev main_v72 : Ref sig .tc := ⟨.hbm, 109, rfl⟩
abbrev main_cst_12 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_13 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_14 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩

abbrev nD : Nat := 1
abbrev τ : Topo := Topo.v7x

variable {F : FTy → Type} [FloatOps F]
-- ==== Kernel3.lean ====
abbrev S8704x4096 : Shape := ⟨2, ![8704, 4096]⟩
abbrev S8704x25600 : Shape := ⟨2, ![8704, 25600]⟩
abbrev S2x256x4096 : Shape := ⟨3, ![2, 256, 4096]⟩
abbrev S32x256x4x1024 : Shape := ⟨4, ![32, 256, 4, 1024]⟩
abbrev S4096x4096 : Shape := ⟨2, ![4096, 4096]⟩
abbrev S4096 : Shape := ⟨1, ![4096]⟩
abbrev S4096x11008 : Shape := ⟨2, ![4096, 11008]⟩
abbrev S11008x4096 : Shape := ⟨2, ![11008, 4096]⟩
abbrev S544x4096 : Shape := ⟨2, ![544, 4096]⟩
abbrev S4096x512 : Shape := ⟨2, ![4096, 512]⟩
abbrev S544x512 : Shape := ⟨2, ![544, 512]⟩
abbrev S1088x4096 : Shape := ⟨2, ![1088, 4096]⟩
abbrev S1088x512 : Shape := ⟨2, ![1088, 512]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S512x512 : Shape := ⟨2, ![512, 512]⟩
abbrev S8192x4096 : Shape := ⟨2, ![8192, 4096]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S16x4096 : Shape := ⟨2, ![16, 4096]⟩
abbrev S16x1024 : Shape := ⟨2, ![16, 1024]⟩
abbrev S16x256 : Shape := ⟨2, ![16, 256]⟩
abbrev S16 : Shape := ⟨1, ![16]⟩
abbrev S16x1 : Shape := ⟨2, ![16, 1]⟩
abbrev S8704x11008 : Shape := ⟨2, ![8704, 11008]⟩
abbrev S4096x256 : Shape := ⟨2, ![4096, 256]⟩
abbrev S1088x256 : Shape := ⟨2, ![1088, 256]⟩
abbrev S544x11008 : Shape := ⟨2, ![544, 11008]⟩
abbrev S11008x256 : Shape := ⟨2, ![11008, 256]⟩
abbrev S544x256 : Shape := ⟨2, ![544, 256]⟩
abbrev S2x4096x4096 : Shape := ⟨3, ![2, 4096, 4096]⟩
abbrev S32x16x4096 : Shape := ⟨3, ![32, 16, 4096]⟩
abbrev S1x2x256x4x1024 : Shape := ⟨5, ![1, 2, 256, 4, 1024]⟩

abbrev nBuf : Space → Nat
  | .hbm => 66
  | .vmem => 102
  | .smem => 0
  | _ => 0

abbrev bufTy : (tb : Table) → Fin (tcTables nBuf tb) → BufTy
  | .hbm, ⟨0, _⟩ => ⟨S8704x4096, .f32⟩
  | .hbm, ⟨1, _⟩ => ⟨S8704x25600, .f32⟩
  | .hbm, ⟨2, _⟩ => ⟨S8704x4096, .bf16⟩
  | .hbm, ⟨3, _⟩ => ⟨S8704x4096, .bf16⟩
  | .hbm, ⟨4, _⟩ => ⟨S2x256x4096, .f32⟩
  | .hbm, ⟨5, _⟩ => ⟨S32x256x4x1024, .f32⟩
  | .hbm, ⟨6, _⟩ => ⟨S32x256x4x1024, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096, .f32⟩
  | .hbm, ⟨17, _⟩ => ⟨S4096, .f32⟩
  | .hbm, ⟨18, _⟩ => ⟨S4096x11008, .f32⟩
  | .hbm, ⟨19, _⟩ => ⟨S4096x11008, .f32⟩
  | .hbm, ⟨20, _⟩ => ⟨S11008x4096, .f32⟩
  | .hbm, ⟨21, _⟩ => ⟨S4096, .f32⟩
  | .hbm, ⟨22, _⟩ => ⟨S4096, .f32⟩
  | .hbm, ⟨23, _⟩ => ⟨S4096x4096, .bf16⟩
  | .hbm, ⟨24, _⟩ => ⟨S4096x4096, .bf16⟩
  | .hbm, ⟨25, _⟩ => ⟨S8704x4096, .bf16⟩
  | .hbm, ⟨26, _⟩ => ⟨S4096x4096, .bf16⟩
  | .hbm, ⟨27, _⟩ => ⟨S8704x4096, .f32⟩
  | .hbm, ⟨28, _⟩ => ⟨S1x4096, .f32⟩
  | .hbm, ⟨29, _⟩ => ⟨S1x4096, .f32⟩
  | .hbm, ⟨30, _⟩ => ⟨S8704x4096, .f32⟩
  | .hbm, ⟨31, _⟩ => ⟨S8704x4096, .bf16⟩
  | .hbm, ⟨32, _⟩ => ⟨S512x4096, .f32⟩
  | .hbm, ⟨33, _⟩ => ⟨S512x4096, .bf16⟩
  | .hbm, ⟨34, _⟩ => ⟨S4096x4096, .bf16⟩
  | .hbm, ⟨35, _⟩ => ⟨S512x4096, .f32⟩
  | .hbm, ⟨36, _⟩ => ⟨S4096x4096, .bf16⟩
  | .hbm, ⟨37, _⟩ => ⟨S512x4096, .f32⟩
  | .hbm, ⟨38, _⟩ => ⟨S4096x4096, .bf16⟩
  | .hbm, ⟨39, _⟩ => ⟨S8704x4096, .bf16⟩
  | .hbm, ⟨40, _⟩ => ⟨S8192x4096, .bf16⟩
  | .hbm, ⟨41, _⟩ => ⟨S8192x4096, .f32⟩
  | .hbm, ⟨42, _⟩ => ⟨S8192x4096, .f32⟩
  | .hbm, ⟨43, _⟩ => ⟨S512x4096, .bf16⟩
  | .hbm, ⟨44, _⟩ => ⟨S8704x4096, .bf16⟩
  | .hbm, ⟨45, _⟩ => ⟨S4096x4096, .bf16⟩
  | .hbm, ⟨46, _⟩ => ⟨S8704x4096, .f32⟩
  | .hbm, ⟨47, _⟩ => ⟨S1x4096, .f32⟩
  | .hbm, ⟨48, _⟩ => ⟨S1x4096, .f32⟩
  | .hbm, ⟨49, _⟩ => ⟨S8704x4096, .f32⟩
  | .hbm, ⟨50, _⟩ => ⟨S8704x4096, .bf16⟩
  | .hbm, ⟨51, _⟩ => ⟨S4096x11008, .bf16⟩
  | .hbm, ⟨52, _⟩ => ⟨S4096x11008, .bf16⟩
  | .hbm, ⟨53, _⟩ => ⟨S8704x11008, .bf16⟩
  | .hbm, ⟨54, _⟩ => ⟨S11008x4096, .bf16⟩
  | .hbm, ⟨55, _⟩ => ⟨S8704x4096, .f32⟩
  | .hbm, ⟨56, _⟩ => ⟨S1x4096, .f32⟩
  | .hbm, ⟨57, _⟩ => ⟨S1x4096, .f32⟩
  | .hbm, ⟨58, _⟩ => ⟨S8704x4096, .f32⟩
  | .hbm, ⟨59, _⟩ => ⟨S8704x4096, .bf16⟩
  | .hbm, ⟨60, _⟩ => ⟨S8192x4096, .f32⟩
  | .hbm, ⟨61, _⟩ => ⟨S2x4096x4096, .f32⟩
  | .hbm, ⟨62, _⟩ => ⟨S512x4096, .f32⟩
  | .hbm, ⟨63, _⟩ => ⟨S32x16x4096, .f32⟩
  | .hbm, ⟨64, _⟩ => ⟨S1x2x256x4x1024, .f32⟩
  | .hbm, ⟨65, _⟩ => ⟨S1x2x256x4x1024, .f32⟩
  | .local _ .vmem, ⟨0, _⟩ => ⟨S544x4096, .bf16⟩
  | .local _ .vmem, ⟨1, _⟩ => ⟨S544x4096, .bf16⟩
  | .local _ .vmem, ⟨2, _⟩ => ⟨S544x4096, .bf16⟩
  | .local _ .vmem, ⟨3, _⟩ => ⟨S544x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x512, .bf16⟩
  | .local _ .vmem, ⟨13, _⟩ => ⟨S544x512, .bf16⟩
  | .local _ .vmem, ⟨14, _⟩ => ⟨S1088x4096, .bf16⟩
  | .local _ .vmem, ⟨15, _⟩ => ⟨S1088x4096, .bf16⟩
  | .local _ .vmem, ⟨16, _⟩ => ⟨S4096x512, .bf16⟩
  | .local _ .vmem, ⟨17, _⟩ => ⟨S4096x512, .bf16⟩
  | .local _ .vmem, ⟨18, _⟩ => ⟨S1088x512, .f32⟩
  | .local _ .vmem, ⟨19, _⟩ => ⟨S1088x512, .f32⟩
  | .local _ .vmem, ⟨20, _⟩ => ⟨S256x4096, .f32⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .vmem, ⟨24, _⟩ => ⟨S1x4096, .f32⟩
  | .local _ .vmem, ⟨25, _⟩ => ⟨S1x4096, .f32⟩
  | .local _ .vmem, ⟨26, _⟩ => ⟨S256x4096, .f32⟩
  | .local _ .vmem, ⟨27, _⟩ => ⟨S256x4096, .f32⟩
  | .local _ .vmem, ⟨28, _⟩ => ⟨S256x4096, .bf16⟩
  | .local _ .vmem, ⟨29, _⟩ => ⟨S256x4096, .bf16⟩
  | .local _ .vmem, ⟨30, _⟩ => ⟨S512x4096, .bf16⟩
  | .local _ .vmem, ⟨31, _⟩ => ⟨S4096x512, .bf16⟩
  | .local _ .vmem, ⟨32, _⟩ => ⟨S4096x512, .bf16⟩
  | .local _ .vmem, ⟨33, _⟩ => ⟨S512x512, .f32⟩
  | .local _ .vmem, ⟨34, _⟩ => ⟨S512x512, .f32⟩
  | .local _ .vmem, ⟨35, _⟩ => ⟨S512x4096, .bf16⟩
  | .local _ .vmem, ⟨36, _⟩ => ⟨S4096x512, .bf16⟩
  | .local _ .vmem, ⟨37, _⟩ => ⟨S4096x512, .bf16⟩
  | .local _ .vmem, ⟨38, _⟩ => ⟨S512x512, .f32⟩
  | .local _ .vmem, ⟨39, _⟩ => ⟨S512x512, .f32⟩
  | .local _ .vmem, ⟨40, _⟩ => ⟨S1088x4096, .bf16⟩
  | .local _ .vmem, ⟨41, _⟩ => ⟨S1088x4096, .bf16⟩
  | .local _ .vmem, ⟨42, _⟩ => ⟨S4096x512, .bf16⟩
  | .local _ .vmem, ⟨43, _⟩ => ⟨S4096x512, .bf16⟩
  | .local _ .vmem, ⟨44, _⟩ => ⟨S1088x512, .bf16⟩
  | .local _ .vmem, ⟨45, _⟩ => ⟨S1088x512, .bf16⟩
  | .local _ .vmem, ⟨46, _⟩ => ⟨S512x4096, .bf16⟩
  | .local _ .vmem, ⟨47, _⟩ => ⟨S512x4096, .bf16⟩
  | .local _ .vmem, ⟨48, _⟩ => ⟨S256x4096, .f32⟩
  | .local _ .vmem, ⟨49, _⟩ => ⟨S256x4096, .f32⟩
  | .local _ .vmem, ⟨50, _⟩ => ⟨S256x4096, .f32⟩
  | .local _ .vmem, ⟨51, _⟩ => ⟨S256x4096, .f32⟩
  | .local _ .vmem, ⟨52, _⟩ => ⟨S512x4096, .bf16⟩
  | .local _ .vmem, ⟨53, _⟩ => ⟨S512x4096, .bf16⟩
  | .local _ .vmem, ⟨54, _⟩ => ⟨S16x4096, .bf16⟩
  | .local _ .vmem, ⟨55, _⟩ => ⟨S16x4096, .bf16⟩
  | .local _ .vmem, ⟨56, _⟩ => ⟨S256x4096, .f32⟩
  | .local _ .vmem, ⟨57, _⟩ => ⟨S256x4096, .f32⟩
  | .local _ .vmem, ⟨58, _⟩ => ⟨S256x4096, .f32⟩
  | .local _ .vmem, ⟨59, _⟩ => ⟨S256x4096, .f32⟩
  | .local _ .vmem, ⟨60, _⟩ => ⟨S16x4096, .bf16⟩
  | .local _ .vmem, ⟨61, _⟩ => ⟨S16x4096, .bf16⟩
  | .local _ .vmem, ⟨62, _⟩ => ⟨S1088x4096, .bf16⟩
  | .local _ .vmem, ⟨63, _⟩ => ⟨S1088x4096, .bf16⟩
  | .local _ .vmem, ⟨64, _⟩ => ⟨S4096x512, .bf16⟩
  | .local _ .vmem, ⟨65, _⟩ => ⟨S4096x512, .bf16⟩
  | .local _ .vmem, ⟨66, _⟩ => ⟨S1088x512, .f32⟩
  | .local _ .vmem, ⟨67, _⟩ => ⟨S1088x512, .f32⟩
  | .local _ .vmem, ⟨68, _⟩ => ⟨S256x4096, .f32⟩
  | .local _ .vmem, ⟨69, _⟩ => ⟨S256x4096, .f32⟩
  | .local _ .vmem, ⟨70, _⟩ => ⟨S256x4096, .f32⟩
  | .local _ .vmem, ⟨71, _⟩ => ⟨S256x4096, .f32⟩
  | .local _ .vmem, ⟨72, _⟩ => ⟨S1x4096, .f32⟩
  | .local _ .vmem, ⟨73, _⟩ => ⟨S1x4096, .f32⟩
  | .local _ .vmem, ⟨74, _⟩ => ⟨S256x4096, .f32⟩
  | .local _ .vmem, ⟨75, _⟩ => ⟨S256x4096, .f32⟩
  | .local _ .vmem, ⟨76, _⟩ => ⟨S256x4096, .bf16⟩
  | .local _ .vmem, ⟨77, _⟩ => ⟨S256x4096, .bf16⟩
  | .local _ .vmem, ⟨78, _⟩ => ⟨S1088x4096, .bf16⟩
  | .local _ .vmem, ⟨79, _⟩ => ⟨S1088x4096, .bf16⟩
  | .local _ .vmem, ⟨80, _⟩ => ⟨S4096x256, .bf16⟩
  | .local _ .vmem, ⟨81, _⟩ => ⟨S4096x256, .bf16⟩
  | .local _ .vmem, ⟨82, _⟩ => ⟨S4096x256, .bf16⟩
  | .local _ .vmem, ⟨83, _⟩ => ⟨S4096x256, .bf16⟩
  | .local _ .vmem, ⟨84, _⟩ => ⟨S1088x256, .bf16⟩
  | .local _ .vmem, ⟨85, _⟩ => ⟨S1088x256, .bf16⟩
  | .local _ .vmem, ⟨86, _⟩ => ⟨S544x11008, .bf16⟩
  | .local _ .vmem, ⟨87, _⟩ => ⟨S544x11008, .bf16⟩
  | .local _ .vmem, ⟨88, _⟩ => ⟨S11008x256, .bf16⟩
  | .local _ .vmem, ⟨89, _⟩ => ⟨S11008x256, .bf16⟩
  | .local _ .vmem, ⟨90, _⟩ => ⟨S544x256, .f32⟩
  | .local _ .vmem, ⟨91, _⟩ => ⟨S544x256, .f32⟩
  | .local _ .vmem, ⟨92, _⟩ => ⟨S256x4096, .f32⟩
  | .local _ .vmem, ⟨93, _⟩ => ⟨S256x4096, .f32⟩
  | .local _ .vmem, ⟨94, _⟩ => ⟨S256x4096, .f32⟩
  | .local _ .vmem, ⟨95, _⟩ => ⟨S256x4096, .f32⟩
  | .local _ .vmem, ⟨96, _⟩ => ⟨S1x4096, .f32⟩
  | .local _ .vmem, ⟨97, _⟩ => ⟨S1x4096, .f32⟩
  | .local _ .vmem, ⟨98, _⟩ => ⟨S256x4096, .f32⟩
  | .local _ .vmem, ⟨99, _⟩ => ⟨S256x4096, .f32⟩
  | .local _ .vmem, ⟨100, _⟩ => ⟨S256x4096, .bf16⟩
  | .local _ .vmem, ⟨101, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7_0 : Ref sig .tc := ⟨.hbm, 30, rfl⟩
abbrev main_v7_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33_0 : Ref sig .tc := ⟨.hbm, 58, rfl⟩
abbrev main_v33_1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg3_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg1_1 : Ref sig .tc := ⟨.vmem, 71, rfl⟩
abbrev cc9_stg2_0 : Ref sig .tc := ⟨.vmem, 72, rfl⟩
abbrev cc9_stg3_0 : Ref sig .tc := ⟨.vmem, 73, rfl⟩
abbrev cc9_stg4_0 : Ref sig .tc := ⟨.vmem, 74, rfl⟩
abbrev cc9_stg4_1 : Ref sig .tc := ⟨.vmem, 75, rfl⟩
abbrev cc9_stg5_0 : Ref sig .tc := ⟨.vmem, 76, rfl⟩
abbrev cc9_stg5_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg2_1 : Ref sig .tc := ⟨.vmem, 83, rfl⟩
abbrev cc10_stg3_0 : Ref sig .tc := ⟨.vmem, 84, rfl⟩
abbrev cc10_stg3_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg1_1 : Ref sig .tc := ⟨.vmem, 89, rfl⟩
abbrev cc11_stg2_0 : Ref sig .tc := ⟨.vmem, 90, rfl⟩
abbrev cc11_stg2_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg3_0 : Ref sig .tc := ⟨.vmem, 97, rfl⟩
abbrev cc12_stg4_0 : Ref sig .tc := ⟨.vmem, 98, rfl⟩
abbrev cc12_stg4_1 : Ref sig .tc := ⟨.vmem, 99, rfl⟩
abbrev cc12_stg5_0 : Ref sig .tc := ⟨.vmem, 100, rfl⟩
abbrev cc12_stg5_1 : Ref sig .tc := ⟨.vmem, 101, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem1_0 : DmaSem sig := 31
abbrev cc3_sem1_1 : DmaSem sig := 32
abbrev cc3_sem2_0 : DmaSem sig := 33
abbrev cc3_sem2_1 : DmaSem sig := 34
abbrev cc4_sem0_0 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem3_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem2_1 : DmaSem sig := 67
abbrev cc9_sem0_0 : DmaSem sig := 68
abbrev cc9_sem0_1 : DmaSem sig := 69
abbrev cc9_sem1_0 : DmaSem sig := 70
abbrev cc9_sem1_1 : DmaSem sig := 71
abbrev cc9_sem2_0 : DmaSem sig := 72
abbrev cc9_sem3_0 : DmaSem sig := 73
abbrev cc9_sem4_0 : DmaSem sig := 74
abbrev cc9_sem4_1 : DmaSem sig := 75
abbrev cc9_sem5_0 : DmaSem sig := 76
abbrev cc9_sem5_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem2_1 : DmaSem sig := 83
abbrev cc10_sem3_0 : DmaSem sig := 84
abbrev cc10_sem3_1 : DmaSem sig := 85
abbrev cc11_sem0_0 : DmaSem sig := 86
abbrev cc11_sem0_1 : DmaSem sig := 87
abbrev cc11_sem1_0 : DmaSem sig := 88
abbrev cc11_sem1_1 : DmaSem sig := 89
abbrev cc11_sem2_0 : DmaSem sig := 90
abbrev cc11_sem2_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem3_0 : DmaSem sig := 97
abbrev cc12_sem4_0 : DmaSem sig := 98
abbrev cc12_sem4_1 : DmaSem sig := 99
abbrev cc12_sem5_0 : DmaSem sig := 100
abbrev cc12_sem5_1 : DmaSem sig := 101

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1088x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1088x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S512x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S512x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1088x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1088x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 8], ![false, false]⟩

def cc6_transform_0 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S256x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S256x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S512x4096 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![32, 1], ![false, false]⟩

def cc7_transform_0 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage7_0 : Fin 2 → Memref sig .tc .vmem S16x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S256x4096 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S256x4096 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S16x4096 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![8, 8], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1088x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1088x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![34], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x4096 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S256x4096 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x4096 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x4096 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S256x4096 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S256x4096 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨2, ![8, 43], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1088x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4096x256 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S4096x256 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S1088x256 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨2, ![16, 16], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S544x11008 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S11008x256 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S544x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨1, ![34], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S256x4096 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S256x4096 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x4096 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x4096 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S256x4096 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S256x4096 .bf16 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]
-- ==== Reference3Ideal.lean ====
abbrev S8704x4096 : Shape := ⟨2, ![8704, 4096]⟩
abbrev S8704x25600 : Shape := ⟨2, ![8704, 25600]⟩
abbrev S2x256x4096 : Shape := ⟨3, ![2, 256, 4096]⟩
abbrev S32x256x4x1024 : Shape := ⟨4, ![32, 256, 4, 1024]⟩
abbrev S4096x4096 : Shape := ⟨2, ![4096, 4096]⟩
abbrev S4096 : Shape := ⟨1, ![4096]⟩
abbrev S4096x11008 : Shape := ⟨2, ![4096, 11008]⟩
abbrev S11008x4096 : Shape := ⟨2, ![11008, 4096]⟩
abbrev S2x256x4x1024 : Shape := ⟨4, ![2, 256, 4, 1024]⟩
abbrev S8192x4096 : Shape := ⟨2, ![8192, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x4x1024 : Shape := ⟨4, ![2, 4096, 4, 1024]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x1024x4096 : Shape := ⟨4, ![2, 4, 1024, 4096]⟩
abbrev S2x4096x11008 : Shape := ⟨3, ![2, 4096, 11008]⟩
abbrev S512x4096 : Shape := ⟨2, ![512, 4096]⟩
abbrev S32x16x4096 : Shape := ⟨3, ![32, 16, 4096]⟩
abbrev S32x16 : Shape := ⟨2, ![32, 16]⟩
abbrev S32x16x1 : Shape := ⟨3, ![32, 16, 1]⟩
abbrev S32x16x4x1024 : Shape := ⟨4, ![32, 16, 4, 1024]⟩
abbrev S32x4x16x256 : Shape := ⟨4, ![32, 4, 16, 256]⟩
abbrev S32x4x16 : Shape := ⟨3, ![32, 4, 16]⟩
abbrev S32x4x16x1 : Shape := ⟨4, ![32, 4, 16, 1]⟩
abbrev S32x4x1024x16 : Shape := ⟨4, ![32, 4, 1024, 16]⟩
abbrev S32x16x11008 : Shape := ⟨3, ![32, 16, 11008]⟩
abbrev S1x2x256x4x1024 : Shape := ⟨5, ![1, 2, 256, 4, 1024]⟩

abbrev nBuf : Space → Nat
  | .hbm => 375
  | .vmem => 0
  | .smem => 0
  | _ => 0

abbrev hbmTy0_0 (i : Nat) : BufTy := match i % 128 with
  | 0 => ⟨S8704x4096, .f32⟩
  | 1 => ⟨S8704x25600, .f32⟩
  | 2 => ⟨S8704x4096, .bf16⟩
  | 3 => ⟨S8704x4096, .bf16⟩
  | 4 => ⟨S2x256x4096, .f32⟩
  | 5 => ⟨S32x256x4x1024, .f32⟩
  | 6 => ⟨S32x256x4x1024, .f32⟩
  | 7 => ⟨S4096x4096, .f32⟩
  | 8 => ⟨S4096x4096, .f32⟩
  | 9 => ⟨S4096x4096, .f32⟩
  | 10 => ⟨S4096, .f32⟩
  | 11 => ⟨S4096, .f32⟩
  | 12 => ⟨S4096x4096, .f32⟩
  | 13 => ⟨S4096x4096, .f32⟩
  | 14 => ⟨S4096x4096, .f32⟩
  | 15 => ⟨S4096x4096, .f32⟩
  | 16 => ⟨S4096, .f32⟩
  | 17 => ⟨S4096, .f32⟩
  | 18 => ⟨S4096x11008, .f32⟩
  | 19 => ⟨S4096x11008, .f32⟩
  | 20 => ⟨S11008x4096, .f32⟩
  | 21 => ⟨S4096, .f32⟩
  | 22 => ⟨S4096, .f32⟩
  | 23 => ⟨S2x256x4096, .f32⟩
  | 24 => ⟨S2x256x4x1024, .f32⟩
  | 25 => ⟨S2x256x4096, .f32⟩
  | 26 => ⟨S2x256x4x1024, .f32⟩
  | 27 => ⟨S8704x4096, .f32⟩
  | 28 => ⟨S8704x4096, .f32⟩
  | 29 => ⟨S8704x4096, .f32⟩
  | 30 => ⟨S8704x4096, .f32⟩
  | 31 => ⟨S8192x4096, .f32⟩
  | 32 => ⟨S2x4096x4096, .f32⟩
  | 33 => ⟨S8192x4096, .f32⟩
  | 34 => ⟨S2x4096x4096, .f32⟩
  | 35 => ⟨S8192x4096, .f32⟩
  | 36 => ⟨S2x4096x4096, .f32⟩
  | 37 => ⟨S8192x4096, .f32⟩
  | 38 => ⟨S2x4096x4096, .f32⟩
  | 39 => ⟨S8192x4096, .f32⟩
  | 40 => ⟨S2x4096x4096, .f32⟩
  | 41 => ⟨S2x4096x4096, .f32⟩
  | 42 => ⟨S2x4096x4096, .f32⟩
  | 43 => ⟨S_, .f32⟩
  | 44 => ⟨S2x4096x4096, .f32⟩
  | 45 => ⟨S2x4096x4096, .f32⟩
  | 46 => ⟨S_, .f32⟩
  | 47 => ⟨S2x4096x4096, .f32⟩
  | 48 => ⟨S2x4096x4096, .f32⟩
  | 49 => ⟨S2x4096x4096, .f32⟩
  | 50 => ⟨S2x4096x4096, .f32⟩
  | 51 => ⟨S2x4096x4096, .f32⟩
  | 52 => ⟨S2x4096x4096, .f32⟩
  | 53 => ⟨S_, .f32⟩
  | 54 => ⟨S2x4096x4096, .f32⟩
  | 55 => ⟨S2x4096x4096, .f32⟩
  | 56 => ⟨S_, .f32⟩
  | 57 => ⟨S2x4096x4096, .f32⟩
  | 58 => ⟨S2x4096x4096, .f32⟩
  | 59 => ⟨S2x4096x4096, .f32⟩
  | 60 => ⟨S2x4096x4096, .f32⟩
  | 61 => ⟨S2x4096x4096, .f32⟩
  | 62 => ⟨S_, .f32⟩
  | 63 => ⟨S2x4096x4096, .f32⟩
  | 64 => ⟨S2x4096x4096, .f32⟩
  | 65 => ⟨S2x4096x4096, .f32⟩
  | 66 => ⟨S2x4096x4096, .f32⟩
  | 67 => ⟨S_, .f32⟩
  | 68 => ⟨S2x4096, .f32⟩
  | 69 => ⟨S2x4096x1, .f32⟩
  | 70 => ⟨S_, .f32⟩
  | 71 => ⟨S2x4096x1, .f32⟩
  | 72 => ⟨S2x4096x1, .f32⟩
  | 73 => ⟨S2x4096x4096, .f32⟩
  | 74 => ⟨S2x4096x4096, .f32⟩
  | 75 => ⟨S2x4096x4096, .f32⟩
  | 76 => ⟨S_, .f32⟩
  | 77 => ⟨S2x4096, .f32⟩
  | 78 => ⟨S2x4096x1, .f32⟩
  | 79 => ⟨S_, .f32⟩
  | 80 => ⟨S2x4096x1, .f32⟩
  | 81 => ⟨S2x4096x1, .f32⟩
  | 82 => ⟨S2x4096x4096, .f32⟩
  | 83 => ⟨S2x4096x4096, .f32⟩
  | 84 => ⟨S_, .f32⟩
  | 85 => ⟨S2x4096x1, .f32⟩
  | 86 => ⟨S2x4096x1, .f32⟩
  | 87 => ⟨S2x4096x1, .f32⟩
  | 88 => ⟨S2x4096x4096, .f32⟩
  | 89 => ⟨S2x4096x4096, .f32⟩
  | 90 => ⟨S1x1x4096, .f32⟩
  | 91 => ⟨S2x4096x4096, .f32⟩
  | 92 => ⟨S2x4096x4096, .f32⟩
  | 93 => ⟨S1x1x4096, .f32⟩
  | 94 => ⟨S2x4096x4096, .f32⟩
  | 95 => ⟨S2x4096x4096, .f32⟩
  | 96 => ⟨S_, .f32⟩
  | 97 => ⟨S2x4096x4096, .f32⟩
  | 98 => ⟨S2x4096x4096, .f32⟩
  | 99 => ⟨S2x4096x4096, .f32⟩
  | 100 => ⟨S2x4096x4x1024, .f32⟩
  | 101 => ⟨S2x4x4096x256, .f32⟩
  | 102 => ⟨S_, .f32⟩
  | 103 => ⟨S2x4x4096x256, .f32⟩
  | 104 => ⟨S2x4x4096x256, .f32⟩
  | 105 => ⟨S_, .f32⟩
  | 106 => ⟨S2x4x4096, .f32⟩
  | 107 => ⟨S_, .f32⟩
  | 108 => ⟨S2x4x4096, .f32⟩
  | 109 => ⟨S2x4x4096, .f32⟩
  | 110 => ⟨S2x4x4096x1, .f32⟩
  | 111 => ⟨S2x4x4096x256, .f32⟩
  | 112 => ⟨S2x4x4096x256, .f32⟩
  | 113 => ⟨S2x4x4096x256, .f32⟩
  | 114 => ⟨S_, .f32⟩
  | 115 => ⟨S2x4x4096, .f32⟩
  | 116 => ⟨S2x4x4096x1, .f32⟩
  | 117 => ⟨S2x4x4096x256, .f32⟩
  | 118 => ⟨S2x4x4096x256, .f32⟩
  | 119 => ⟨S2x4x1024x4096, .f32⟩
  | 120 => ⟨S2x4096x4x1024, .f32⟩
  | 121 => ⟨S2x4096x4096, .f32⟩
  | 122 => ⟨S2x4096x4096, .f32⟩
  | 123 => ⟨S2x4096x4096, .f32⟩
  | 124 => ⟨S_, .f32⟩
  | 125 => ⟨S2x4096, .f32⟩
  | 126 => ⟨S2x4096x1, .f32⟩
  | 127 => ⟨S_, .f32⟩
  | _ => ⟨S8704x4096, .f32⟩

abbrev hbmTy0_1 (i : Nat) : BufTy := match i % 128 with
  | 0 => ⟨S2x4096x1, .f32⟩
  | 1 => ⟨S2x4096x1, .f32⟩
  | 2 => ⟨S2x4096x4096, .f32⟩
  | 3 => ⟨S2x4096x4096, .f32⟩
  | 4 => ⟨S2x4096x4096, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S2x4096x4096, .f32⟩
  | 12 => ⟨S2x4096x4096, .f32⟩
  | 13 => ⟨S_, .f32⟩
  | 14 => ⟨S2x4096x1, .f32⟩
  | 15 => ⟨S2x4096x1, .f32⟩
  | 16 => ⟨S2x4096x1, .f32⟩
  | 17 => ⟨S2x4096x4096, .f32⟩
  | 18 => ⟨S2x4096x4096, .f32⟩
  | 19 => ⟨S1x1x4096, .f32⟩
  | 20 => ⟨S2x4096x4096, .f32⟩
  | 21 => ⟨S2x4096x4096, .f32⟩
  | 22 => ⟨S1x1x4096, .f32⟩
  | 23 => ⟨S2x4096x4096, .f32⟩
  | 24 => ⟨S2x4096x4096, .f32⟩
  | 25 => ⟨S_, .f32⟩
  | 26 => ⟨S2x4096x4096, .f32⟩
  | 27 => ⟨S2x4096x4096, .f32⟩
  | 28 => ⟨S2x4096x11008, .f32⟩
  | 29 => ⟨S2x4096x11008, .f32⟩
  | 30 => ⟨S2x4096x11008, .f32⟩
  | 31 => ⟨S_, .f32⟩
  | 32 => ⟨S2x4096x11008, .f32⟩
  | 33 => ⟨S2x4096x11008, .f32⟩
  | 34 => ⟨S_, .f32⟩
  | 35 => ⟨S2x4096x11008, .f32⟩
  | 36 => ⟨S2x4096x11008, .f32⟩
  | 37 => ⟨S2x4096x11008, .f32⟩
  | 38 => ⟨S2x4096x11008, .f32⟩
  | 39 => ⟨S2x4096x11008, .f32⟩
  | 40 => ⟨S2x4096x4096, .f32⟩
  | 41 => ⟨S_, .f32⟩
  | 42 => ⟨S2x4096x4096, .f32⟩
  | 43 => ⟨S2x4096x4096, .f32⟩
  | 44 => ⟨S2x4096x4096, .f32⟩
  | 45 => ⟨S_, .f32⟩
  | 46 => ⟨S2x4096, .f32⟩
  | 47 => ⟨S2x4096x1, .f32⟩
  | 48 => ⟨S_, .f32⟩
  | 49 => ⟨S2x4096x1, .f32⟩
  | 50 => ⟨S2x4096x1, .f32⟩
  | 51 => ⟨S2x4096x4096, .f32⟩
  | 52 => ⟨S2x4096x4096, .f32⟩
  | 53 => ⟨S2x4096x4096, .f32⟩
  | 54 => ⟨S_, .f32⟩
  | 55 => ⟨S2x4096, .f32⟩
  | 56 => ⟨S2x4096x1, .f32⟩
  | 57 => ⟨S_, .f32⟩
  | 58 => ⟨S2x4096x1, .f32⟩
  | 59 => ⟨S2x4096x1, .f32⟩
  | 60 => ⟨S2x4096x4096, .f32⟩
  | 61 => ⟨S2x4096x4096, .f32⟩
  | 62 => ⟨S_, .f32⟩
  | 63 => ⟨S2x4096x1, .f32⟩
  | 64 => ⟨S2x4096x1, .f32⟩
  | 65 => ⟨S2x4096x1, .f32⟩
  | 66 => ⟨S2x4096x4096, .f32⟩
  | 67 => ⟨S2x4096x4096, .f32⟩
  | 68 => ⟨S1x1x4096, .f32⟩
  | 69 => ⟨S2x4096x4096, .f32⟩
  | 70 => ⟨S2x4096x4096, .f32⟩
  | 71 => ⟨S1x1x4096, .f32⟩
  | 72 => ⟨S2x4096x4096, .f32⟩
  | 73 => ⟨S2x4096x4096, .f32⟩
  | 74 => ⟨S512x4096, .f32⟩
  | 75 => ⟨S32x16x4096, .f32⟩
  | 76 => ⟨S512x4096, .f32⟩
  | 77 => ⟨S32x16x4096, .f32⟩
  | 78 => ⟨S512x4096, .f32⟩
  | 79 => ⟨S32x16x4096, .f32⟩
  | 80 => ⟨S512x4096, .f32⟩
  | 81 => ⟨S32x16x4096, .f32⟩
  | 82 => ⟨S512x4096, .f32⟩
  | 83 => ⟨S32x16x4096, .f32⟩
  | 84 => ⟨S32x16x4096, .f32⟩
  | 85 => ⟨S32x16x4096, .f32⟩
  | 86 => ⟨S_, .f32⟩
  | 87 => ⟨S32x16x4096, .f32⟩
  | 88 => ⟨S32x16x4096, .f32⟩
  | 89 => ⟨S_, .f32⟩
  | 90 => ⟨S32x16x4096, .f32⟩
  | 91 => ⟨S32x16x4096, .f32⟩
  | 92 => ⟨S32x16x4096, .f32⟩
  | 93 => ⟨S32x16x4096, .f32⟩
  | 94 => ⟨S32x16x4096, .f32⟩
  | 95 => ⟨S32x16x4096, .f32⟩
  | 96 => ⟨S_, .f32⟩
  | 97 => ⟨S32x16x4096, .f32⟩
  | 98 => ⟨S32x16x4096, .f32⟩
  | 99 => ⟨S_, .f32⟩
  | 100 => ⟨S32x16x4096, .f32⟩
  | 101 => ⟨S32x16x4096, .f32⟩
  | 102 => ⟨S32x16x4096, .f32⟩
  | 103 => ⟨S32x16x4096, .f32⟩
  | 104 => ⟨S32x16x4096, .f32⟩
  | 105 => ⟨S_, .f32⟩
  | 106 => ⟨S32x16x4096, .f32⟩
  | 107 => ⟨S32x16x4096, .f32⟩
  | 108 => ⟨S32x16x4096, .f32⟩
  | 109 => ⟨S32x16x4096, .f32⟩
  | 110 => ⟨S_, .f32⟩
  | 111 => ⟨S32x16, .f32⟩
  | 112 => ⟨S32x16x1, .f32⟩
  | 113 => ⟨S_, .f32⟩
  | 114 => ⟨S32x16x1, .f32⟩
  | 115 => ⟨S32x16x1, .f32⟩
  | 116 => ⟨S32x16x4096, .f32⟩
  | 117 => ⟨S32x16x4096, .f32⟩
  | 118 => ⟨S32x16x4096, .f32⟩
  | 119 => ⟨S_, .f32⟩
  | 120 => ⟨S32x16, .f32⟩
  | 121 => ⟨S32x16x1, .f32⟩
  | 122 => ⟨S_, .f32⟩
  | 123 => ⟨S32x16x1, .f32⟩
  | 124 => ⟨S32x16x1, .f32⟩
  | 125 => ⟨S32x16x4096, .f32⟩
  | 126 => ⟨S32x16x4096, .f32⟩
  | 127 => ⟨S_, .f32⟩
  | _ => ⟨S8704x4096, .f32⟩

abbrev hbmTy0_2 (i : Nat) : BufTy := match i % 128 with
  | 0 => ⟨S32x16x1, .f32⟩
  | 1 => ⟨S32x16x1, .f32⟩
  | 2 => ⟨S32x16x1, .f32⟩
  | 3 => ⟨S32x16x4096, .f32⟩
  | 4 => ⟨S32x16x4096, .f32⟩
  | 5 => ⟨S1x1x4096, .f32⟩
  | 6 => ⟨S32x16x4096, .f32⟩
  | 7 => ⟨S32x16x4096, .f32⟩
  | 8 => ⟨S1x1x4096, .f32⟩
  | 9 => ⟨S32x16x4096, .f32⟩
  | 10 => ⟨S32x16x4096, .f32⟩
  | 11 => ⟨S_, .f32⟩
  | 12 => ⟨S32x16x4096, .f32⟩
  | 13 => ⟨S32x16x4096, .f32⟩
  | 14 => ⟨S32x16x4096, .f32⟩
  | 15 => ⟨S32x16x4x1024, .f32⟩
  | 16 => ⟨S32x4x16x256, .f32⟩
  | 17 => ⟨S_, .f32⟩
  | 18 => ⟨S32x4x16x256, .f32⟩
  | 19 => ⟨S32x4x16x256, .f32⟩
  | 20 => ⟨S_, .f32⟩
  | 21 => ⟨S32x4x16, .f32⟩
  | 22 => ⟨S_, .f32⟩
  | 23 => ⟨S32x4x16, .f32⟩
  | 24 => ⟨S32x4x16, .f32⟩
  | 25 => ⟨S32x4x16x1, .f32⟩
  | 26 => ⟨S32x4x16x256, .f32⟩
  | 27 => ⟨S32x4x16x256, .f32⟩
  | 28 => ⟨S32x4x16x256, .f32⟩
  | 29 => ⟨S_, .f32⟩
  | 30 => ⟨S32x4x16, .f32⟩
  | 31 => ⟨S32x4x16x1, .f32⟩
  | 32 => ⟨S32x4x16x256, .f32⟩
  | 33 => ⟨S32x4x16x256, .f32⟩
  | 34 => ⟨S32x4x1024x16, .f32⟩
  | 35 => ⟨S32x16x4x1024, .f32⟩
  | 36 => ⟨S32x16x4096, .f32⟩
  | 37 => ⟨S32x16x4096, .f32⟩
  | 38 => ⟨S32x16x4096, .f32⟩
  | 39 => ⟨S_, .f32⟩
  | 40 => ⟨S32x16, .f32⟩
  | 41 => ⟨S32x16x1, .f32⟩
  | 42 => ⟨S_, .f32⟩
  | 43 => ⟨S32x16x1, .f32⟩
  | 44 => ⟨S32x16x1, .f32⟩
  | 45 => ⟨S32x16x4096, .f32⟩
  | 46 => ⟨S32x16x4096, .f32⟩
  | 47 => ⟨S32x16x4096, .f32⟩
  | 48 => ⟨S_, .f32⟩
  | 49 => ⟨S32x16, .f32⟩
  | 50 => ⟨S32x16x1, .f32⟩
  | 51 => ⟨S_, .f32⟩
  | 52 => ⟨S32x16x1, .f32⟩
  | 53 => ⟨S32x16x1, .f32⟩
  | 54 => ⟨S32x16x4096, .f32⟩
  | 55 => ⟨S32x16x4096, .f32⟩
  | 56 => ⟨S_, .f32⟩
  | 57 => ⟨S32x16x1, .f32⟩
  | 58 => ⟨S32x16x1, .f32⟩
  | 59 => ⟨S32x16x1, .f32⟩
  | 60 => ⟨S32x16x4096, .f32⟩
  | 61 => ⟨S32x16x4096, .f32⟩
  | 62 => ⟨S1x1x4096, .f32⟩
  | 63 => ⟨S32x16x4096, .f32⟩
  | 64 => ⟨S32x16x4096, .f32⟩
  | 65 => ⟨S1x1x4096, .f32⟩
  | 66 => ⟨S32x16x4096, .f32⟩
  | 67 => ⟨S32x16x4096, .f32⟩
  | 68 => ⟨S_, .f32⟩
  | 69 => ⟨S32x16x4096, .f32⟩
  | 70 => ⟨S32x16x4096, .f32⟩
  | 71 => ⟨S32x16x11008, .f32⟩
  | 72 => ⟨S32x16x11008, .f32⟩
  | 73 => ⟨S32x16x11008, .f32⟩
  | 74 => ⟨S_, .f32⟩
  | 75 => ⟨S32x16x11008, .f32⟩
  | 76 => ⟨S32x16x11008, .f32⟩
  | 77 => ⟨S_, .f32⟩
  | 78 => ⟨S32x16x11008, .f32⟩
  | 79 => ⟨S32x16x11008, .f32⟩
  | 80 => ⟨S32x16x11008, .f32⟩
  | 81 => ⟨S32x16x11008, .f32⟩
  | 82 => ⟨S32x16x11008, .f32⟩
  | 83 => ⟨S32x16x4096, .f32⟩
  | 84 => ⟨S_, .f32⟩
  | 85 => ⟨S32x16x4096, .f32⟩
  | 86 => ⟨S32x16x4096, .f32⟩
  | 87 => ⟨S32x16x4096, .f32⟩
  | 88 => ⟨S_, .f32⟩
  | 89 => ⟨S32x16, .f32⟩
  | 90 => ⟨S32x16x1, .f32⟩
  | 91 => ⟨S_, .f32⟩
  | 92 => ⟨S32x16x1, .f32⟩
  | 93 => ⟨S32x16x1, .f32⟩
  | 94 => ⟨S32x16x4096, .f32⟩
  | 95 => ⟨S32x16x4096, .f32⟩
  | 96 => ⟨S32x16x4096, .f32⟩
  | 97 => ⟨S_, .f32⟩
  | 98 => ⟨S32x16, .f32⟩
  | 99 => ⟨S32x16x1, .f32⟩
  | 100 => ⟨S_, .f32⟩
  | 101 => ⟨S32x16x1, .f32⟩
  | 102 => ⟨S32x16x1, .f32⟩
  | 103 => ⟨S32x16x4096, .f32⟩
  | 104 => ⟨S32x16x4096, .f32⟩
  | 105 => ⟨S_, .f32⟩
  | 106 => ⟨S32x16x1, .f32⟩
  | 107 => ⟨S32x16x1, .f32⟩
  | 108 => ⟨S32x16x1, .f32⟩
  | 109 => ⟨S32x16x4096, .f32⟩
  | 110 => ⟨S32x16x4096, .f32⟩
  | 111 => ⟨S1x1x4096, .f32⟩
  | 112 => ⟨S32x16x4096, .f32⟩
  | 113 => ⟨S32x16x4096, .f32⟩
  | 114 => ⟨S1x1x4096, .f32⟩
  | 115 => ⟨S32x16x4096, .f32⟩
  | 116 => ⟨S32x16x4096, .f32⟩
  | 117 => ⟨S1x2x256x4x1024, .f32⟩
  | 118 => ⟨S1x2x256x4x1024, .f32⟩
  | _ => ⟨S8704x4096, .f32⟩

abbrev hbmTy (i : Nat) : BufTy := match i / 128 with
  | 0 => hbmTy0_0 i
  | 1 => hbmTy0_1 i
  | 2 => hbmTy0_2 i
  | _ => ⟨S8704x4096, .f32⟩

abbrev bufTy : (tb : Table) → Fin (tcTables nBuf tb) → BufTy
  | .hbm, ⟨i, _⟩ => hbmTy i
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_cst_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_v29 : Ref sig .tc := ⟨.hbm, 55, rfl⟩
abbrev main_cst_2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_9 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_cst_11 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_13 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_14 : Ref sig .tc := ⟨.hbm, 124, rfl⟩
abbrev main_v86 : Ref sig .tc := ⟨.hbm, 125, rfl⟩
abbrev main_v87 : Ref sig .tc := ⟨.hbm, 126, rfl⟩
abbrev main_cst_15 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_19 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_call0_v0 : Ref sig .tc := ⟨.hbm, 157, rfl⟩
abbrev main_call0_v1 : Ref sig .tc := ⟨.hbm, 158, rfl⟩
abbrev main_call0_cst : Ref sig .tc := ⟨.hbm, 159, rfl⟩
abbrev main_call0_v2 : Ref sig .tc := ⟨.hbm, 160, rfl⟩
abbrev main_call0_v3 : Ref sig .tc := ⟨.hbm, 161, rfl⟩
abbrev main_call0_cst_0 : Ref sig .tc := ⟨.hbm, 162, rfl⟩
abbrev main_call0_v4 : Ref sig .tc := ⟨.hbm, 163, rfl⟩
abbrev main_call0_v5 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_20 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_21 : Ref sig .tc := ⟨.hbm, 173, rfl⟩
abbrev main_v120 : Ref sig .tc := ⟨.hbm, 174, rfl⟩
abbrev main_v121 : Ref sig .tc := ⟨.hbm, 175, rfl⟩
abbrev main_cst_22 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_23 : Ref sig .tc := ⟨.hbm, 182, rfl⟩
abbrev main_v127 : Ref sig .tc := ⟨.hbm, 183, rfl⟩
abbrev main_v128 : Ref sig .tc := ⟨.hbm, 184, rfl⟩
abbrev main_cst_24 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_25 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_26 : Ref sig .tc := ⟨.hbm, 214, rfl⟩
abbrev main_v156 : Ref sig .tc := ⟨.hbm, 215, rfl⟩
abbrev main_v157 : Ref sig .tc := ⟨.hbm, 216, rfl⟩
abbrev main_cst_27 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_cst_28 : Ref sig .tc := ⟨.hbm, 224, rfl⟩
abbrev main_v164 : Ref sig .tc := ⟨.hbm, 225, rfl⟩
abbrev main_v165 : Ref sig .tc := ⟨.hbm, 226, rfl⟩
abbrev main_cst_29 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_30 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_cst_31 : Ref sig .tc := ⟨.hbm, 238, rfl⟩
abbrev main_v175 : Ref sig .tc := ⟨.hbm, 239, rfl⟩
abbrev main_v176 : Ref sig .tc := ⟨.hbm, 240, rfl⟩
abbrev main_cst_32 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_33 : Ref sig .tc := ⟨.hbm, 247, rfl⟩
abbrev main_v182 : Ref sig .tc := ⟨.hbm, 248, rfl⟩
abbrev main_v183 : Ref sig .tc := ⟨.hbm, 249, rfl⟩
abbrev main_cst_34 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_cst_35 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_cst_36 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_37 : Ref sig .tc := ⟨.hbm, 273, rfl⟩
abbrev main_v204 : Ref sig .tc := ⟨.hbm, 274, rfl⟩
abbrev main_v205 : Ref sig .tc := ⟨.hbm, 275, rfl⟩
abbrev main_cst_38 : Ref sig .tc := ⟨.hbm, 276, rfl⟩
abbrev main_v206 : Ref sig .tc := ⟨.hbm, 277, rfl⟩
abbrev main_cst_39 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_cst_40 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_cst_41 : Ref sig .tc := ⟨.hbm, 295, rfl⟩
abbrev main_v222 : Ref sig .tc := ⟨.hbm, 296, rfl⟩
abbrev main_v223 : Ref sig .tc := ⟨.hbm, 297, rfl⟩
abbrev main_cst_42 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_cst_43 : Ref sig .tc := ⟨.hbm, 304, rfl⟩
abbrev main_v229 : Ref sig .tc := ⟨.hbm, 305, rfl⟩
abbrev main_v230 : Ref sig .tc := ⟨.hbm, 306, rfl⟩
abbrev main_cst_44 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_cst_45 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_cst_46 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_call1_v0 : Ref sig .tc := ⟨.hbm, 328, rfl⟩
abbrev main_call1_v1 : Ref sig .tc := ⟨.hbm, 329, rfl⟩
abbrev main_call1_cst : Ref sig .tc := ⟨.hbm, 330, rfl⟩
abbrev main_call1_v2 : Ref sig .tc := ⟨.hbm, 331, rfl⟩
abbrev main_call1_v3 : Ref sig .tc := ⟨.hbm, 332, rfl⟩
abbrev main_call1_cst_0 : Ref sig .tc := ⟨.hbm, 333, rfl⟩
abbrev main_call1_v4 : Ref sig .tc := ⟨.hbm, 334, rfl⟩
abbrev main_call1_v5 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_cst_47 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_cst_48 : Ref sig .tc := ⟨.hbm, 344, rfl⟩
abbrev main_v256 : Ref sig .tc := ⟨.hbm, 345, rfl⟩
abbrev main_v257 : Ref sig .tc := ⟨.hbm, 346, rfl⟩
abbrev main_cst_49 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_cst_50 : Ref sig .tc := ⟨.hbm, 353, rfl⟩
abbrev main_v263 : Ref sig .tc := ⟨.hbm, 354, rfl⟩
abbrev main_v264 : Ref sig .tc := ⟨.hbm, 355, rfl⟩
abbrev main_cst_51 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_cst_52 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_v274 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩

abbrev nD : Nat := 1
abbrev τ : Topo := Topo.v7x

variable {F : FTy → Type} [FloatOps F]
-- ==== Proof.SsdGroup.lean ====
module

public import proofs.«01_k».proof.Proof.Gen.KernelIdeal.Skeleton
public import Idealize.ShloMosaic.Lib.Pointwise

@[expose] public section

set_option maxRecDepth 16384

noncomputable section

namespace Cert.KernelIdeal.Ssd

open Cert.KernelIdeal Cert.KernelIdeal.Gen Idealize.ShloMosaic Idealize.ShloMosaic.TcCoe Idealize.SL.Sem
open Idealize.ShloMosaic.Pointwise

/-! ## One group of the kernel's body, as functions of the group's number -/

theorem sl512 (g : Fin 8) : S16x4096.Slices ![0, 512 * g.val] S16x512 := by
  have := g.isLt
  refine ⟨rfl, fun a => ?_⟩
  fin_cases a <;> simp <;> omega

theorem slB (g : Fin 8) : S16x2048.Slices ![0, 128 * g.val] S16x128 := by
  have := g.isLt
  refine ⟨rfl, fun a => ?_⟩
  fin_cases a <;> simp <;> omega

theorem slC (g : Fin 8) : S16x2048.Slices ![0, 1024 + 128 * g.val] S16x128 := by
  have := g.isLt
  refine ⟨rfl, fun a => ?_⟩
  fin_cases a <;> simp <;> omega

theorem slT (k : Fin 32) : S16x1024.Slices ![0, 32 * k.val] S16x32 := by
  have := k.isLt
  refine ⟨rfl, fun a => ?_⟩
  fin_cases a <;> simp <;> omega

theorem slR (k : Fin 32) : S32x32.Slices ![k.val, 0] S1x32 := by
  have := k.isLt
  refine ⟨rfl, fun a => ?_⟩
  fin_cases a <;> simp <;> omega

theorem slX (k : Fin 32) : S16x4096.Slices ![0, 128 * k.val] S16x128 := by
  have := k.isLt
  refine ⟨rfl, fun a => ?_⟩
  fin_cases a <;> simp <;> omega

section defs

variable {F : FTy → Type} [FloatOps F]

/-- The group's input projections `B`. -/
def grpB (g : Fin 8) (v72 : FVec F S16x2048 .f32) : FVec F S16x128 .bf16 :=
  truncf .bf16 (extractStridedSlice S16x128 ![0, 128 * g.val] v72 (slB g)) bitsLt_bf16_f32

/-- The group's output projections `C`. -/
def grpC (g : Fin 8) (v72 : FVec F S16x2048 .f32) : FVec F S16x128 .bf16 :=
  truncf .bf16 (extractStridedSlice S16x128 ![0, 1024 + 128 * g.val] v72 (slC g)) bitsLt_bf16_f32

/-- `C · Bᵀ`, written twice side by side. -/
def grpCB (g : Fin 8) (v72 : FVec F S16x2048 .f32) : FVec F S16x32 .f32 :=
  matmul dot_S16x128_S32x128_S16x32_1_1_0_0_n_n none (grpC g v72)
    (concatenate S32x128 0 [⟨S16x128, grpB g v72⟩, ⟨S16x128, grpB g v72⟩] concatenates_S16x128_S16x128_S32x128_d0)
    (constant S16x32 .f32 0x00000000#32)

/-- `C · hᵀ` scaled by the decay from the start of the chunk. -/
def grpOff (g : Fin 8) (v115 : FVec F S16x4096 .f32) (v72 : FVec F S16x2048 .f32) (h : FVec F S512x128 .f32) :
    FVec F S16x512 .f32 :=
  mulf (matmul dot_S16x128_S512x128_S16x512_1_1_0_0_n_n none (grpC g v72) (truncf .bf16 h bitsLt_bf16_f32)
      (constant S16x512 .f32 0x00000000#32))
    (exp (extractStridedSlice S16x512 ![0, 512 * g.val] v115 (sl512 g)))

/-- One pair of heads: the masked, decayed `C · Bᵀ` of the two heads beside each other times the block-diagonal inputs. -/
def grpPair (k : Fin 32) (v121 : FVec F S16x1024 .f32) (v196 : FVec F S32x32 .f32) (v215 : IVec S16x32 1) (v266 : IVec S32x128 1)
    (v272 : FVec F S16x4096 .f32) (cb : FVec F S16x32 .f32) : FVec F S16x128 .f32 :=
  matmul dot_S16x32_S32x128_S16x128_1_0_0_1_n_n none
    (truncf .bf16 (mulf cb (exp (select v215
      (subf (extractStridedSlice S16x32 ![0, 32 * k.val] v121 (slT k))
        (broadcastTo S16x32 (extractStridedSlice S1x32 ![k.val, 0] v196 (slR k)) broadcasts_S1x32_S16x32))
      (broadcast S16x32 (Scalar.ofBits .f32 0xFF800000#32))))) bitsLt_bf16_f32)
    (truncf .bf16 (select v266
      (concatenate S32x128 0 [⟨S16x128, extractStridedSlice S16x128 ![0, 128 * k.val] v272 (slX k)⟩,
        ⟨S16x128, extractStridedSlice S16x128 ![0, 128 * k.val] v272 (slX k)⟩] concatenates_S16x128_S16x128_S32x128_d0)
      (broadcast S32x128 (Scalar.ofBits .f32 0x00000000#32))) bitsLt_bf16_f32)
    (constant S16x128 .f32 0x00000000#32)

/-- Pair `i` of group `g` among the 32 pairs. -/
def pairOf (g : Fin 8) (i : Fin 4) : Fin 32 := ⟨4 * g.val + i.val, by have := g.isLt; have := i.isLt; omega⟩

/-- The group's output before the gate: within the chunk, from the state, and the skip. -/
def grpY (g : Fin 8) (v41 : FVec F S16x4096 .f32) (v72 : FVec F S16x2048 .f32) (v115 : FVec F S16x4096 .f32)
    (v121 : FVec F S16x1024 .f32) (v196 : FVec F S32x32 .f32) (v215 : IVec S16x32 1) (v266 : IVec S32x128 1)
    (v272 : FVec F S16x4096 .f32) (h : Vec F S1x512x128 .f32) (dsk : Vec F S1x512 .f32) : FVec F S16x512 .f32 :=
  addf (addf (concatenate S16x512 1 [⟨S16x128, grpPair (pairOf g 0) v121 v196 v215 v266 v272 (grpCB g v72)⟩,
        ⟨S16x128, grpPair (pairOf g 1) v121 v196 v215 v266 v272 (grpCB g v72)⟩,
        ⟨S16x128, grpPair (pairOf g 2) v121 v196 v215 v266 v272 (grpCB g v72)⟩,
        ⟨S16x128, grpPair (pairOf g 3) v121 v196 v215 v266 v272 (grpCB g v72)⟩]
        concatenates_S16x128_S16x128_S16x128_S16x128_S16x512_d1)
      (grpOff g v115 v72 (shapeCast S512x128 h shapeCasts_S1x512x128_S512x128)))
    (mulf (broadcastTo S16x512 (shapeCast S1x512 dsk shapeCasts_S1x512_S1x512) broadcasts_S1x512_S16x512)
      (extractStridedSlice S16x512 ![0, 512 * g.val] v41 (sl512 g)))

/-- The gated value: `y · z · sigmoid z`. -/
def grpGate (y : FVec F S16x512 .f32) (z : Vec F S16x512 .f32) : FVec F S16x512 .f32 :=
  mulf y (mulf z (divf (broadcast S16x512 (Scalar.ofBits .f32 0x3F800000#32))
    (addf (broadcast S16x512 (Scalar.ofBits .f32 0x3F800000#32))
      (exp (subf (broadcast S16x512 (Scalar.ofBits .f32 0x00000000#32)) z)))))

/-- The group's RMS norm with its gain. -/
def grpNorm (q : FVec F S16x512 .f32) (ng : Vec F S1x512 .f32) : FVec F S16x512 .bf16 :=
  truncf .bf16 (mulf (mulf q (broadcastTo S16x512 (rsqrt (addf
      (divf (shapeCast S16x1 (multiReduction .add [1] S16 (mulf q q) 0x00000000#32 reduces_S16x512_S16 (.inl rfl) rfl)
        shapeCasts_S16_S16x1) (broadcast S16x1 (Scalar.ofBits .f32 0x44000000#32)))
      (broadcast S16x1 (Scalar.ofBits .f32 0x3727C5AC#32)))) broadcasts_S16x1_S16x512))
    (broadcastTo S16x512 (shapeCast S1x512 ng shapeCasts_S1x512_S1x512) broadcasts_S1x512_S16x512)) bitsLt_bf16_f32

/-- The group's state after the chunk. -/
def grpH (g : Fin 8) (v72 : FVec F S16x2048 .f32) (v115 : FVec F S16x4096 .f32) (v271 : FVec F S16x128 .f32)
    (v272 : FVec F S16x4096 .f32) (h : Vec F S1x512x128 .f32) : FVec F S1x512x128 .f32 :=
  shapeCast S1x512x128 (addf
    (mulf (exp (matmul dot_S16x512_S16x128_S512x128_0_0_1_1_n_n (some .fp32)
        (extractStridedSlice S16x512 ![0, 512 * g.val] v115 (sl512 g)) v271 (constant S512x128 .f32 0x00000000#32)))
      (shapeCast S512x128 h shapeCasts_S1x512x128_S512x128))
    (matmul dot_S16x512_S16x128_S512x128_0_0_1_1_n_n none
      (truncf .bf16 (mulf (extractStridedSlice S16x512 ![0, 512 * g.val] v272 (sl512 g))
        (exp (subf (broadcastTo S16x512 (extractStridedSlice S1x512 ![15, 0]
            (extractStridedSlice S16x512 ![0, 512 * g.val] v115 (sl512 g)) slices_S16x512_o15_0_S1x512) broadcasts_S1x512_S16x512)
          (extractStridedSlice S16x512 ![0, 512 * g.val] v115 (sl512 g))))) bitsLt_bf16_f32)
      (grpB g v72) (constant S512x128 .f32 0x00000000#32))) shapeCasts_S512x128_S1x512x128

end defs

/-! ## The values at an index, in terms of the chunk's inputs -/

/-- The values of one chunk that the scan reads: the convolved inputs `xc` and projections `bc` (`B` then `C`), the step
    sizes `dt`, the running sums `ac` of `dt · a` and the state `h` the chunk starts from. -/
structure Chunk where
  xc : Fin 16 → Fin 4096 → EReal
  bc : Fin 16 → Fin 2048 → EReal
  dt : Fin 16 → Fin 64 → EReal
  ac : Fin 16 → Fin 64 → EReal
  h : Fin 4096 → Fin 128 → EReal

/-- A channel's head, -/
def headOf (c : Fin 4096) : Fin 64 := ⟨c.val / 64, by have := c.isLt; omega⟩
/-- and its group. -/
def groupOf (c : Fin 4096) : Fin 8 := ⟨c.val / 512, by have := c.isLt; omega⟩
/-- Column `n` of group `g`'s `B`, -/
def colB (g : Fin 8) (n : Fin 128) : Fin 2048 := ⟨128 * g.val + n.val, by have := g.isLt; have := n.isLt; omega⟩
/-- and of its `C`. -/
def colC (g : Fin 8) (n : Fin 128) : Fin 2048 := ⟨1024 + 128 * g.val + n.val, by have := g.isLt; have := n.isLt; omega⟩

namespace Chunk

variable (k : Chunk)

/-- `C_t · B_s` of a group. -/
def cb (g : Fin 8) (t s : Fin 16) : EReal := ∑ n : Fin 128, k.bc t (colC g n) * k.bc s (colB g n)

/-- The decay from step `s` to step `t` of a head, nothing from a later step. -/
def decay (hd : Fin 64) (t s : Fin 16) : EReal :=
  Ideal.exp (if s ≤ t then k.ac t hd - k.ac s hd else Ideal.ofBits .f32 0xFF800000#32)

/-- The scan's output with the skip. -/
def y (dsk : Fin 64 → EReal) (t : Fin 16) (c : Fin 4096) : EReal :=
  (∑ s : Fin 16, k.cb (groupOf c) t s * k.decay (headOf c) t s * (k.xc s c * k.dt s (headOf c)))
    + (∑ n : Fin 128, k.bc t (colC (groupOf c) n) * k.h c n) * Ideal.exp (k.ac t (headOf c))
    + dsk (headOf c) * k.xc t c

/-- The state after the chunk. -/
def hNext (c : Fin 4096) (n : Fin 128) : EReal :=
  Ideal.exp (k.ac 15 (headOf c)) * k.h c n
    + ∑ s : Fin 16, k.xc s c * k.dt s (headOf c) * Ideal.exp (k.ac 15 (headOf c) - k.ac s (headOf c)) * k.bc s (colB (groupOf c) n)

end Chunk

/-- The gate. -/
def gate (y z : EReal) : EReal := y * (z * Ideal.div 1 (1 + Ideal.exp (0 - z)))

/-- The norm of a group's 512 values, at one of them. -/
def norm (q : Fin 512 → EReal) (ng : EReal) (p : Fin 512) : EReal :=
  q p * Ideal.rsqrt (Ideal.div (∑ x, q x * q x) (Ideal.ofBits .f32 0x44000000#32) + Ideal.ofBits .f32 0x3727C5AC#32) * ng

/-- Channel `p` of group `g`. -/
def chan (g : Fin 8) (p : Fin 512) : Fin 4096 := ⟨512 * g.val + p.val, by have := g.isLt; have := p.isLt; omega⟩

theorem groupOf_chan (g : Fin 8) (p : Fin 512) : groupOf (chan g p) = g := by
  have := p.isLt; ext; simp only [groupOf, chan]; omega

/-- The vectors that the kernel's body has computed before its groups, read at an index. -/
structure Reads (k : Chunk) (v41 : FVec Ideal S16x4096 .f32) (v72 : FVec Ideal S16x2048 .f32) (v115 : FVec Ideal S16x4096 .f32)
    (v121 : FVec Ideal S16x1024 .f32) (v196 : FVec Ideal S32x32 .f32) (v215 : IVec S16x32 1) (v266 : IVec S32x128 1)
    (v271 : FVec Ideal S16x128 .f32) (v272 : FVec Ideal S16x4096 .f32) : Prop where
  r41 : ∀ t c, v41 (ix2 t c) = k.xc t c
  r72 : ∀ t c, v72 (ix2 t c) = k.bc t c
  r115 : ∀ t c, v115 (ix2 t c) = k.ac t (headOf c)
  r121 : ∀ t (j : Fin 1024), v121 (ix2 t j) = k.ac t ⟨j.val / 16, by have := j.isLt; omega⟩
  r196 : ∀ (i j : Fin 32), v196 (ix2 i j) = k.ac ⟨j.val % 16, by omega⟩ ⟨2 * i.val + j.val / 16, by have := i.isLt; have := j.isLt; omega⟩
  r215 : ∀ (t : Fin 16) (j : Fin 32), v215 (ix2 t j) = if j.val % 16 ≤ t.val then 1#1 else 0#1
  r266 : ∀ (j : Fin 32) (q : Fin 128), v266 (ix2 j q) = if j.val / 16 = q.val / 64 then 1#1 else 0#1
  r271 : ∀ (t : Fin 16) (n : Fin 128), v271 (ix2 t n) = if t = 15 then 1 else 0
  r272 : ∀ t c, v272 (ix2 t c) = k.xc t c * k.dt t (headOf c)

section reads

variable {k : Chunk} {v41 : FVec Ideal S16x4096 .f32} {v72 : FVec Ideal S16x2048 .f32} {v115 : FVec Ideal S16x4096 .f32}
  {v121 : FVec Ideal S16x1024 .f32} {v196 : FVec Ideal S32x32 .f32} {v215 : IVec S16x32 1} {v266 : IVec S32x128 1}
  {v271 : FVec Ideal S16x128 .f32} {v272 : FVec Ideal S16x4096 .f32}
  (R : Reads k v41 v72 v115 v121 v196 v215 v266 v271 v272)

include R

theorem grpCB_apply (g : Fin 8) (t : Fin 16) (j : Fin 32) :
    grpCB g v72 (ix2 t j) = k.cb g t ⟨j.val % 16, by omega⟩ := by
  pointwise [grpCB, grpB, grpC]
  unfold Chunk.cb
  refine Finset.sum_congr rfl fun n _ => ?_
  have hj := j.isLt
  split
  · rename_i h
    rw [R.r72, R.r72]
    congr 2
    ext; simp only []; omega
  · rename_i h
    rw [R.r72, R.r72]
    congr 2
    ext; simp only []; omega

theorem grpOff_apply (g : Fin 8) (h : FVec Ideal S512x128 .f32) (t : Fin 16) (p : Fin 512) (hh : ∀ n, h (ix2 p n) = k.h (chan g p) n) :
   grpOff g v115 v72 h (ix2 t p)
     = (∑ n : Fin 128, k.bc t (colC g n) * k.h (chan g p) n) * Ideal.exp (k.ac t (headOf (chan g p))) := by
  pointwise [grpOff, grpC]
  rw [R.r115]
  congr 1
  refine Finset.sum_congr rfl fun n _ => ?_
  rw [R.r72, hh]; rfl

theorem grpPair_apply (g : Fin 8) (i : Fin 4) (t : Fin 16) (q : Fin 128) (c : Fin 4096) (hc : c.val = 512 * g.val + 128 * i.val + q.val) :
    grpPair (pairOf g i) v121 v196 v215 v266 v272 (grpCB g v72) (ix2 t q)
      = ∑ s : Fin 16, k.cb g t s * k.decay (headOf c) t s * (k.xc s c * k.dt s (headOf c)) := by
  have hg := g.isLt
  have hi := i.isLt
  have hq := q.isLt
  pointwise [grpPair]
  simp only [grpCB_apply R, R.r121, R.r196, R.r215, R.r266, R.r272]
  have hsel : ∀ (b : Prop) [Decidable b] (x y : EReal), Scalar.select (if b then 1#1 else 0#1) x y = if b then x else y := by
    intro b _ x y; by_cases h : b <;> simp [h, Scalar.select]
  simp only [hsel]
  by_cases hq64 : q.val < 64
  · have hhd : headOf c = ⟨2 * (pairOf g i).val, by simp only [pairOf]; omega⟩ := by
      ext; simp only [headOf, pairOf]; omega
    have hcc : (⟨128 * (pairOf g i).val + q.val, by simp only [pairOf]; omega⟩ : Fin 4096) = c := by
      ext; simp only [pairOf]; omega
    have h2 : ∀ x : Fin 16, ¬ (16 + x.val) / 16 = q.val / 64 := fun x => by have := x.isLt; omega
    simp only [h2, if_false, Finset.sum_const_zero, add_zero]
    refine Finset.sum_congr rfl fun s _ => ?_
    have hs := s.isLt
    rw [if_pos (by omega), hcc]
    unfold Chunk.decay
    rw [hhd]
    have e1 : (⟨s.val % 16, by omega⟩ : Fin 16) = s := by ext; simp only []; omega
    have e2 : (⟨2 * (pairOf g i).val + s.val / 16, by simp only [pairOf]; omega⟩ : Fin 64) = ⟨2 * (pairOf g i).val, by simp only [pairOf]; omega⟩ := by
      ext; simp only []; omega
    have e3 : (⟨(32 * (pairOf g i).val + s.val) / 16, by simp only [pairOf]; omega⟩ : Fin 64) = ⟨2 * (pairOf g i).val, by simp only [pairOf]; omega⟩ := by
      ext; simp only []; omega
    have e4 : (s.val % 16 ≤ t.val) = (s ≤ t) := by rw [Nat.mod_eq_of_lt hs]; rfl
    simp only [e1, e2, e3, e4]
  · have hhd : headOf c = ⟨2 * (pairOf g i).val + 1, by simp only [pairOf]; omega⟩ := by
      ext; simp only [headOf, pairOf]; omega
    have hcc : (⟨128 * (pairOf g i).val + q.val, by simp only [pairOf]; omega⟩ : Fin 4096) = c := by
      ext; simp only [pairOf]; omega
    have h2 : ∀ x : Fin 16, ¬ x.val / 16 = q.val / 64 := fun x => by have := x.isLt; omega
    simp only [h2, if_false, Finset.sum_const_zero, zero_add]
    refine Finset.sum_congr rfl fun s _ => ?_
    have hs := s.isLt
    rw [if_pos (by omega), hcc]
    unfold Chunk.decay
    rw [hhd]
    have e1 : (⟨(16 + s.val) % 16, by omega⟩ : Fin 16) = s := by ext; simp only []; omega
    have e2 : (⟨2 * (pairOf g i).val + (16 + s.val) / 16, by simp only [pairOf]; omega⟩ : Fin 64) = ⟨2 * (pairOf g i).val + 1, by simp only [pairOf]; omega⟩ := by
      ext; simp only []; omega
    have e3 : (⟨(32 * (pairOf g i).val + (16 + s.val)) / 16, by simp only [pairOf]; omega⟩ : Fin 64) = ⟨2 * (pairOf g i).val + 1, by simp only [pairOf]; omega⟩ := by
      ext; simp only []; omega
    have e4 : ((16 + s.val) % 16 ≤ t.val) = (s ≤ t) := by
      rw [Nat.add_mod_left, Nat.mod_eq_of_lt hs]; rfl
    simp only [e1, e2, e3, e4]

theorem grpY_apply (g : Fin 8) (h : Vec Ideal S1x512x128 .f32) (dsk : Vec Ideal S1x512 .f32) (t : Fin 16) (p : Fin 512)
    (d : Fin 64 → EReal) (hd : dsk (ix2 0 p) = d (headOf (chan g p))) (hh : ∀ n, h (ix3 0 p n) = k.h (chan g p) n) :
   grpY g v41 v72 v115 v121 v196 v215 v266 v272 h dsk (ix2 t p) = k.y d t (chan g p) := by
  pointwise [grpY]
  rw [grpOff_apply R g _ t p (fun n => by pointwise; exact hh n), hd, R.r41]
  have hp := p.isLt
  unfold Chunk.y
  rw [groupOf_chan]
  congr 2
  split
  · exact grpPair_apply R g 0 t _ _ (by simp [chan])
  split
  · exact grpPair_apply R g 1 t _ _ (by simp [chan]; omega)
  split
  · exact grpPair_apply R g 2 t _ _ (by simp [chan]; omega)
  · exact grpPair_apply R g 3 t _ _ (by simp [chan]; omega)

theorem grpH_apply (g : Fin 8) (h : Vec Ideal S1x512x128 .f32) (p : Fin 512) (n : Fin 128) (hh : h (ix3 0 p n) = k.h (chan g p) n) :
   grpH g v72 v115 v271 v272 h (ix3 0 p n) = k.hNext (chan g p) n := by
  pointwise [grpH, grpB]
  simp only [R.r72, R.r115, R.r271, R.r272, hh]
  unfold Chunk.hNext
  rw [groupOf_chan]
  simp only [mul_ite, mul_one, mul_zero, Finset.sum_ite_eq', Finset.mem_univ, if_true]
  rfl

end reads

theorem grpGate_apply (q z : FVec Ideal S16x512 .f32) (t : Fin 16) (p : Fin 512) :
   grpGate q z (ix2 t p) = gate (q (ix2 t p)) (z (ix2 t p)) := by
  pointwise [grpGate]
  rfl

theorem grpNorm_apply (q : FVec Ideal S16x512 .f32) (ng : Vec Ideal S1x512 .f32) (t : Fin 16) (p : Fin 512) :
   grpNorm q ng (ix2 t p) = norm (fun x => q (ix2 t x)) (ng (ix2 0 p)) p := by
  pointwise [grpNorm]
  rfl

end Cert.KernelIdeal.Ssd
end
-- ==== Proof.SsdBlock.lean ====
module

public import proofs.«01_k».proof.Proof.Gen.KernelIdeal.Value
public import proofs.«01_k».proof.Proof.SsdGroup

@[expose] public section

set_option maxRecDepth 16384

noncomputable section

namespace Cert.KernelIdeal.Ssd

open Cert.KernelIdeal Cert.KernelIdeal.Gen Idealize.ShloMosaic Idealize.ShloMosaic.TcCoe Idealize.SL.Sem
open Idealize.ShloMosaic.Pointwise

section defs

variable {F : FTy → Type} [FloatOps F]

/-- The inputs' rows under the three carried rows, from row 5 of the padded buffer. -/
def extA (x1 : Vec F S16x4096 .f32) (x5 : Vec F S1x3x6144 .f32) : Vec F S24x4096 .f32 :=
  View.canon [⟨Rect.unit ![8, 0] S16x4096.size inb_S24x4096_S16x4096_8_0,
      k0_pay5 (View.ld x1 (Rect.unit ![0, 0] S16x4096.size inb_S16x4096_S16x4096_0_0))⟩,
    ⟨Rect.unit ![5, 0] S3x4096.size inb_S24x4096_S3x4096_5_0,
      k0_pay2 (View.ld x5 (Rect.unit ![0, 0, 0] S1x3x4096.size inb_S1x3x6144_S1x3x4096_0_0_0))⟩]

/-- The same of the projections' columns. -/
def extB (x2 : Vec F S16x2048 .f32) (x5 : Vec F S1x3x6144 .f32) : Vec F S24x2048 .f32 :=
  View.canon [⟨Rect.unit ![8, 0] S16x2048.size inb_S24x2048_S16x2048_8_0,
      k0_pay6 (View.ld x2 (Rect.unit ![0, 0] S16x2048.size inb_S16x2048_S16x2048_0_0))⟩,
    ⟨Rect.unit ![5, 0] S3x2048.size inb_S24x2048_S3x2048_5_0,
      k0_pay3 (View.ld x5 (Rect.unit ![0, 0, 4096] S1x3x2048.size inb_S1x3x6144_S1x3x2048_0_0_4096))⟩]

/-- The convolved inputs. -/
def w41 (x1 : Vec F S16x4096 .f32) (x5 : Vec F S1x3x6144 .f32) (x7 : Vec F S4x6144 .f32) (x8 : Vec F S1x6144 .f32) :
    FVec F S16x4096 .f32 :=
  k0_pay8 (k0_pay7 (View.ld x8 (Rect.unit ![0, 0] S1x4096.size inb_S1x6144_S1x4096_0_0))
      (View.ld x7 (Rect.unit ![0, 0] S1x4096.size inb_S4x6144_S1x4096_0_0))
      (View.ld (extA x1 x5) (Rect.unit ![5, 0] S16x4096.size inb_S24x4096_S16x4096_5_0))
      (View.ld x7 (Rect.unit ![1, 0] S1x4096.size inb_S4x6144_S1x4096_1_0))
      (View.ld (extA x1 x5) (Rect.unit ![6, 0] S16x4096.size inb_S24x4096_S16x4096_6_0))
      (View.ld x7 (Rect.unit ![2, 0] S1x4096.size inb_S4x6144_S1x4096_2_0))
      (View.ld (extA x1 x5) (Rect.unit ![7, 0] S16x4096.size inb_S24x4096_S16x4096_7_0)))
    (View.ld x7 (Rect.unit ![3, 0] S1x4096.size inb_S4x6144_S1x4096_3_0))
    (View.ld (extA x1 x5) (Rect.unit ![8, 0] S16x4096.size inb_S24x4096_S16x4096_8_0))

/-- The convolved projections. -/
def w72 (x2 : Vec F S16x2048 .f32) (x5 : Vec F S1x3x6144 .f32) (x7 : Vec F S4x6144 .f32) (x8 : Vec F S1x6144 .f32) :
    FVec F S16x2048 .f32 :=
  k0_pay10 (k0_pay9 (View.ld x8 (Rect.unit ![0, 4096] S1x2048.size inb_S1x6144_S1x2048_0_4096))
      (View.ld x7 (Rect.unit ![0, 4096] S1x2048.size inb_S4x6144_S1x2048_0_4096))
      (View.ld (extB x2 x5) (Rect.unit ![5, 0] S16x2048.size inb_S24x2048_S16x2048_5_0))
      (View.ld x7 (Rect.unit ![1, 4096] S1x2048.size inb_S4x6144_S1x2048_1_4096))
      (View.ld (extB x2 x5) (Rect.unit ![6, 0] S16x2048.size inb_S24x2048_S16x2048_6_0))
      (View.ld x7 (Rect.unit ![2, 4096] S1x2048.size inb_S4x6144_S1x2048_2_4096))
      (View.ld (extB x2 x5) (Rect.unit ![7, 0] S16x2048.size inb_S24x2048_S16x2048_7_0))
      (View.ld x7 (Rect.unit ![3, 4096] S1x2048.size inb_S4x6144_S1x2048_3_4096))
      (View.ld (extB x2 x5) (Rect.unit ![8, 0] S16x2048.size inb_S24x2048_S16x2048_8_0)))
    (Scalar.ofBits .f32 0x00000000#32)

/-- The running sums of `dt · a`, spread over the channels, -/
def w115 (x3 : Vec F S16x256 .f32) (x9 x10 : Vec F S1x64 .f32) (x15 : Vec F S64x4096 .f32) : FVec F S16x4096 .f32 :=
  k0_pay20 (k0_pay16 (View.ld x3 (Rect.unit ![0, 0] S16x64.size inb_S16x256_S16x64_0_0)) (View.ld x9 (Rect.unit ![0, 0] S1x64.size inb_S1x64_S1x64_0_0)))
    (k0_pay17 (View.ld x3 (Rect.unit ![0, 0] S16x64.size inb_S16x256_S16x64_0_0)) (View.ld x9 (Rect.unit ![0, 0] S1x64.size inb_S1x64_S1x64_0_0)))
    (View.ld x10 (Rect.unit ![0, 0] S1x64.size inb_S1x64_S1x64_0_0))
    (View.ld x15 (Rect.unit ![0, 0] S64x4096.size inb_S64x4096_S64x4096_0_0))

/-- the step sizes spread over the channels, -/
def w118 (x3 : Vec F S16x256 .f32) (x9 : Vec F S1x64 .f32) (x15 : Vec F S64x4096 .f32) : FVec F S16x4096 .f32 :=
  k0_pay21 (k0_pay16 (View.ld x3 (Rect.unit ![0, 0] S16x64.size inb_S16x256_S16x64_0_0)) (View.ld x9 (Rect.unit ![0, 0] S1x64.size inb_S1x64_S1x64_0_0)))
    (k0_pay17 (View.ld x3 (Rect.unit ![0, 0] S16x64.size inb_S16x256_S16x64_0_0)) (View.ld x9 (Rect.unit ![0, 0] S1x64.size inb_S1x64_S1x64_0_0)))
    (View.ld x15 (Rect.unit ![0, 0] S64x4096.size inb_S64x4096_S64x4096_0_0))

/-- and the running sums spread over the pairs' columns. -/
def w121 (x3 : Vec F S16x256 .f32) (x9 x10 : Vec F S1x64 .f32) (x16 : Vec F S64x1024 .f32) : FVec F S16x1024 .f32 :=
  k0_pay22 (k0_pay16 (View.ld x3 (Rect.unit ![0, 0] S16x64.size inb_S16x256_S16x64_0_0)) (View.ld x9 (Rect.unit ![0, 0] S1x64.size inb_S1x64_S1x64_0_0)))
    (k0_pay17 (View.ld x3 (Rect.unit ![0, 0] S16x64.size inb_S16x256_S16x64_0_0)) (View.ld x9 (Rect.unit ![0, 0] S1x64.size inb_S1x64_S1x64_0_0)))
    (View.ld x10 (Rect.unit ![0, 0] S1x64.size inb_S1x64_S1x64_0_0))
    (View.ld x16 (Rect.unit ![0, 0] S64x1024.size inb_S64x1024_S64x1024_0_0))

/-- The running sums again, one row per pair of heads. -/
def w196 (x4 : Vec F S1x32x32 .f32) (x11 x12 : Vec F S32x32 .f32) : FVec F S32x32 .f32 :=
  k0_pay30 (k0_pay25 (k0_pay23 (View.ld x4 (Rect.unit ![0, 0, 0] S1x32x32.size inb_S1x32x32_S1x32x32_0_0_0))
        (View.ld x11 (Rect.unit ![0, 0] S32x32.size inb_S32x32_S32x32_0_0)))
      (k0_pay24 (View.ld x12 (Rect.unit ![0, 0] S32x32.size inb_S32x32_S32x32_0_0))))
    (iota .tc S32x32 32 [0] iota_S32x32_d0_w32) (iota .tc S32x32 32 [1] iota_S32x32_d1_w32) k0_pay26 k0_pay27 k0_pay28 k0_pay29

/-- Which pair column is in a head's block. -/
def w266 : IVec S32x128 1 :=
  k0_pay34 (iota .tc S32x128 32 [0] iota_S32x128_d0_w32) (iota .tc S32x128 32 [1] iota_S32x128_d1_w32) 16#32 k0_pay32 k0_pay33 1#32 0#1

/-- The inputs times the step sizes. -/
def w272 (x1 : Vec F S16x4096 .f32) (x3 : Vec F S16x256 .f32) (x5 : Vec F S1x3x6144 .f32) (x7 : Vec F S4x6144 .f32)
    (x8 : Vec F S1x6144 .f32) (x9 : Vec F S1x64 .f32) (x15 : Vec F S64x4096 .f32) : FVec F S16x4096 .f32 :=
  k0_pay36 (w41 x1 x5 x7 x8) (w118 x3 x9 x15)

theorem rowsH (n : ℕ) (hn : n < 8) : ∀ a, (![0, 512 * n, 0] : Fin 3 → ℕ) a + S1x512x128.size a ≤ S1x4096x128.size a := by
  intro a; fin_cases a <;> simp <;> omega

theorem colsY (n : ℕ) (hn : n < 8) : ∀ a, (![0, 512 * n] : Fin 2 → ℕ) a + S16x512.size a ≤ S16x4096.size a := by
  intro a; fin_cases a <;> simp <;> omega

theorem colsP (n : ℕ) (hn : n < 8) : ∀ a, (![0, 512 * n] : Fin 2 → ℕ) a + S1x512.size a ≤ S1x4096.size a := by
  intro a; fin_cases a <;> simp <;> omega

/-- What the state's buffer is written with by the first `n` groups, last first, over the state copied in. -/
def statePieces (v72 : FVec F S16x2048 .f32) (v115 : FVec F S16x4096 .f32) (v272 : FVec F S16x4096 .f32) (x6 : Vec F S1x4096x128 .f32) :
    (n : ℕ) → n ≤ 8 → List (View.Piece (Elt F) S1x4096x128 .f32)
  | 0, _ => [⟨Rect.unit ![0, 0, 0] S1x4096x128.size inb_S1x4096x128_S1x4096x128_0_0_0,
      k0_pay4 (View.ld x6 (Rect.unit ![0, 0, 0] S1x4096x128.size inb_S1x4096x128_S1x4096x128_0_0_0))⟩]
  | n + 1, h => ⟨Rect.unit ![0, 512 * n, 0] S1x512x128.size (rowsH n h),
      grpH ⟨n, h⟩ v72 v115 k0_pay35 v272 (View.ld (View.canon (statePieces v72 v115 v272 x6 n (Nat.le_of_succ_le h)))
        (Rect.unit ![0, 512 * n, 0] S1x512x128.size (rowsH n h)))⟩ :: statePieces v72 v115 v272 x6 n (Nat.le_of_succ_le h)

/-- What the output's buffer is written with by the first `n` groups, last first. -/
def outPieces (v41 : FVec F S16x4096 .f32) (v72 : FVec F S16x2048 .f32) (v115 : FVec F S16x4096 .f32) (v121 : FVec F S16x1024 .f32)
    (v196 : FVec F S32x32 .f32) (v272 : FVec F S16x4096 .f32) (x0 : Vec F S16x4096 .f32) (x6 : Vec F S1x4096x128 .f32)
    (x13 x14 : Vec F S1x4096 .f32) : (n : ℕ) → n ≤ 8 → List (View.Piece (Elt F) S16x4096 .bf16)
  | 0, _ => []
  | n + 1, h => ⟨Rect.unit ![0, 512 * n] S16x512.size (colsY n h),
      grpNorm (grpGate (grpY ⟨n, h⟩ v41 v72 v115 v121 v196 k0_pay31 w266 v272
            (View.ld (View.canon (statePieces v72 v115 v272 x6 n (Nat.le_of_succ_le h))) (Rect.unit ![0, 512 * n, 0] S1x512x128.size (rowsH n h)))
            (View.ld x13 (Rect.unit ![0, 512 * n] S1x512.size (colsP n h))))
          (View.ld x0 (Rect.unit ![0, 512 * n] S16x512.size (colsY n h))))
        (View.ld x14 (Rect.unit ![0, 512 * n] S1x512.size (colsP n h)))⟩
      :: outPieces v41 v72 v115 v121 v196 v272 x0 x6 x13 x14 n (Nat.le_of_succ_le h)

end defs

variable {F : FTy → Type} [FloatOps F]

variable (c : Dev nD) (i : grid0.Coords) (arg2 : Memref sig .tc .vmem S16x4096 .f32) (harg2 : arg2.IsWhole) (arg3 : Memref sig .tc .vmem S16x4096 .f32) (harg3 : arg3.IsWhole) (arg4 : Memref sig .tc .vmem S16x2048 .f32) (harg4 : arg4.IsWhole) (arg5 : Memref sig .tc .vmem S16x256 .f32) (harg5 : arg5.IsWhole) (arg6 : Memref sig .tc .vmem S1x32x32 .f32) (harg6 : arg6.IsWhole) (arg7 : Memref sig .tc .vmem S1x3x6144 .f32) (harg7 : arg7.IsWhole) (arg8 : Memref sig .tc .vmem S1x4096x128 .f32) (harg8 : arg8.IsWhole) (arg9 : Memref sig .tc .vmem S4x6144 .f32) (harg9 : arg9.IsWhole) (arg10 : Memref sig .tc .vmem S1x6144 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S32x32 .f32) (harg13 : arg13.IsWhole) (arg14 : Memref sig .tc .vmem S32x32 .f32) (harg14 : arg14.IsWhole) (arg15 : Memref sig .tc .vmem S1x4096 .f32) (harg15 : arg15.IsWhole) (arg16 : Memref sig .tc .vmem S1x4096 .f32) (harg16 : arg16.IsWhole) (arg17 : Memref sig .tc .vmem S64x4096 .f32) (harg17 : arg17.IsWhole) (arg18 : Memref sig .tc .vmem S64x1024 .f32) (harg18 : arg18.IsWhole) (arg19 : Memref sig .tc .vmem S16x4096 .bf16) (harg19 : arg19.IsWhole) (arg20 : Memref sig .tc .vmem S1x3x6144 .f32) (harg20 : arg20.IsWhole) (arg21 : Memref sig .tc .vmem S1x4096x128 .f32) (harg21 : arg21.IsWhole) (arg22 : Memref sig .tc .vmem S24x4096 .f32) (harg22 : arg22.IsWhole) (arg23 : Memref sig .tc .vmem S24x2048 .f32) (harg23 : arg23.IsWhole) (hc0 : cond0_0 i)
  (x0 : Vec F S16x4096 .f32) (x1 : Vec F S16x4096 .f32) (x2 : Vec F S16x2048 .f32) (x3 : Vec F S16x256 .f32) (x4 : Vec F S1x32x32 .f32) (x5 : Vec F S1x3x6144 .f32) (x6 : Vec F S1x4096x128 .f32) (x7 : Vec F S4x6144 .f32) (x8 : Vec F S1x6144 .f32) (x9 : Vec F S1x64 .f32) (x10 : Vec F S1x64 .f32) (x11 : Vec F S32x32 .f32) (x12 : Vec F S32x32 .f32) (x13 : Vec F S1x4096 .f32) (x14 : Vec F S1x4096 .f32) (x15 : Vec F S64x4096 .f32) (x16 : Vec F S64x1024 .f32)

set_option maxHeartbeats 4000000 in
theorem out19_eq : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16
    = View.canon (statePieces (w72 x2 x5 x7 x8) (w115 x3 x9 x10 x15) (w272 x1 x3 x5 x7 x8 x9 x15) x6 8 le_rfl) := by
  unfold out0_A_19
  rw [View.read_writes_junk_eq_canon]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

set_option maxHeartbeats 4000000 in
theorem out17_eq : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16
    = View.canon (outPieces (w41 x1 x5 x7 x8) (w72 x2 x5 x7 x8) (w115 x3 x9 x10 x15) (w121 x3 x9 x10 x16) (w196 x4 x11 x12) (w272 x1 x3 x5 x7 x8 x9 x15) x0 x6 x13 x14 8 le_rfl) := by
  unfold out0_A_17
  rw [View.read_writes_junk_eq_canon]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

set_option maxHeartbeats 4000000 in
theorem out18_eq : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16
    = View.canon ([⟨Rect.unit ![0, 0, 4096] S1x3x2048.size inb_S1x3x6144_S1x3x2048_0_0_4096,
          k0_pay12 (View.ld (extB x2 x5) (Rect.unit ![21, 0] S3x2048.size inb_S24x2048_S3x2048_21_0))⟩,
        ⟨Rect.unit ![0, 0, 0] S1x3x4096.size inb_S1x3x6144_S1x3x4096_0_0_0,
          k0_pay11 (View.ld (extA x1 x5) (Rect.unit ![21, 0] S3x4096.size inb_S24x4096_S3x4096_21_0))⟩] : List (View.Piece (Elt F) S1x3x6144 .f32)) := by
  unfold out0_A_18
  rw [View.read_writes_junk_eq_canon]
  unfold kernelRun0_A
  dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  rfl

end Cert.KernelIdeal.Ssd
end
-- ==== Proof.SsdVec.lean ====
module

public import proofs.«01_k».proof.Proof.SsdBlock

@[expose] public section

set_option maxRecDepth 16384

noncomputable section

namespace Cert.KernelIdeal.Ssd

open Cert.KernelIdeal Cert.KernelIdeal.Gen Idealize.ShloMosaic Idealize.ShloMosaic.TcCoe Idealize.SL.Sem
open Idealize.ShloMosaic.Pointwise

/-! ## One sequence's scan, from its own inputs -/

/-- A column of the three carried rows with the sixteen new ones under them. -/
def extRow (old : Fin 3 → EReal) (new : Fin 16 → EReal) (r : Fin 19) : EReal :=
  if h : r.val < 3 then old ⟨r.val, h⟩ else new ⟨r.val - 3, by have := r.isLt; omega⟩

/-- The causal convolution of four taps at a step. -/
def convAt (e : Fin 19 → EReal) (w : Fin 4 → EReal) (b : EReal) (t : Fin 16) : EReal :=
  b + w 0 * e ⟨t.val, by have := t.isLt; omega⟩ + w 1 * e ⟨1 + t.val, by have := t.isLt; omega⟩
    + w 2 * e ⟨2 + t.val, by have := t.isLt; omega⟩ + w 3 * e ⟨3 + t.val, by have := t.isLt; omega⟩

def silu (x : EReal) : EReal := x * Ideal.div 1 (1 + Ideal.exp (0 - x))

/-- `log (1 + exp x)`, as both programs spell it. -/
def softplus (x : EReal) : EReal :=
  max x 0 + Ideal.log1p (Ideal.exp (0 - (FloatOps.absf (F := Ideal) (φ := .f32) x : EReal)))

theorem extA_apply (x1 : Vec Ideal S16x4096 .f32) (x5 : Vec Ideal S1x3x6144 .f32) (r : Fin 19) (c : Fin 4096) (r' : Fin 24) (hr : r'.val = 5 + r.val) :
    extA x1 x5 (ix2 r' c) = extRow (fun s => x5 (ix3 0 s ⟨c.val, by have := c.isLt; omega⟩)) (fun t => x1 (ix2 t c)) r := by
  have hr19 := r.isLt
  unfold extA extRow
  split
  · rename_i h
    rw [View.canon_cons_of_not_mem _ _ (by
      rw [Rect.mem_set_unit]; intro hh; have := (hh 0).1; simp at this; omega)]
    have e : ix2 r' c = (Rect.unit (s := S24x4096) ![5, 0] S3x4096.size inb_S24x4096_S3x4096_5_0).emb (ix2 (⟨r.val, h⟩ : Fin 3) c) := by
      funext a; fin_cases a <;> apply Fin.ext <;> simp [Rect.emb_apply, hr]
    rw [e, View.canon_cons_emb]
    pointwise [k0_pay2]
  · rename_i h
    have e : ix2 r' c = (Rect.unit (s := S24x4096) ![8, 0] S16x4096.size inb_S24x4096_S16x4096_8_0).emb (ix2 (⟨r.val - 3, by omega⟩ : Fin 16) c) := by
      funext a; fin_cases a <;> apply Fin.ext <;> simp [Rect.emb_apply, hr]; omega
    rw [e, View.canon_cons_emb]
    pointwise [k0_pay5]

theorem extB_apply (x2 : Vec Ideal S16x2048 .f32) (x5 : Vec Ideal S1x3x6144 .f32) (r : Fin 19) (c : Fin 2048) (r' : Fin 24) (hr : r'.val = 5 + r.val) :
    extB x2 x5 (ix2 r' c) = extRow (fun s => x5 (ix3 0 s ⟨4096 + c.val, by have := c.isLt; omega⟩)) (fun t => x2 (ix2 t c)) r := by
  have hr19 := r.isLt
  unfold extB extRow
  split
  · rename_i h
    rw [View.canon_cons_of_not_mem _ _ (by
      rw [Rect.mem_set_unit]; intro hh; have := (hh 0).1; simp at this; omega)]
    have e : ix2 r' c = (Rect.unit (s := S24x2048) ![5, 0] S3x2048.size inb_S24x2048_S3x2048_5_0).emb (ix2 (⟨r.val, h⟩ : Fin 3) c) := by
      funext a; fin_cases a <;> apply Fin.ext <;> simp [Rect.emb_apply, hr]
    rw [e, View.canon_cons_emb]
    pointwise [k0_pay3]
  · rename_i h
    have e : ix2 r' c = (Rect.unit (s := S24x2048) ![8, 0] S16x2048.size inb_S24x2048_S16x2048_8_0).emb (ix2 (⟨r.val - 3, by omega⟩ : Fin 16) c) := by
      funext a; fin_cases a <;> apply Fin.ext <;> simp [Rect.emb_apply, hr]; omega
    rw [e, View.canon_cons_emb]
    pointwise [k0_pay6]

theorem w41_apply (x1 : Vec Ideal S16x4096 .f32) (x5 : Vec Ideal S1x3x6144 .f32) (x7 : Vec Ideal S4x6144 .f32) (x8 : Vec Ideal S1x6144 .f32) (t : Fin 16) (c : Fin 4096) :
    w41 x1 x5 x7 x8 (ix2 t c) = silu (convAt (extRow (fun s => x5 (ix3 0 s ⟨c.val, by have := c.isLt; omega⟩)) (fun t => x1 (ix2 t c)))
      (fun j => x7 (ix2 j ⟨c.val, by have := c.isLt; omega⟩)) (x8 (ix2 0 ⟨c.val, by have := c.isLt; omega⟩)) t) := by
  have ht := t.isLt
  pointwise [w41, k0_pay8, k0_pay7]
  rw [extA_apply x1 x5 ⟨t.val, by omega⟩ c _ rfl, extA_apply x1 x5 ⟨1 + t.val, by omega⟩ c _ (by show 6 + t.val = 5 + (1 + t.val); omega),
    extA_apply x1 x5 ⟨2 + t.val, by omega⟩ c _ (by show 7 + t.val = 5 + (2 + t.val); omega),
    extA_apply x1 x5 ⟨3 + t.val, by omega⟩ c _ (by show 8 + t.val = 5 + (3 + t.val); omega)]
  rfl

theorem w72_apply (x2 : Vec Ideal S16x2048 .f32) (x5 : Vec Ideal S1x3x6144 .f32) (x7 : Vec Ideal S4x6144 .f32) (x8 : Vec Ideal S1x6144 .f32) (t : Fin 16) (c : Fin 2048) :
    w72 x2 x5 x7 x8 (ix2 t c) = silu (convAt (extRow (fun s => x5 (ix3 0 s ⟨4096 + c.val, by have := c.isLt; omega⟩)) (fun t => x2 (ix2 t c)))
      (fun j => x7 (ix2 j ⟨4096 + c.val, by have := c.isLt; omega⟩)) (x8 (ix2 0 ⟨4096 + c.val, by have := c.isLt; omega⟩)) t) := by
  have ht := t.isLt
  pointwise [w72, k0_pay10, k0_pay9]
  rw [extB_apply x2 x5 ⟨t.val, by omega⟩ c _ rfl, extB_apply x2 x5 ⟨1 + t.val, by omega⟩ c _ (by show 6 + t.val = 5 + (1 + t.val); omega),
    extB_apply x2 x5 ⟨2 + t.val, by omega⟩ c _ (by show 7 + t.val = 5 + (2 + t.val); omega),
    extB_apply x2 x5 ⟨3 + t.val, by omega⟩ c _ (by show 8 + t.val = 5 + (3 + t.val); omega)]
  rfl

/-! ## The masks -/

theorem sitofp_bit (p : Prop) [Decidable p] :
    (FloatOps.sitofp (F := Ideal) FTy.f32 (if p then 1#32 else 0#32) : EReal) = if p then 1 else 0 := by
  split
  · show ((((1#32 : BitVec 32).toInt : ℤ) : ℝ) : EReal) = 1
    norm_num
  · show ((((0#32 : BitVec 32).toInt : ℤ) : ℝ) : EReal) = 0
    norm_num

theorem mask_le : ∀ t s : Fin 16, BitVec.setWidth 32 (IntOp.cmpi CmpIPredicate.sge (BitVec.ofNat 32 t.val) (BitVec.ofNat 32 s.val))
    = if s ≤ t then 1#32 else 0#32 := by decide +kernel

theorem mask_last : ∀ t : Fin 16, BitVec.setWidth 32 (IntOp.cmpi CmpIPredicate.eq (BitVec.ofNat 32 t.val) 15#32)
    = if t = 15 then 1#32 else 0#32 := by decide +kernel

theorem mask_block (x j : Fin 32) : BitVec.setWidth 32
            (IntOp.andi
              (IntOp.cmpi CmpIPredicate.eq (k0_pay26 (ix2 x j))
                (Scalar.select
                  (IntOp.andi (k0_pay28 (ix2 x j))
                    (IntOp.cmpi CmpIPredicate.ne
                      (IntOp.remsi ArithUnit.vector (BitVec.ofNat 32 j.val) (k0_pay29 (ix2 x j))) 0#32))
                  (IntOp.subi (k0_pay27 (ix2 x j)) 1#32) (k0_pay27 (ix2 x j))))
              (IntOp.cmpi CmpIPredicate.sle (BitVec.ofNat 32 x.val) (BitVec.ofNat 32 j.val)))
    = if x.val / 16 = j.val / 16 ∧ x.val ≤ j.val then 1#32 else 0#32 := by
  pointwise [k0_pay26, k0_pay27, k0_pay28, k0_pay29]
  revert x j
  decide +kernel

theorem mask_pair (t : Fin 16) (j : Fin 32) : k0_pay31 (ix2 t j) = if j.val % 16 ≤ t.val then 1#1 else 0#1 := by
  pointwise [k0_pay31]
  revert t j
  decide +kernel

theorem mask_half (j : Fin 32) (q : Fin 128) : w266 (ix2 j q) = if j.val / 16 = q.val / 64 then 1#1 else 0#1 := by
  pointwise [w266, k0_pay32, k0_pay33, k0_pay34]
  revert j q
  decide +kernel

theorem last_apply (t : Fin 16) (n : Fin 128) : k0_pay35 (F := Ideal) (ix2 t n) = if t = 15 then 1 else 0 := by
  pointwise [k0_pay35]
  rw [mask_last]
  exact sitofp_bit _

/-! ## The running sums -/

/-- The sum of `a` up to a step. -/
def upTo (a : Fin 16 → EReal) (t : Fin 16) : EReal := ∑ s : Fin 16, if s ≤ t then a s else 0

theorem w115_apply (x3 : Vec Ideal S16x256 .f32) (x9 x10 : Vec Ideal S1x64 .f32) (x15 : Vec Ideal S64x4096 .f32)
    (h15 : ∀ x c, x15 (ix2 x c) = if x = headOf c then 1 else 0) (t : Fin 16) (c : Fin 4096) :
    w115 x3 x9 x10 x15 (ix2 t c) = upTo (fun s => softplus (x3 (ix2 s ⟨(headOf c).val, by have := (headOf c).isLt; omega⟩) + x9 (ix2 0 (headOf c)))
      * (0 - Ideal.exp (x10 (ix2 0 (headOf c))))) t := by
  pointwise [w115, k0_pay20, k0_pay19, k0_pay18, k0_pay16, k0_pay17, k0_pay15]
  simp only [h15, mask_le, sitofp_bit, mul_ite, mul_one, mul_zero, Finset.sum_ite_eq', Finset.mem_univ, if_true, ite_mul, one_mul, zero_mul]
  rfl

theorem w118_apply (x3 : Vec Ideal S16x256 .f32) (x9 : Vec Ideal S1x64 .f32) (x15 : Vec Ideal S64x4096 .f32)
    (h15 : ∀ x c, x15 (ix2 x c) = if x = headOf c then 1 else 0) (t : Fin 16) (c : Fin 4096) :
    w118 x3 x9 x15 (ix2 t c) = softplus (x3 (ix2 t ⟨(headOf c).val, by have := (headOf c).isLt; omega⟩) + x9 (ix2 0 (headOf c))) := by
  pointwise [w118, k0_pay21, k0_pay18, k0_pay16, k0_pay17, k0_pay15]
  simp only [h15, mul_ite, mul_one, mul_zero, Finset.sum_ite_eq', Finset.mem_univ, if_true]
  rfl

theorem w121_apply (x3 : Vec Ideal S16x256 .f32) (x9 x10 : Vec Ideal S1x64 .f32) (x16 : Vec Ideal S64x1024 .f32)
    (h16 : ∀ (x : Fin 64) (j : Fin 1024), x16 (ix2 x j) = if x = ⟨j.val / 16, by have := j.isLt; omega⟩ then 1 else 0) (t : Fin 16) (j : Fin 1024) :
    w121 x3 x9 x10 x16 (ix2 t j) = upTo (fun s => softplus (x3 (ix2 s ⟨j.val / 16, by have := j.isLt; omega⟩) + x9 (ix2 0 ⟨j.val / 16, by have := j.isLt; omega⟩))
      * (0 - Ideal.exp (x10 (ix2 0 ⟨j.val / 16, by have := j.isLt; omega⟩)))) t := by
  pointwise [w121, k0_pay22, k0_pay19, k0_pay18, k0_pay16, k0_pay17, k0_pay15]
  simp only [h16, mask_le, sitofp_bit, mul_ite, mul_one, mul_zero, Finset.sum_ite_eq', Finset.mem_univ, if_true, ite_mul, one_mul, zero_mul]
  rfl

theorem sum_two (f : Fin 32 → EReal) : ∑ x : Fin 32, f x = ∑ s : Fin 16, f ⟨s.val, by have := s.isLt; omega⟩ + ∑ s : Fin 16, f ⟨16 + s.val, by have := s.isLt; omega⟩ :=
  Fin.sum_univ_add (a := 16) (b := 16) f

theorem w196_apply (x4 : Vec Ideal S1x32x32 .f32) (x11 x12 : Vec Ideal S32x32 .f32) (u : Fin 16 → Fin 64 → EReal) (a : Fin 64 → EReal)
    (hu : ∀ (i x : Fin 32), x4 (ix3 0 i x) + x11 (ix2 i x) = u ⟨x.val % 16, by omega⟩ ⟨2 * i.val + x.val / 16, by have := i.isLt; have := x.isLt; omega⟩)
    (ha : ∀ (i x : Fin 32), x12 (ix2 i x) = a ⟨2 * i.val + x.val / 16, by have := i.isLt; have := x.isLt; omega⟩) (i j : Fin 32) :
    w196 x4 x11 x12 (ix2 i j) = upTo (fun s => softplus (u s ⟨2 * i.val + j.val / 16, by have := i.isLt; have := j.isLt; omega⟩)
        * (0 - Ideal.exp (a ⟨2 * i.val + j.val / 16, by have := i.isLt; have := j.isLt; omega⟩))) ⟨j.val % 16, by omega⟩ := by
  have hi := i.isLt
  have hj := j.isLt
  pointwise [w196, k0_pay30, k0_pay25, k0_pay24, k0_pay23]
  simp only [mask_block, sitofp_bit, hu, ha, mul_ite, mul_one, mul_zero]
  rw [sum_two]
  unfold upTo
  have hs : ∀ s : Fin 16, (16 + s.val) % 16 = s.val ∧ s.val % 16 = s.val ∧ (16 + s.val) / 16 = 1 ∧ s.val / 16 = 0 := fun s => by
    have := s.isLt; omega
  by_cases hjj : j.val < 16
  · have h0 : j.val / 16 = 0 := by omega
    have h1 : j.val % 16 = j.val := by omega
    refine (congrArg₂ (· + ·) (Finset.sum_congr rfl fun s _ => ?_) (Finset.sum_eq_zero fun s _ => if_neg (by simp [hs s, h0]))).trans (add_zero _)
    simp only [hs s, h0, h1, true_and, Fin.eta, Fin.le_def]
    rfl
  · have h0 : j.val / 16 = 1 := by omega
    refine (congrArg₂ (· + ·) (Finset.sum_eq_zero fun s _ => if_neg (by simp [hs s, h0])) (Finset.sum_congr rfl fun s _ => ?_)).trans (zero_add _)
    have h1 : (16 + s.val ≤ j.val) = (s.val ≤ j.val % 16) := by have := s.isLt; simp only [eq_iff_iff]; omega
    simp only [hs s, h0, h1, true_and, Fin.eta, Fin.le_def]
    rfl

theorem w272_apply (x1 : Vec Ideal S16x4096 .f32) (x3 : Vec Ideal S16x256 .f32) (x5 : Vec Ideal S1x3x6144 .f32) (x7 : Vec Ideal S4x6144 .f32)
    (x8 : Vec Ideal S1x6144 .f32) (x9 : Vec Ideal S1x64 .f32) (x15 : Vec Ideal S64x4096 .f32) (i : S16x4096.Idx) :
    w272 x1 x3 x5 x7 x8 x9 x15 i = w41 x1 x5 x7 x8 i * w118 x3 x9 x15 i := by
  pointwise [w272, k0_pay36]

end Cert.KernelIdeal.Ssd
end
-- ==== Proof.SsdOut.lean ====
module

public import Idealize.ShloMosaic.Lib.Pipeline.ValueKit.Tiles
public import proofs.«01_k».proof.Proof.SsdVec

@[expose] public section

set_option maxRecDepth 16384

noncomputable section

namespace Cert.KernelIdeal.Ssd

open Cert.KernelIdeal Cert.KernelIdeal.Gen Idealize.ShloMosaic Idealize.ShloMosaic.TcCoe Idealize.SL.Sem
open Idealize.ShloMosaic.Pointwise

/-! ## What the three outputs' buffers hold after one sequence -/

section

variable {k : Chunk} {v41 : FVec Ideal S16x4096 .f32} {v72 : FVec Ideal S16x2048 .f32} {v115 : FVec Ideal S16x4096 .f32}
  {v121 : FVec Ideal S16x1024 .f32} {v196 : FVec Ideal S32x32 .f32} {v272 : FVec Ideal S16x4096 .f32}
  (R : Reads k v41 v72 v115 v121 v196 k0_pay31 w266 k0_pay35 v272)
  (x6 : Vec Ideal S1x4096x128 .f32) (h6 : ∀ c n, x6 (ix3 0 c n) = k.h c n)

include R h6

theorem statePieces_apply (n : ℕ) (hn : n ≤ 8) (c : Fin 4096) (j : Fin 128) :
    View.canon (statePieces v72 v115 v272 x6 n hn) (ix3 0 c j) = if c.val < 512 * n then k.hNext c j else k.h c j := by
  have hc := c.isLt
  induction n generalizing c with
  | zero =>
    simp only [statePieces, Nat.mul_zero, Nat.not_lt_zero, if_false]
    have e : ix3 (0 : Fin 1) c j = (Rect.unit (s := S1x4096x128) ![0, 0, 0] S1x4096x128.size inb_S1x4096x128_S1x4096x128_0_0_0).emb (ix3 (0 : Fin 1) c j) := by
      funext a; fin_cases a <;> apply Fin.ext <;> simp [Rect.emb_apply]
    rw [e, View.canon_cons_emb]
    pointwise [k0_pay4]
    exact h6 c j
  | succ n ih =>
    simp only [statePieces]
    by_cases hm : 512 * n ≤ c.val ∧ c.val < 512 * (n + 1)
    · rw [if_pos hm.2]
      have e : ix3 (0 : Fin 1) c j = (Rect.unit (s := S1x4096x128) ![0, 512 * n, 0] S1x512x128.size (rowsH n hn)).emb
          (ix3 (0 : Fin 1) (⟨c.val - 512 * n, by omega⟩ : Fin 512) j) := by
        funext a; fin_cases a <;> apply Fin.ext <;> simp [Rect.emb_apply]; omega
      have ec : chan ⟨n, hn⟩ ⟨c.val - 512 * n, by omega⟩ = c := by apply Fin.ext; simp only [chan]; omega
      rw [e, View.canon_cons_emb, grpH_apply R, ec]
      rw [View.ld_unit_apply_of _ _ _ _ _ (ix3 0 c j) (fun a => by fin_cases a <;> simp; omega), ih (by omega) c hc, if_neg (by omega), ec]
    · rw [View.canon_cons_of_not_mem _ _ (by
        rw [Rect.mem_set_unit]; intro hh; have := hh 1; simp at this; omega)]
      rw [ih (by omega) c hc]
      by_cases h1 : c.val < 512 * n
      · rw [if_pos h1, if_pos (by omega)]
      · rw [if_neg h1, if_neg (by omega)]

theorem statePieces_ld (n : ℕ) (hn : n < 8) (p : Fin 512) (j : Fin 128) :
    View.ld (View.canon (statePieces v72 v115 v272 x6 n (Nat.le_of_lt hn))) (Rect.unit ![0, 512 * n, 0] S1x512x128.size (rowsH n hn)) (ix3 0 p j)
      = k.h (chan ⟨n, hn⟩ p) j := by
  rw [View.ld_unit_apply_of _ _ _ _ _ (ix3 0 (chan ⟨n, hn⟩ p) j) (fun a => by fin_cases a <;> simp [chan])]
  rw [statePieces_apply R x6 h6, if_neg (by simp [chan])]

/-- A channel's place in its group. -/
def placeOf (c : Fin 4096) : Fin 512 := ⟨c.val % 512, by omega⟩

omit R h6 in
theorem chan_placeOf (c : Fin 4096) : chan (groupOf c) (placeOf c) = c := by
  apply Fin.ext; simp only [chan, groupOf, placeOf]; omega

theorem outPieces_apply (x0 : Vec Ideal S16x4096 .f32) (x13 x14 : Vec Ideal S1x4096 .f32) (d : Fin 64 → EReal)
    (h13 : ∀ c, x13 (ix2 0 c) = d (headOf c)) (n : ℕ) (hn : n ≤ 8) (t : Fin 16) (c : Fin 4096) (hcn : c.val < 512 * n) :
    View.canon (outPieces v41 v72 v115 v121 v196 v272 x0 x6 x13 x14 n hn) (ix2 t c)
      = norm (fun x => gate (k.y d t (chan (groupOf c) x)) (x0 (ix2 t (chan (groupOf c) x)))) (x14 (ix2 0 c)) (placeOf c) := by
  have hc := c.isLt
  induction n generalizing c with
  | zero => omega
  | succ n ih =>
    simp only [outPieces]
    by_cases hm : 512 * n ≤ c.val
    · have e : ix2 t c = (Rect.unit (s := S16x4096) ![0, 512 * n] S16x512.size (colsY n hn)).emb (ix2 t (placeOf c)) := by
        funext a; fin_cases a <;> apply Fin.ext <;> simp [Rect.emb_apply, placeOf]; omega
      have eg : groupOf c = ⟨n, hn⟩ := by apply Fin.ext; simp only [groupOf]; omega
      have e14 : View.ld x14 (Rect.unit ![0, 512 * n] S1x512.size (colsP n hn)) (ix2 0 (placeOf c)) = x14 (ix2 0 c) :=
        View.ld_unit_apply_of _ _ _ _ _ _ (fun a => by fin_cases a <;> simp [placeOf]; omega)
      rw [e, View.canon_cons_emb, grpNorm_apply, e14, eg]
      congr 1
      funext x
      rw [grpGate_apply, grpY_apply R ⟨n, hn⟩ _ _ t x d ?_ (fun j => statePieces_ld R x6 h6 n hn x j)]
      · rw [View.ld_unit_apply_of _ _ _ _ _ (ix2 t (chan ⟨n, hn⟩ x)) (fun a => by fin_cases a <;> simp [chan])]
      · rw [← h13]
        exact View.ld_unit_apply_of _ _ _ _ _ _ (fun a => by fin_cases a <;> simp [chan])
    · rw [View.canon_cons_of_not_mem _ _ (by
        rw [Rect.mem_set_unit]; intro hh; have := hh 1; simp at this; omega)]
      exact ih (by omega) c (by omega) hc

end

/-- The rows carried to the next chunk. -/
theorem tailPieces_apply (x1 : Vec Ideal S16x4096 .f32) (x2 : Vec Ideal S16x2048 .f32) (x5 : Vec Ideal S1x3x6144 .f32) (s : Fin 3) (c : Fin 6144) :
    View.canon ([⟨Rect.unit ![0, 0, 4096] S1x3x2048.size inb_S1x3x6144_S1x3x2048_0_0_4096,
          k0_pay12 (View.ld (extB x2 x5) (Rect.unit ![21, 0] S3x2048.size inb_S24x2048_S3x2048_21_0))⟩,
        ⟨Rect.unit ![0, 0, 0] S1x3x4096.size inb_S1x3x6144_S1x3x4096_0_0_0,
          k0_pay11 (View.ld (extA x1 x5) (Rect.unit ![21, 0] S3x4096.size inb_S24x4096_S3x4096_21_0))⟩] : List (View.Piece (Elt Ideal) S1x3x6144 .f32))
      (ix3 0 s c)
    = if h : c.val < 4096 then x1 (ix2 ⟨13 + s.val, by have := s.isLt; omega⟩ ⟨c.val, h⟩)
      else x2 (ix2 ⟨13 + s.val, by have := s.isLt; omega⟩ ⟨c.val - 4096, by have := c.isLt; omega⟩) := by
  have hs := s.isLt
  have hc := c.isLt
  split
  · rename_i h
    rw [View.canon_cons_of_not_mem _ _ (by
      rw [Rect.mem_set_unit]; intro hh; have := hh 2; simp at this; omega)]
    have e : ix3 (0 : Fin 1) s c = (Rect.unit (s := S1x3x6144) ![0, 0, 0] S1x3x4096.size inb_S1x3x6144_S1x3x4096_0_0_0).emb (ix3 (0 : Fin 1) s (⟨c.val, h⟩ : Fin 4096)) := by
      funext a; fin_cases a <;> apply Fin.ext <;> simp [Rect.emb_apply]
    rw [e, View.canon_cons_emb]
    pointwise [k0_pay11]
    rw [extA_apply x1 x5 ⟨16 + s.val, by omega⟩ _ _ (by show 21 + s.val = 5 + (16 + s.val); omega), extRow, dif_neg (by show ¬ 16 + s.val < 3; omega)]
    have er : (⟨16 + s.val - 3, by omega⟩ : Fin 16) = ⟨13 + s.val, by omega⟩ := Fin.ext (by show 16 + s.val - 3 = 13 + s.val; omega)
    rw [er]
  · rename_i h
    have e : ix3 (0 : Fin 1) s c = (Rect.unit (s := S1x3x6144) ![0, 0, 4096] S1x3x2048.size inb_S1x3x6144_S1x3x2048_0_0_4096).emb
        (ix3 (0 : Fin 1) s (⟨c.val - 4096, by omega⟩ : Fin 2048)) := by
      funext a; fin_cases a <;> apply Fin.ext <;> simp [Rect.emb_apply]; omega
    rw [e, View.canon_cons_emb]
    pointwise [k0_pay12]
    rw [extB_apply x2 x5 ⟨16 + s.val, by omega⟩ _ _ (by show 21 + s.val = 5 + (16 + s.val); omega), extRow, dif_neg (by show ¬ 16 + s.val < 3; omega)]
    have er : (⟨16 + s.val - 3, by omega⟩ : Fin 16) = ⟨13 + s.val, by omega⟩ := Fin.ext (by show 16 + s.val - 3 = 13 + s.val; omega)
    rw [er]

end Cert.KernelIdeal.Ssd
end
-- ==== Proof.SsdSpec.lean ====
module

public import proofs.«01_k».proof.Proof.SsdOut

@[expose] public section

noncomputable section

namespace Cert.KernelIdeal.Ssd

open Idealize.ShloMosaic

/-- The arguments of the mixer, as functions of their coordinates: the main projections, the small ones, the carried rows,
    the carried states, and the parameters. -/
structure Args where
  zx : Fin 8704 → Fin 25600 → EReal
  us : Fin 8704 → Fin 256 → EReal
  conv : Fin 32 → Fin 3 → Fin 6144 → EReal
  ssm : Fin 32 → Fin 64 → Fin 64 → Fin 128 → EReal
  cw : Fin 4 → Fin 6144 → EReal
  cb : Fin 6144 → EReal
  dtb : Fin 64 → EReal
  al : Fin 64 → EReal
  dsk : Fin 64 → EReal
  ng : Fin 4096 → EReal

namespace Args

variable (a : Args)

/-- Row `t` of sequence `b`. -/
def row (b : Fin 32) (t : Fin 16) : Fin 8704 := ⟨8192 + (16 * b.val + t.val), by have := b.isLt; have := t.isLt; omega⟩

/-- A column of the gate, -/
def colZ (c : Fin 4096) : Fin 25600 := ⟨c.val, by have := c.isLt; omega⟩
/-- of the mixer's inputs and projections, in the order of the convolution's channels, -/
def colX (c : Fin 6144) : Fin 25600 := if c.val < 4096 then ⟨4096 + c.val, by have := c.isLt; omega⟩ else ⟨20480 + (c.val - 4096), by have := c.isLt; omega⟩
/-- the convolution's channel of an input, -/
def chX (c : Fin 4096) : Fin 6144 := ⟨c.val, by have := c.isLt; omega⟩
/-- and of a projection. -/
def chB (c : Fin 2048) : Fin 6144 := ⟨4096 + c.val, by have := c.isLt; omega⟩
/-- A step size's column. -/
def colD (h : Fin 64) : Fin 256 := ⟨h.val, by have := h.isLt; omega⟩

/-- The convolution's output. -/
def conved (b : Fin 32) (t : Fin 16) (c : Fin 6144) : EReal :=
  silu (convAt (extRow (fun s => a.conv b s c) (fun s => a.zx (row b s) (colX c))) (fun j => a.cw j c) (a.cb c) t)

/-- The step sizes. -/
def dt (b : Fin 32) (t : Fin 16) (h : Fin 64) : EReal := softplus (a.us (row b t) (colD h) + a.dtb h)

/-- The chunk of sequence `b`. -/
def chunk (b : Fin 32) : Chunk where
  xc t c := a.conved b t (chX c)
  bc t c := a.conved b t (chB c)
  dt := a.dt b
  ac t h := upTo (fun s => a.dt b s h * (0 - Ideal.exp (a.al h))) t
  h c n := a.ssm b (headOf c) ⟨c.val % 64, by omega⟩ n

/-- The mixer's output, -/
def out (b : Fin 32) (t : Fin 16) (c : Fin 4096) : EReal :=
  norm (fun x => gate ((a.chunk b).y a.dsk t (chan (groupOf c) x)) (a.zx (row b t) (colZ (chan (groupOf c) x)))) (a.ng c) (placeOf c)

/-- the rows carried on, -/
def convNext (b : Fin 32) (s : Fin 3) (c : Fin 6144) : EReal := a.zx (row b ⟨13 + s.val, by have := s.isLt; omega⟩) (colX c)

/-- and the states carried on. -/
def ssmNext (b : Fin 32) (h p : Fin 64) (n : Fin 128) : EReal :=
  (a.chunk b).hNext ⟨64 * h.val + p.val, by have := h.isLt; have := p.isLt; omega⟩ n

end Args

end Cert.KernelIdeal.Ssd
end
-- ==== Proof.SsdKernel.lean ====
module

public import Idealize.ShloMosaic.Lib.Pipeline.ValueKit
public import proofs.«01_k».proof.Proof.SsdSpec

@[expose] public section

set_option maxRecDepth 16384

noncomputable section

namespace Cert.KernelIdeal.Ssd

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)

/-- The mixer's arguments as a core finds them. -/
def args : Args where
  zx r l := m ((c : Thread nD τ).loc main_arg0) (ix2 r l)
  us r l := m ((c : Thread nD τ).loc main_arg1) (ix2 r l)
  conv b s l := m ((c : Thread nD τ).loc main_arg2) (ix3 b s l)
  ssm b h p n := m ((c : Thread nD τ).loc main_arg3) (ix4 b h p n)
  cw j l := m ((c : Thread nD τ).loc main_arg4) (ix2 j l)
  cb l := m ((c : Thread nD τ).loc main_arg5) (ix1 l)
  dtb h := m ((c : Thread nD τ).loc main_arg6) (ix1 h)
  al h := m ((c : Thread nD τ).loc main_arg7) (ix1 h)
  dsk h := m ((c : Thread nD τ).loc main_arg8) (ix1 h)
  ng l := m ((c : Thread nD τ).loc main_arg9) (ix1 l)

/-- A grid point's sequence. -/
def seqOf (t : Fin cfg0.N) : Fin 32 := t

theorem idx0 : ∀ t : Fin cfg0.N, win0_0.index t = ![512 + t.val, 0] := by decide +kernel
theorem idx1 : ∀ t : Fin cfg0.N, win0_1.index t = ![512 + t.val, 1] := by decide +kernel
theorem idx2 : ∀ t : Fin cfg0.N, win0_2.index t = ![512 + t.val, 10] := by decide +kernel
theorem idx3 : ∀ t : Fin cfg0.N, win0_3.index t = ![512 + t.val, 0] := by decide +kernel
theorem idx4 : ∀ t : Fin cfg0.N, win0_4.index t = ![t.val, 0, 0] := by decide +kernel
theorem idx5 : ∀ t : Fin cfg0.N, win0_5.index t = ![t.val, 0, 0] := by decide +kernel
theorem idx6 : ∀ t : Fin cfg0.N, win0_6.index t = ![t.val, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![t.val, 0] := by decide +kernel
theorem idx18 : ∀ t : Fin cfg0.N, win0_18.index t = ![t.val, 0, 0] := by decide +kernel
theorem idx19 : ∀ t : Fin cfg0.N, win0_19.index t = ![t.val, 0, 0] := by decide +kernel

theorem blk0 (t : Fin cfg0.N) (r : Fin 16) (l : Fin 4096) : X0_0 m c t (ix2 r l) = (args m c).zx (Args.row (seqOf t) r) (Args.colZ l) := by
  unfold args X0_0 Pipeline.Window.fill
  rw [dif_pos (moved0_0 t _)]
  blk_ext! [iblk, V, idx0 t, Args.row, Args.colZ, seqOf]

theorem blk1 (t : Fin cfg0.N) (r : Fin 16) (l : Fin 4096) : X0_1 m c t (ix2 r l) = (args m c).zx (Args.row (seqOf t) r) (Args.colX (Args.chX l)) := by
  have hl := l.isLt
  have e : Args.colX (Args.chX l) = ⟨4096 + l.val, by omega⟩ := if_pos hl
  rw [e]
  unfold args X0_1 Pipeline.Window.fill
  rw [dif_pos (moved0_1 t _)]
  blk_ext! [iblk, V, idx1 t, Args.row, seqOf]

theorem blk2 (t : Fin cfg0.N) (r : Fin 16) (l : Fin 2048) : X0_2 m c t (ix2 r l) = (args m c).zx (Args.row (seqOf t) r) (Args.colX (Args.chB l)) := by
  have hl := l.isLt
  have e : Args.colX (Args.chB l) = ⟨20480 + l.val, by omega⟩ := by
    unfold Args.colX
    rw [if_neg (by show ¬ 4096 + l.val < 4096; omega)]
    apply Fin.ext; show 20480 + (4096 + l.val - 4096) = 20480 + l.val; omega
  rw [e]
  unfold args X0_2 Pipeline.Window.fill
  rw [dif_pos (moved0_2 t _)]
  blk_ext! [iblk, V, idx2 t, Args.row, seqOf]

theorem blk3 (t : Fin cfg0.N) (r : Fin 16) (l : Fin 256) : iblk m c 3 t (ix2 r l) = (args m c).us (Args.row (seqOf t) r) l := by
  unfold args
  blk_ext! [iblk, V, idx3 t, Args.row, Args.colD, Args.colZ, seqOf]

theorem blk4 (t : Fin cfg0.N) (i x : Fin 32) : iblk m c 4 t (ix3 0 i x) = (args m c).us (Args.row (seqOf t) ⟨x.val % 16, by omega⟩)
    (Args.colD ⟨2 * i.val + x.val / 16, by have := i.isLt; have := x.isLt; omega⟩) := by
  unfold args
  blk_ext! [iblk, V, idx4 t, Args.row, Args.colD, Args.colZ, seqOf]

theorem blk5 (t : Fin cfg0.N) (s : Fin 3) (l : Fin 6144) : iblk m c 5 t (ix3 0 s l) = (args m c).conv (seqOf t) s l := by
  unfold args
  blk_ext! [iblk, V, idx5 t, Args.row, Args.colD, Args.colZ, seqOf]

theorem blk6 (t : Fin cfg0.N) (l : Fin 4096) (n : Fin 128) : iblk m c 6 t (ix3 0 l n) = (args m c).ssm (seqOf t) (headOf l) ⟨l.val % 64, by omega⟩ n := by
  unfold args
  blk_ext! [iblk, V, idx6 t, seqOf, headOf]

theorem blk7 (t : Fin cfg0.N) (s : Fin 4) (l : Fin 6144) : iblk m c 7 t (ix2 s l) = (args m c).cw s l := by
  unfold args
  blk_ext! [iblk, V, idx7 t, Args.row, Args.colD, Args.colZ, seqOf]

theorem blk8 (t : Fin cfg0.N) (l : Fin 6144) : iblk m c 8 t (ix2 0 l) = (args m c).cb l := by
  unfold args
  blk_ext! [iblk, V, idx8 t, Args.row, Args.colD, Args.colZ, seqOf]

theorem blk9 (t : Fin cfg0.N) (l : Fin 64) : iblk m c 9 t (ix2 0 l) = (args m c).dtb l := by
  unfold args
  blk_ext! [iblk, V, idx9 t, Args.row, Args.colD, Args.colZ, seqOf]

theorem blk10 (t : Fin cfg0.N) (l : Fin 64) : iblk m c 10 t (ix2 0 l) = (args m c).al l := by
  unfold args
  blk_ext! [iblk, V, idx10 t, Args.row, Args.colD, Args.colZ, seqOf]

theorem blk11 (t : Fin cfg0.N) (i x : Fin 32) : iblk m c 11 t (ix2 i x) = (args m c).dtb ⟨2 * i.val + x.val / 16, by have := i.isLt; have := x.isLt; omega⟩ := by
  unfold args
  blk_ext! [iblk, V, idx11 t, Args.row, Args.colD, Args.colZ, seqOf]

theorem blk12 (t : Fin cfg0.N) (i x : Fin 32) : iblk m c 12 t (ix2 i x) = (args m c).al ⟨2 * i.val + x.val / 16, by have := i.isLt; have := x.isLt; omega⟩ := by
  unfold args
  blk_ext! [iblk, V, idx12 t, Args.row, Args.colD, Args.colZ, seqOf]

theorem blk13 (t : Fin cfg0.N) (l : Fin 4096) : iblk m c 13 t (ix2 0 l) = (args m c).dsk (headOf l) := by
  unfold args
  blk_ext! [iblk, V, idx13 t, headOf]

theorem blk14 (t : Fin cfg0.N) (l : Fin 4096) : iblk m c 14 t (ix2 0 l) = (args m c).ng l := by
  unfold args
  blk_ext! [iblk, V, idx14 t, Args.row, Args.colD, Args.colZ, seqOf]

theorem uitofp_bit (p : Prop) [Decidable p] :
    (FloatOps.uitofp (F := Ideal) FTy.f32 (if p then 1#1 else 0#1) : EReal) = if p then 1 else 0 := by
  split
  · show ((((1#1 : BitVec 1).toNat : ℕ) : ℝ) : EReal) = 1
    norm_num
  · show ((((0#1 : BitVec 1).toNat : ℕ) : ℝ) : EReal) = 0
    norm_num

theorem mask_eq : ∀ i h : Fin 64, IntOp.cmpi CmpIPredicate.eq (IntOp.addi (BitVec.ofNat 32 i.val) 0#32) (BitVec.ofNat 32 h.val)
    = if i = h then 1#1 else 0#1 := by decide +kernel

theorem eye (i h : Fin 64) (i' h' : ℕ) (hi : i' = i.val) (hh : h' = h.val) :
    (FloatOps.uitofp (F := Ideal) FTy.f32 (IntOp.cmpi CmpIPredicate.eq (IntOp.addi (BitVec.ofNat 32 i') 0#32) (BitVec.ofNat 32 h')) : EReal)
      = if i = h then 1 else 0 := by
  subst hi hh
  rw [mask_eq]
  exact uitofp_bit _

theorem blk15 (t : Fin cfg0.N) (i : Fin 64) (l : Fin 4096) : iblk m c 15 t (ix2 i l) = (if i = headOf l then 1 else 0 : EReal) := by
  blk_simp [iblk, V]
  entry_read
  pointwise
  refine eye i (headOf l) _ _ ?_ ?_
  · blk_simp [idx15 t]
  · blk_simp [idx15 t]; rfl

theorem blk16 (t : Fin cfg0.N) (i : Fin 64) (j : Fin 1024) :
    iblk m c 16 t (ix2 i j) = (if i = ⟨j.val / 16, by have := j.isLt; omega⟩ then 1 else 0 : EReal) := by
  blk_simp [iblk, V]
  entry_read
  pointwise
  refine eye i ⟨j.val / 16, by have := j.isLt; omega⟩ _ _ ?_ ?_
  · blk_simp [idx16 t]
  · blk_simp [idx16 t]

end Cert.KernelIdeal.Ssd
end
-- ==== Proof.SsdRun.lean ====
module

public import proofs.«01_k».proof.Proof.SsdKernel

@[expose] public section

set_option maxRecDepth 16384

noncomputable section

namespace Cert.KernelIdeal.Ssd

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)

theorem reads (t : Fin cfg0.N) : Reads ((args m c).chunk (seqOf t))
    (w41 (X0_1 m c t) (iblk m c 5 t) (iblk m c 7 t) (iblk m c 8 t)) (w72 (X0_2 m c t) (iblk m c 5 t) (iblk m c 7 t) (iblk m c 8 t))
    (w115 (iblk m c 3 t) (iblk m c 9 t) (iblk m c 10 t) (iblk m c 15 t)) (w121 (iblk m c 3 t) (iblk m c 9 t) (iblk m c 10 t) (iblk m c 16 t))
    (w196 (iblk m c 4 t) (iblk m c 11 t) (iblk m c 12 t)) k0_pay31 w266 k0_pay35
    (w272 (X0_1 m c t) (iblk m c 3 t) (iblk m c 5 t) (iblk m c 7 t) (iblk m c 8 t) (iblk m c 9 t) (iblk m c 15 t)) where
  r41 s l := by
    rw [w41_apply]
    simp only [blk1, blk5, blk7, blk8]
    rfl
  r72 s l := by
    rw [w72_apply]
    simp only [blk2, blk5, blk7, blk8]
    rfl
  r115 s l := by
    rw [w115_apply _ _ _ _ (blk15 m c t)]
    simp only [blk3, blk9, blk10]
    rfl
  r121 s j := by
    rw [w121_apply _ _ _ _ (blk16 m c t)]
    simp only [blk3, blk9, blk10]
    rfl
  r196 i j := by
    rw [w196_apply _ _ _ (fun s h => (args m c).us (Args.row (seqOf t) s) (Args.colD h) + (args m c).dtb h) (args m c).al
      (fun i x => by rw [blk4, blk11]) (fun i x => blk12 m c t i x)]
    rfl
  r215 := mask_pair
  r266 := mask_half
  r271 := last_apply
  r272 s l := by
    rw [w272_apply, w41_apply, w118_apply _ _ _ (blk15 m c t)]
    simp only [blk1, blk5, blk7, blk8, blk3, blk9]
    rfl

/-- The output's array after the run, -/
theorem out_eq : (dats m 0 c).arrAt 17 cfg0.N
    = fun i : S512x4096.Idx => (args m c).out ⟨(i 0).val / 16, by have := (i 0).isLt; simp at this; omega⟩ ⟨(i 0).val % 16, by omega⟩ (i 1) := by
  refine (dats m 0 c).arrAt_eq_of_covers 17 _ (by decide +kernel) fun t hf y => ?_
  show (dats m 0 c).flushed 17 t y = _
  rw [Value.flushed17_A, out17_eq]
  have h0 : (y 0).val < 16 := (y 0).isLt
  have h1 : (y 1).val < 4096 := (y 1).isLt
  have e : (cfg0.win 17).xinj (grid0.coords t) y = ix2 (⟨(y 0).val, h0⟩ : Fin 16) (⟨(y 1).val, h1⟩ : Fin 4096) := by
    funext a; fin_cases a <;> rfl
  show View.canon _ ((cfg0.win 17).xinj (grid0.coords t) y) = _
  rw [e, outPieces_apply (reads m c t) _ (fun l n => blk6 m c t l n) _ _ _ _ (fun l => blk13 m c t l) 8 le_rfl _ _ (by show (y 1).val < 4096; exact h1)]
  simp only [blk0, blk14]
  have ht : t.val < 32 := t.isLt
  have e0 : (⟨(((cfg0.win 17).blk t).view.emb y 0).val / 16, by blk_simp [idx17 t]; omega⟩ : Fin 32) = seqOf t := by
    apply Fin.ext; show (((cfg0.win 17).blk t).view.emb y 0).val / 16 = t.val; blk_simp [idx17 t]; omega
  have e1 : (⟨(((cfg0.win 17).blk t).view.emb y 0).val % 16, by omega⟩ : Fin 16) = ⟨(y 0).val, h0⟩ := by
    apply Fin.ext; show (((cfg0.win 17).blk t).view.emb y 0).val % 16 = (y 0).val; blk_simp [idx17 t]; omega
  have e2 : ((cfg0.win 17).blk t).view.emb y 1 = (⟨(y 1).val, h1⟩ : Fin 4096) := by
    apply Fin.ext; blk_simp [idx17 t]
  show _ = (args m c).out ⟨(((cfg0.win 17).blk t).view.emb y 0).val / 16, _⟩ ⟨(((cfg0.win 17).blk t).view.emb y 0).val % 16, _⟩ (((cfg0.win 17).blk t).view.emb y 1)
  rw [e0, e1, e2]
  rfl

/-- the carried rows' -/
theorem conv_eq : (dats m 0 c).arrAt 18 cfg0.N
    = fun i : S32x3x6144.Idx => (args m c).convNext (i 0) (i 1) (i 2) := by
  refine (dats m 0 c).arrAt_eq_of_covers 18 _ (by decide +kernel) fun t hf y => ?_
  show (dats m 0 c).flushed 18 t y = _
  rw [Value.flushed18_A, out18_eq]
  have h0 : (y 0).val < 1 := (y 0).isLt
  have h1 : (y 1).val < 3 := (y 1).isLt
  have h2 : (y 2).val < 6144 := (y 2).isLt
  have e : (cfg0.win 18).xinj (grid0.coords t) y = ix3 (0 : Fin 1) (⟨(y 1).val, h1⟩ : Fin 3) (⟨(y 2).val, h2⟩ : Fin 6144) := by
    funext a; fin_cases a
    · apply Fin.ext; show (y 0).val = 0; omega
    · rfl
    · rfl
  have e0 : ((cfg0.win 18).blk t).view.emb y 0 = seqOf t := by
    apply Fin.ext; show (((cfg0.win 18).blk t).view.emb y 0).val = t.val; blk_simp [idx18 t]
  have e1 : ((cfg0.win 18).blk t).view.emb y 1 = (⟨(y 1).val, h1⟩ : Fin 3) := by
    apply Fin.ext; blk_simp [idx18 t]
  have e2 : ((cfg0.win 18).blk t).view.emb y 2 = (⟨(y 2).val, h2⟩ : Fin 6144) := by
    apply Fin.ext; blk_simp [idx18 t]
  show View.canon _ ((cfg0.win 18).xinj (grid0.coords t) y) = _
  rw [e, tailPieces_apply]
  simp only [blk1, blk2]
  rw [e0, e1, e2]
  unfold Args.convNext
  split
  · rfl
  · rename_i h
    have eb : Args.chB ⟨(y 2).val - 4096, by have := h2; omega⟩ = ⟨(y 2).val, h2⟩ := by
      apply Fin.ext; show 4096 + ((y 2).val - 4096) = (y 2).val; have h' : ¬ (y 2).val < 4096 := h; omega
    rw [eb]

/-- and the states'. -/
theorem ssm_eq : (dats m 0 c).arrAt 19 cfg0.N
    = fun i : S32x4096x128.Idx => ((args m c).chunk (i 0)).hNext (i 1) (i 2) := by
  refine (dats m 0 c).arrAt_eq_of_covers 19 _ (by decide +kernel) fun t hf y => ?_
  show (dats m 0 c).flushed 19 t y = _
  rw [Value.flushed19_A, out19_eq]
  have h0 : (y 0).val < 1 := (y 0).isLt
  have h1 : (y 1).val < 4096 := (y 1).isLt
  have h2 : (y 2).val < 128 := (y 2).isLt
  have e : (cfg0.win 19).xinj (grid0.coords t) y = ix3 (0 : Fin 1) (⟨(y 1).val, h1⟩ : Fin 4096) (⟨(y 2).val, h2⟩ : Fin 128) := by
    funext a; fin_cases a
    · apply Fin.ext; show (y 0).val = 0; omega
    · rfl
    · rfl
  have e0 : ((cfg0.win 19).blk t).view.emb y 0 = seqOf t := by
    apply Fin.ext; show (((cfg0.win 19).blk t).view.emb y 0).val = t.val; blk_simp [idx19 t]
  have e1 : ((cfg0.win 19).blk t).view.emb y 1 = (⟨(y 1).val, h1⟩ : Fin 4096) := by
    apply Fin.ext; blk_simp [idx19 t]
  have e2 : ((cfg0.win 19).blk t).view.emb y 2 = (⟨(y 2).val, h2⟩ : Fin 128) := by
    apply Fin.ext; blk_simp [idx19 t]
  show View.canon _ ((cfg0.win 19).xinj (grid0.coords t) y) = _
  rw [e, statePieces_apply (reads m c t) _ (fun l n => blk6 m c t l n), if_pos (by show (y 1).val < 4096; exact h1)]
  rw [e0, e1, e2]

end Cert.KernelIdeal.Ssd
end
-- ==== Proof.SsdCumsum.lean ====
module

public import proofs.«01_k».proof.Proof.Gen.ReferenceIdeal.Read
public import Idealize.ShloMosaic.Lib.Pointwise

@[expose] public section

set_option maxRecDepth 16384

noncomputable section

namespace Cert.ReferenceIdeal.Ssd

open Cert.ReferenceIdeal Cert.ReferenceIdeal.Gen Idealize.ShloMosaic Idealize.SL.Sem
open Idealize.ShloMosaic.Pointwise

theorem foldl_add {α : Type*} (g : α → EReal) (l : List α) (z : EReal) : l.foldl (fun r n => r + g n) z = z + (l.map g).sum := by
  induction l generalizing z with
  | nil => simp
  | cons a l ih => simp [ih, add_assoc]

/-- The places of a window of sixteen along the third of five axes. -/
def winEquiv : (⟨5, ![1, 1, 16, 1, 1]⟩ : Shape).Idx ≃ Fin 16 where
  toFun w := w 2
  invFun k := ix5 0 0 k 0 0
  left_inv w := by
    funext a
    fin_cases a
    · exact Subsingleton.elim (α := Fin 1) _ _
    · exact Subsingleton.elim (α := Fin 1) _ _
    · rfl
    · exact Subsingleton.elim (α := Fin 1) _ _
    · exact Subsingleton.elim (α := Fin 1) _ _
  right_inv k := rfl

/-- One place of the window: the entry it meets, nothing before the first step. -/
theorem place_apply (x : FVec Ideal S32x1x16x8x8 .f32) (b : Fin 32) (t : Fin 16) (g r : Fin 8) (w : (⟨5, ![1, 1, 16, 1, 1]⟩ : Shape).Idx) :
    (if hin : ∀ a : Fin 5, (![0, 0, 15, 0, 0] : Fin 5 → ℕ) a ≤ (ix5 b (0 : Fin 1) t g r a).val * (![1, 1, 1, 1, 1] : Fin 5 → ℕ) a + (w a).val ∧ (ix5 b (0 : Fin 1) t g r a).val * (![1, 1, 1, 1, 1] : Fin 5 → ℕ) a + (w a).val - (![0, 0, 15, 0, 0] : Fin 5 → ℕ) a < S32x1x16x8x8.size a
      then x (fun a => ⟨(ix5 b (0 : Fin 1) t g r a).val * (![1, 1, 1, 1, 1] : Fin 5 → ℕ) a + (w a).val - (![0, 0, 15, 0, 0] : Fin 5 → ℕ) a, (hin a).2⟩) else (0 : EReal))
      = if winEquiv w + (t + 1) ≤ t then x (ix5 b 0 (winEquiv w + (t + 1)) g r) else 0 := by
  obtain ⟨k, rfl⟩ : ∃ k, w = winEquiv.symm k := ⟨winEquiv w, (winEquiv.symm_apply_apply w).symm⟩
  rw [Equiv.apply_symm_apply]
  have hb := b.isLt
  have ht := t.isLt
  have hg := g.isLt
  have hr := r.isLt
  have hk := k.isLt
  have hs : (k + (t + 1)).val = (k.val + t.val + 1) % 16 := by simp [Fin.val_add]; omega
  by_cases hle : 15 ≤ t.val + k.val
  · have h1 : k + (t + 1) ≤ t := by rw [Fin.le_def, hs]; omega
    rw [if_pos h1, dif_pos]
    · congr 1
      funext a
      fin_cases a
      · exact Fin.ext (show b.val * 1 + 0 - 0 = b.val by omega)
      · rfl
      · exact Fin.ext (show t.val * 1 + k.val - 15 = (k + (t + 1)).val by rw [hs]; omega)
      · exact Fin.ext (show g.val * 1 + 0 - 0 = g.val by omega)
      · exact Fin.ext (show r.val * 1 + 0 - 0 = r.val by omega)
    · intro a
      fin_cases a
      · exact ⟨Nat.zero_le _, show b.val * 1 + 0 - 0 < 32 by omega⟩
      · exact ⟨Nat.zero_le _, show 0 * 1 + 0 - 0 < 1 by omega⟩
      · exact ⟨show 15 ≤ t.val * 1 + k.val by omega, show t.val * 1 + k.val - 15 < 16 by omega⟩
      · exact ⟨Nat.zero_le _, show g.val * 1 + 0 - 0 < 8 by omega⟩
      · exact ⟨Nat.zero_le _, show r.val * 1 + 0 - 0 < 8 by omega⟩
  · have h1 : ¬ k + (t + 1) ≤ t := by rw [Fin.le_def, hs]; omega
    rw [if_neg h1, dif_neg]
    intro hall
    have := (hall 2).1
    have : 15 ≤ t.val * 1 + k.val := this
    omega

/-- The running sum along the steps. -/
theorem cumsum_apply (x : FVec Ideal S32x1x16x8x8 .f32) (init : FVec Ideal S_ .f32) (hi : ∀ i, init i = (0 : EReal))
    (h : S32x1x16x8x8.ReduceWindows (![1, 1, 16, 1, 1] : Fin 5 → ℕ) ![1, 1, 1, 1, 1] ![0, 0, 15, 0, 0] ![0, 0, 0, 0, 0] S32x1x16x8x8)
    (b : Fin 32) (t : Fin 16) (g r : Fin 8) :
    Host.reduceWindowAdd ![1, 1, 16, 1, 1] ![1, 1, 1, 1, 1] ![0, 0, 15, 0, 0] ![0, 0, 0, 0, 0] x init h h_S_ (ix5 b 0 t g r)
      = ∑ s : Fin 16, if s ≤ t then x (ix5 b 0 s g r) else (0 : EReal) := by
  show Host.reduceWindow (fun a b : EReal => a + b) ![1, 1, 16, 1, 1] ![1, 1, 1, 1, 1] ![0, 0, 15, 0, 0] ![0, 0, 0, 0, 0] x init h h_S_ (ix5 b 0 t g r) = _
  unfold Host.reduceWindow
  simp only [hi]
  rw [foldl_add, zero_add, ← List.ofFn_eq_map, List.sum_ofFn]
  exact Fintype.sum_equiv ((Shape.rowMajor (⟨5, ![1, 1, 16, 1, 1]⟩ : Shape)).symm.trans (winEquiv.trans (Equiv.addRight (t + 1)))) _ _
    fun i => place_apply x b t g r _

end Cert.ReferenceIdeal.Ssd
end
-- ==== Proof.SsdRef.lean ====
module

public import proofs.«01_k».proof.Proof.SsdSpec
public import proofs.«01_k».proof.Proof.SsdCumsum
public import Idealize.ShloMosaic.Lib.Pointwise

@[expose] public section

set_option maxRecDepth 16384

noncomputable section

namespace Cert.ReferenceIdeal.Ssd

open Cert.ReferenceIdeal Cert.ReferenceIdeal.Gen Cert.ReferenceIdeal.Read Idealize.ShloMosaic.TcCoe Idealize.ShloMosaic.StableHlo Idealize.ShloMosaic Idealize.SL.Sem
open Idealize.ShloMosaic.Pointwise
open Cert.KernelIdeal.Ssd (Args Chunk silu softplus upTo extRow convAt gate norm headOf groupOf colB colC chan placeOf)

variable (x0 : FVec Ideal S8704x25600 .f32) (x1 : FVec Ideal S8704x256 .f32) (x2 : FVec Ideal S32x3x6144 .f32)
  (x3 : FVec Ideal S32x64x64x128 .f32) (x4 : FVec Ideal S4x6144 .f32) (x5 : FVec Ideal S6144 .f32) (x6 x7 x8 : FVec Ideal S64 .f32)
  (x9 : FVec Ideal S4096 .f32)

/-- The arguments by coordinates. -/
def args : Args where
  zx r c := x0 (ix2 r c)
  us r c := x1 (ix2 r c)
  conv b s c := x2 (ix3 b s c)
  ssm b h p n := x3 (ix4 b h p n)
  cw j c := x4 (ix2 j c)
  cb c := x5 (ix1 c)
  dtb h := x6 (ix1 h)
  al h := x7 (ix1 h)
  dsk h := x8 (ix1 h)
  ng c := x9 (ix1 c)

/-- A channel's head within its group, -/
def rOf (c : Fin 4096) : Fin 8 := ⟨c.val / 64 % 8, by omega⟩
/-- and its place within its head. -/
def pOf (c : Fin 4096) : Fin 64 := ⟨c.val % 64, by omega⟩

theorem v5_apply (b : Fin 32) (t : Fin 16) (c : Fin 6144) :
    val_main_v5 (F := Ideal) x0 (ix3 b t c) = (args x0 x1 x2 x3 x4 x5 x6 x7 x8 x9).zx (Args.row b t) (Args.colX c) := by
  have er : ∀ h, (⟨8192 + (b.val * 16 + t.val), h⟩ : Fin 8704) = Args.row b t := fun h => Fin.ext (by simp only [Args.row]; omega)
  pointwise [val_main_v5, val_main_v4, val_main_v3, val_main_v1, val_main_v0]
  by_cases hc : c.val < 4096
  · rw [dif_pos hc, er]; unfold Args.colX; rw [if_pos hc]; rfl
  · rw [dif_neg hc, er]; unfold Args.colX; rw [if_neg hc]; rfl

theorem v8_apply (b : Fin 32) (t : Fin 19) (c : Fin 6144) :
    val_main_v8 (F := Ideal) x0 x2 (ix3 b t c) = extRow (fun s => (args x0 x1 x2 x3 x4 x5 x6 x7 x8 x9).conv b s c) (fun s => (args x0 x1 x2 x3 x4 x5 x6 x7 x8 x9).zx (Args.row b s) (Args.colX c)) t := by
  pointwise [val_main_v8]
  simp only [v5_apply x0 x1 x2 x3 x4 x5 x6 x7 x8 x9]
  rfl

theorem v39_apply (b : Fin 32) (s : Fin 3) (c : Fin 6144) :
    val_main_v39 (F := Ideal) x0 x2 (ix3 b s c) = (args x0 x1 x2 x3 x4 x5 x6 x7 x8 x9).convNext b s c := by
  pointwise [val_main_v39]
  rw [v8_apply x0 x1 x2 x3 x4 x5 x6 x7 x8 x9]
  unfold extRow Args.convNext
  rw [dif_neg (by show ¬ 16 + s.val < 3; omega)]
  exact congrArg (fun k => (args x0 x1 x2 x3 x4 x5 x6 x7 x8 x9).zx (Args.row b k) (Args.colX c)) (Fin.ext (show 16 + s.val - 3 = 13 + s.val by omega))

theorem v40_apply (b : Fin 32) (t : Fin 16) (c : Fin 6144) :
    val_main_v40 (F := Ideal) x0 x2 x4 x5 (ix3 b t c) = (args x0 x1 x2 x3 x4 x5 x6 x7 x8 x9).conved b t c := by
  have e : val_main_v38 (F := Ideal) x0 x2 x4 x5 (ix3 b t c)
      = convAt (extRow (fun s => (args x0 x1 x2 x3 x4 x5 x6 x7 x8 x9).conv b s c) (fun s => (args x0 x1 x2 x3 x4 x5 x6 x7 x8 x9).zx (Args.row b s) (Args.colX c))) (fun j => (args x0 x1 x2 x3 x4 x5 x6 x7 x8 x9).cw j c) ((args x0 x1 x2 x3 x4 x5 x6 x7 x8 x9).cb c) t := by
    pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9]
    simp only [v8_apply x0 x1 x2 x3 x4 x5 x6 x7 x8 x9]
    rfl
  pointwise [val_main_v40, val_main_call0_v5, val_main_call0_v4, val_main_call0_cst_0, val_main_call0_v3, val_main_call0_v2, val_main_call0_cst, val_main_call0_v1, val_main_call0_v0]
  rw [e]
  unfold Args.conved silu
  rw [zero_sub]

theorem v50_apply (b : Fin 32) (t : Fin 16) (h : Fin 64) :
    val_main_v50 (F := Ideal) x1 x6 (ix3 b t h) = (args x0 x1 x2 x3 x4 x5 x6 x7 x8 x9).dt b t h := by
  have er : ∀ h, (⟨8192 + (b.val * 16 + t.val), h⟩ : Fin 8704) = Args.row b t := fun h => Fin.ext (by simp only [Args.row]; omega)
  pointwise [val_main_v50, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v49, val_main_v48, val_main_v47, val_main_v7, val_main_v6]
  rw [if_neg (fun hne => hne rfl), er]
  unfold Args.dt softplus
  rw [zero_sub]
  rfl

theorem v59_apply (b : Fin 32) (t : Fin 16) (c : Fin 4096) :
    val_main_v59 (F := Ideal) x0 x1 x2 x4 x5 x6 (ix6 b 0 t (groupOf c) (rOf c) (pOf c)) = ((args x0 x1 x2 x3 x4 x5 x6 x7 x8 x9).chunk b).xc t c * ((args x0 x1 x2 x3 x4 x5 x6 x7 x8 x9).chunk b).dt t (headOf c) := by
  have e1 : ∀ h, (⟨(groupOf c).val * 512 + (rOf c).val * 64 + (pOf c).val, h⟩ : Fin 6144) = Args.chX c := fun h => Fin.ext (by simp only [groupOf, rOf, pOf, Args.chX]; omega)
  have e2 : ∀ h, (⟨(groupOf c).val * 8 + (rOf c).val, h⟩ : Fin 64) = headOf c := fun h => Fin.ext (by simp only [groupOf, rOf, headOf]; omega)
  pointwise [val_main_v59, val_main_v58, val_main_v57, val_main_v56, val_main_v51, val_main_v44, val_main_v41]
  rw [e1, e2, v40_apply x0 x1 x2 x3 x4 x5 x6 x7 x8 x9, v50_apply x0 x1 x2 x3 x4 x5 x6 x7 x8 x9]
  rfl

theorem v60_apply (b : Fin 32) (t : Fin 16) (g : Fin 8) (n : Fin 128) :
    val_main_v60 (F := Ideal) x0 x2 x4 x5 (ix5 b 0 t g n) = ((args x0 x1 x2 x3 x4 x5 x6 x7 x8 x9).chunk b).bc t (colB g n) := by
  have e1 : ∀ h, (⟨4096 + (g.val * 128 + n.val), h⟩ : Fin 6144) = Args.chB (colB g n) := fun h => Fin.ext (by simp only [Args.chB, colB]; omega)
  pointwise [val_main_v60, val_main_v45, val_main_v42]
  rw [e1, v40_apply x0 x1 x2 x3 x4 x5 x6 x7 x8 x9]
  rfl

theorem v61_apply (b : Fin 32) (t : Fin 16) (g : Fin 8) (n : Fin 128) :
    val_main_v61 (F := Ideal) x0 x2 x4 x5 (ix5 b 0 t g n) = ((args x0 x1 x2 x3 x4 x5 x6 x7 x8 x9).chunk b).bc t (colC g n) := by
  have e1 : ∀ h, (⟨5120 + (g.val * 128 + n.val), h⟩ : Fin 6144) = Args.chB (colC g n) := fun h => Fin.ext (by simp only [Args.chB, colC]; omega)
  pointwise [val_main_v61, val_main_v46, val_main_v43]
  rw [e1, v40_apply x0 x1 x2 x3 x4 x5 x6 x7 x8 x9]
  rfl

theorem v66_apply (b : Fin 32) (t : Fin 16) (c : Fin 4096) :
    val_main_v66 (F := Ideal) x1 x6 x7 (ix5 b 0 t (groupOf c) (rOf c)) = ((args x0 x1 x2 x3 x4 x5 x6 x7 x8 x9).chunk b).ac t (headOf c) := by
  have e2 : ∀ h, (⟨(groupOf c).val * 8 + (rOf c).val, h⟩ : Fin 64) = headOf c := fun h => Fin.ext (by simp only [groupOf, rOf, headOf]; omega)
  have e : ∀ s, val_main_v65 (F := Ideal) x1 x6 x7 (ix5 b 0 s (groupOf c) (rOf c)) = (args x0 x1 x2 x3 x4 x5 x6 x7 x8 x9).dt b s (headOf c) * (0 - Ideal.exp ((args x0 x1 x2 x3 x4 x5 x6 x7 x8 x9).al (headOf c))) := by
    intro s
    pointwise [val_main_v65, val_main_v64, val_main_v63, val_main_v62, val_main_v54, val_main_v53, val_main_v52, val_main_v51]
    rw [e2, v50_apply x0 x1 x2 x3 x4 x5 x6 x7 x8 x9, zero_sub]
    rfl
  unfold val_main_v66
  rw [cumsum_apply _ _ (fun i => by pointwise [val_main_call2_call0_v0, val_main_call2_call0_cst])]
  simp only [e]
  rfl

theorem v68_apply (t s : Fin 16) : val_main_v68 (F := Ideal) (ix2 t s) = if s ≤ t then 1#1 else 0#1 := by
  pointwise [val_main_v68, val_main_call3_v5, val_main_call3_c_0, val_main_call3_v4, val_main_call3_v3, val_main_call3_v2, val_main_call3_v1, val_main_call3_c, val_main_call3_v0, val_main_v67, val_main_c]
  revert t s
  decide +kernel

theorem v76_apply (b : Fin 32) (t s : Fin 16) (c : Fin 4096) :
    val_main_v76 (F := Ideal) x1 x6 x7 (ix6 b 0 t s (groupOf c) (rOf c)) = ((args x0 x1 x2 x3 x4 x5 x6 x7 x8 x9).chunk b).decay (headOf c) t s := by
  pointwise [val_main_v76, val_main_v75, val_main_call4_v2, val_main_call4_v1, val_main_call4_v0, val_main_cst, val_main_v74, val_main_v73, val_main_v72, val_main_v71, val_main_v70, val_main_v69]
  rw [v68_apply, v66_apply x0 x1 x2 x3 x4 x5 x6 x7 x8 x9, v66_apply x0 x1 x2 x3 x4 x5 x6 x7 x8 x9]
  unfold Chunk.decay
  by_cases hs : s ≤ t
  · rw [if_pos hs, if_pos hs]; rfl
  · rw [if_neg hs, if_neg hs]; rfl

theorem v81_apply (b : Fin 32) (t s : Fin 16) (c : Fin 4096) :
    val_main_v81 (F := Ideal) x0 x1 x2 x4 x5 x6 x7 (ix6 b 0 t s (groupOf c) (rOf c))
      = ((args x0 x1 x2 x3 x4 x5 x6 x7 x8 x9).chunk b).cb (groupOf c) t s * ((args x0 x1 x2 x3 x4 x5 x6 x7 x8 x9).chunk b).decay (headOf c) t s := by
  pointwise [val_main_v81, val_main_v80, val_main_v79, val_main_v78, val_main_v77]
  rw [v76_apply x0 x1 x2 x3 x4 x5 x6 x7 x8 x9]
  simp only [v60_apply x0 x1 x2 x3 x4 x5 x6 x7 x8 x9, v61_apply x0 x1 x2 x3 x4 x5 x6 x7 x8 x9]
  unfold Chunk.cb
  congr 1
  exact Finset.sum_congr rfl fun n _ => mul_comm _ _

theorem v83_apply (b : Fin 32) (t : Fin 16) (c : Fin 4096) :
    val_main_v83 (F := Ideal) x0 x1 x2 x4 x5 x6 x7 (ix6 b 0 t (groupOf c) (rOf c) (pOf c))
      = ∑ s : Fin 16, ((args x0 x1 x2 x3 x4 x5 x6 x7 x8 x9).chunk b).cb (groupOf c) t s * ((args x0 x1 x2 x3 x4 x5 x6 x7 x8 x9).chunk b).decay (headOf c) t s * (((args x0 x1 x2 x3 x4 x5 x6 x7 x8 x9).chunk b).xc s c * ((args x0 x1 x2 x3 x4 x5 x6 x7 x8 x9).chunk b).dt s (headOf c)) := by
  pointwise [val_main_v83, val_main_v82]
  refine Finset.sum_congr rfl fun s _ => ?_
  rw [v59_apply x0 x1 x2 x3 x4 x5 x6 x7 x8 x9, v81_apply x0 x1 x2 x3 x4 x5 x6 x7 x8 x9, mul_comm]

theorem ssm_apply (b : Fin 32) (c : Fin 4096) (n : Fin 128) (hd : Fin 64) (p : Fin 64) (hh : hd = headOf c) (hp : p = pOf c) :
    x3 (ix4 b hd p n) = ((args x0 x1 x2 x3 x4 x5 x6 x7 x8 x9).chunk b).h c n := by
  subst hh hp
  rfl

theorem v107_apply (b : Fin 32) (t : Fin 16) (c : Fin 4096) :
    val_main_v107 (F := Ideal) x0 x1 x2 x3 x4 x5 x6 x7 (ix6 b 0 t (groupOf c) (rOf c) (pOf c))
      = (∑ n : Fin 128, ((args x0 x1 x2 x3 x4 x5 x6 x7 x8 x9).chunk b).bc t (colC (groupOf c) n) * ((args x0 x1 x2 x3 x4 x5 x6 x7 x8 x9).chunk b).h c n) * Ideal.exp (((args x0 x1 x2 x3 x4 x5 x6 x7 x8 x9).chunk b).ac t (headOf c)) := by
  have e2 : ∀ h, (⟨(groupOf c).val * 8 + (rOf c).val, h⟩ : Fin 64) = headOf c := fun h => Fin.ext (by simp only [groupOf, rOf, headOf]; omega)
  pointwise [val_main_v107, val_main_v106, val_main_v105, val_main_v104, val_main_v103, val_main_v102, val_main_v101, val_main_v55]
  rw [v66_apply x0 x1 x2 x3 x4 x5 x6 x7 x8 x9]
  congr 1
  refine Finset.sum_congr rfl fun n _ => ?_
  rw [v61_apply x0 x1 x2 x3 x4 x5 x6 x7 x8 x9, ssm_apply x0 x1 x2 x3 x4 x5 x6 x7 x8 x9 b c n _ _ (e2 _) rfl, mul_comm]

theorem v116_apply (b : Fin 32) (t : Fin 16) (c : Fin 4096) :
    val_main_v116 (F := Ideal) x0 x1 x2 x3 x4 x5 x6 x7 x8 (ix3 b t c) = ((args x0 x1 x2 x3 x4 x5 x6 x7 x8 x9).chunk b).y (args x0 x1 x2 x3 x4 x5 x6 x7 x8 x9).dsk t c := by
  have e2 : ∀ h, (⟨c.val / 512 * 8 + c.val / 64 % 8, h⟩ : Fin 64) = headOf c := fun h => Fin.ext (by simp only [headOf]; omega)
  pointwise [val_main_v116, val_main_v115, val_main_v114, val_main_v113, val_main_v112, val_main_v111, val_main_v110, val_main_v109, val_main_v108, val_main_v44, val_main_v41]
  have h1 := v83_apply x0 x1 x2 x3 x4 x5 x6 x7 x8 x9 b t c
  have h2 := v107_apply x0 x1 x2 x3 x4 x5 x6 x7 x8 x9 b t c
  unfold groupOf rOf pOf at h1 h2
  rw [e2, v40_apply x0 x1 x2 x3 x4 x5 x6 x7 x8 x9, h1, h2]
  rfl

theorem v119_apply (b : Fin 32) (t : Fin 16) (g : Fin 8) (x : Fin 512) :
    val_main_v119 (F := Ideal) x0 x1 x2 x3 x4 x5 x6 x7 x8 (ix4 b t g x)
      = gate (((args x0 x1 x2 x3 x4 x5 x6 x7 x8 x9).chunk b).y (args x0 x1 x2 x3 x4 x5 x6 x7 x8 x9).dsk t (chan g x)) ((args x0 x1 x2 x3 x4 x5 x6 x7 x8 x9).zx (Args.row b t) (Args.colZ (chan g x))) := by
  have er : ∀ h, (⟨8192 + (b.val * 16 + t.val), h⟩ : Fin 8704) = Args.row b t := fun h => Fin.ext (by simp only [Args.row]; omega)
  have ec : ∀ h, (⟨g.val * 512 + x.val, h⟩ : Fin 25600) = Args.colZ (chan g x) := fun h => Fin.ext (by simp only [Args.colZ, chan]; omega)
  have ed : ∀ h, (⟨g.val * 512 + x.val, h⟩ : Fin 4096) = chan g x := fun h => Fin.ext (by simp only [chan]; omega)
  pointwise [val_main_v119, val_main_v118, val_main_v117, val_main_call5_v5, val_main_call5_v4, val_main_call5_v3, val_main_call5_v2, val_main_call5_v1, val_main_call5_v0, val_main_call5_cst, val_main_call5_cst_0, val_main_v2, val_main_v1, val_main_v0]
  rw [er, ec, ed, v116_apply x0 x1 x2 x3 x4 x5 x6 x7 x8 x9]
  unfold gate
  rw [zero_sub]
  rfl

/-- The reference's mixed rows, -/
theorem v136_apply (i : Fin 512) (c : Fin 4096) :
    val_main_v136 (F := Ideal) x0 x1 x2 x3 x4 x5 x6 x7 x8 x9 (ix2 i c) = (args x0 x1 x2 x3 x4 x5 x6 x7 x8 x9).out ⟨i.val / 16, by have := i.isLt; omega⟩ ⟨i.val % 16, by omega⟩ c := by
  pointwise [val_main_v136, val_main_v135, val_main_v133, val_main_v132, val_main_v131, val_main_v130, val_main_v129, val_main_v128, val_main_v127, val_main_v126, val_main_v125, val_main_v124, val_main_v123, val_main_v122, val_main_v121, val_main_v120, val_main_cst_0, val_main_cst_1, val_main_cst_2]
  simp only [v119_apply x0 x1 x2 x3 x4 x5 x6 x7 x8 x9]
  rfl

/-- and its states. -/
theorem v137_apply (b : Fin 32) (c : Fin 4096) (n : Fin 128) :
    val_main_v137 (F := Ideal) x0 x1 x2 x3 x4 x5 x6 x7 (ix3 b c n) = ((args x0 x1 x2 x3 x4 x5 x6 x7 x8 x9).chunk b).hNext c n := by
  have eg : ∀ h, (⟨c.val / 64 / 8, h⟩ : Fin 8) = groupOf c := fun h => Fin.ext (by simp only [groupOf]; omega)
  have e2 : ∀ h, (⟨c.val / 64 / 8 * 8 + c.val / 64 % 8, h⟩ : Fin 64) = headOf c := fun h => Fin.ext (by simp only [headOf]; omega)
  have h1 := fun t => v59_apply x0 x1 x2 x3 x4 x5 x6 x7 x8 x9 b t c
  have h2 := fun t => v66_apply x0 x1 x2 x3 x4 x5 x6 x7 x8 x9 b t c
  unfold rOf pOf at h1
  unfold rOf at h2
  pointwise [val_main_v137, val_main_v134, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v55]
  simp only [eg, h1, h2, v60_apply x0 x1 x2 x3 x4 x5 x6 x7 x8 x9]
  rw [ssm_apply x0 x1 x2 x3 x4 x5 x6 x7 x8 x9 b c n _ ⟨c.val % 64, by omega⟩ (e2 (by omega)) rfl]
  rfl

end Cert.ReferenceIdeal.Ssd
end
-- ==== Proof.SsdClaim.lean ====
module

public import proofs.«01_k».proof.Defs
public import proofs.«01_k».proof.Proof.SsdRun
public import proofs.«01_k».proof.Proof.SsdRef
public import proofs.«01_k».proof.Proof.Gen.ReferenceIdeal.Run
public import Idealize.ShloMosaic.Lib.Quiescent

@[expose] public section

set_option maxRecDepth 16384

noncomputable section

namespace Cert.Proof.Ssd

open Idealize.ShloMosaic Idealize.SL.Sem Idealize.ShloMosaic.Pointwise

/-- The reference's run keeps its arguments; it declares no semaphore. -/
theorem refFrame : Cert.quiescent_ReferenceIdeal (hReferenceIdeal := Cert.ReferenceIdeal.Gen.facts) := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

section values

open Cert.ReferenceIdeal Cert.ReferenceIdeal.Read Cert.ReferenceIdeal.Ssd

variable (x0 : FVec Ideal S8704x25600 .f32) (x1 : FVec Ideal S8704x256 .f32) (x2 : FVec Ideal S32x3x6144 .f32)
  (x3 : FVec Ideal S32x64x64x128 .f32) (x4 : FVec Ideal S4x6144 .f32) (x5 : FVec Ideal S6144 .f32) (x6 x7 x8 : FVec Ideal S64 .f32)
  (x9 : FVec Ideal S4096 .f32)

/-- The reference's results as whole arrays. -/
theorem v136_eq : val_main_v136 (F := Ideal) x0 x1 x2 x3 x4 x5 x6 x7 x8 x9
    = fun i : S512x4096.Idx => (args x0 x1 x2 x3 x4 x5 x6 x7 x8 x9).out ⟨(i 0).val / 16, by have := (i 0).isLt; simp at this; omega⟩ ⟨(i 0).val % 16, by omega⟩ (i 1) := by
  funext i
  rw [eq_ix2 i]
  exact v136_apply x0 x1 x2 x3 x4 x5 x6 x7 x8 x9 (i 0) (i 1)

theorem v39_eq : val_main_v39 (F := Ideal) x0 x2
    = fun i : S32x3x6144.Idx => (args x0 x1 x2 x3 x4 x5 x6 x7 x8 x9).convNext (i 0) (i 1) (i 2) := by
  funext i
  rw [eq_ix3 i]
  exact v39_apply x0 x1 x2 x3 x4 x5 x6 x7 x8 x9 (i 0) (i 1) (i 2)

theorem v137_eq : val_main_v137 (F := Ideal) x0 x1 x2 x3 x4 x5 x6 x7
    = fun i : S32x4096x128.Idx => ((args x0 x1 x2 x3 x4 x5 x6 x7 x8 x9).chunk (i 0)).hNext (i 1) (i 2) := by
  funext i
  rw [eq_ix3 i]
  exact v137_apply x0 x1 x2 x3 x4 x5 x6 x7 x8 x9 (i 0) (i 1) (i 2)

end values

/-- The kernel's results are the reference's. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨_, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, h4, h5, h6, h7, h8, h9⟩ := hagree c
  have ha : Cert.KernelIdeal.Ssd.args m c = Cert.ReferenceIdeal.Ssd.args (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) := by
    rw [h0, h1, h2, h3, h4, h5, h6, h7, h8, h9]; rfl
  refine ⟨((h c).1.trans (Cert.ReferenceIdeal.Read.val_main_v136_eq _)).trans ?_, ((h c).2.1.trans (Cert.ReferenceIdeal.Read.val_main_v39_eq _)).trans ?_,
    ((h c).2.2.1.trans (Cert.ReferenceIdeal.Read.val_main_v137_eq _)).trans ?_, (h c).2.2.2⟩
  · refine (v136_eq _ _ _ _ _ _ _ _ _ _).trans ?_
    refine Eq.trans ?_ (Cert.KernelIdeal.Ssd.out_eq m c).symm
    rw [ha]
  · refine (v39_eq _ (m' ((c.tc : Thread Cert.ReferenceIdeal.nD Cert.ReferenceIdeal.τ).loc Cert.ReferenceIdeal.main_arg1)) _ (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))).trans ?_
    refine Eq.trans ?_ (Cert.KernelIdeal.Ssd.conv_eq m c).symm
    rw [ha]
  · refine (v137_eq _ _ _ _ _ _ _ _ (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))).trans ?_
    refine Eq.trans ?_ (Cert.KernelIdeal.Ssd.ssm_eq m c).symm
    rw [ha]

end Cert.Proof.Ssd
end
-- ==== Proof.RowSpec.lean ====
module

public import Idealize.ShloMosaic.Lib.Pointwise

@[expose] public section

noncomputable section

/-! # The layer's row-wise pieces

Every stage but the two mixers acts on a row (a token) at a time. These are its pieces on one row of extended reals. -/

namespace Cert.Rows

open Idealize.ShloMosaic

/-- A row times a matrix. -/
def dot {K N : ℕ} (x : Fin K → EReal) (w : Fin K → Fin N → EReal) (j : Fin N) : EReal := ∑ k, x k * w k j

def sig (a : EReal) : EReal := Ideal.div 1 (1 + Ideal.exp (0 - a))

/-- The gated hidden row of the feed-forward block, -/
def up {K N : ℕ} (x : Fin K → EReal) (w1 w3 : Fin K → Fin N → EReal) (j : Fin N) : EReal :=
  dot x w1 j * sig (dot x w1 j) * dot x w3 j

/-- and the block's row. -/
def ffn {K N : ℕ} (x : Fin K → EReal) (w1 w3 : Fin K → Fin N → EReal) (w2 : Fin N → Fin K → EReal) : Fin K → EReal :=
  dot (up x w1 w3) w2

/-- The residual row: the stream scaled, plus the branch scaled. -/
def res {K : ℕ} (s : EReal) (x d : Fin K → EReal) (j : Fin K) : EReal := Ideal.ofBits .f32 1066940400#32 * x j + s * d j

def half : EReal := Ideal.ofBits .f32 1056964608#32

def mean (y : Fin 4096 → EReal) : EReal := Ideal.div (∑ k, y k) (Ideal.ofBits .f32 1166016512#32)

/-- The layer norm of a row. -/
def norm (y g b : Fin 4096 → EReal) (j : Fin 4096) : EReal :=
  (y j - mean y) * Ideal.rsqrt (mean (fun k => (y k - mean y) * (y k - mean y)) + Ideal.ofBits .f32 925353388#32) * g j + b j

/-! A tile of the result needs the row and the tile's columns alone. -/

theorem dot_congr {K N N' : ℕ} {x x' : Fin K → EReal} {w : Fin K → Fin N → EReal} {w' : Fin K → Fin N' → EReal} {j : Fin N} {j' : Fin N'}
    (hx : ∀ k, x k = x' k) (hw : ∀ k, w k j = w' k j') : dot x w j = dot x' w' j' :=
  Finset.sum_congr rfl fun k _ => by rw [hx, hw]

theorem up_congr {K N N' : ℕ} {x x' : Fin K → EReal} {w1 w3 : Fin K → Fin N → EReal} {w1' w3' : Fin K → Fin N' → EReal}
    {j : Fin N} {j' : Fin N'} (hx : ∀ k, x k = x' k) (h1 : ∀ k, w1 k j = w1' k j') (h3 : ∀ k, w3 k j = w3' k j') :
    up x w1 w3 j = up x' w1' w3' j' := by
  unfold up
  rw [dot_congr hx h1, dot_congr hx h3]

theorem norm_congr {y y' g g' b b' : Fin 4096 → EReal} {j j' : Fin 4096} (hy : ∀ k, y k = y' k) (hg : ∀ k, g k = g' k)
    (hb : ∀ k, b k = b' k) (hj : j = j') : norm y g b j = norm y' g' b' j' := by
  rw [funext hy, funext hg, funext hb, hj]

end Cert.Rows
end
-- ==== Proof.FrontSpec.lean ====
module

public import proofs.«01_k».proof.Proof.RowSpec

@[expose] public section

noncomputable section

/-! # The layer's front on a row: the first feed-forward block and the input projection -/

namespace Cert.Rows

open Idealize.ShloMosaic

/-- The front's weights. -/
structure Front where
  w1 : Fin 4096 → Fin 11008 → EReal
  w3 : Fin 4096 → Fin 11008 → EReal
  w2 : Fin 11008 → Fin 4096 → EReal
  g : Fin 4096 → EReal
  b : Fin 4096 → EReal
  win : Fin 4096 → Fin 25744 → EReal

namespace Front

/-- The stream after the first block, -/
def x1 (w : Front) (x : Fin 4096 → EReal) : Fin 4096 → EReal := norm (res half x (ffn x w.w1 w.w3 w.w2)) w.g w.b

/-- and its projection. -/
def u (w : Front) (x : Fin 4096 → EReal) : Fin 25744 → EReal := dot (w.x1 x) w.win

/-- The projection's column a wide column holds: z, the mixer's stream, the queries, the two gates, the mixer's B and C, keys, values, index queries. -/
def colMain (j : Fin 25600) : Fin 25744 :=
  if ha : j.val < 8192 then ⟨j.val, by omega⟩ else if hb : j.val < 12288 then ⟨10304 + (j.val - 8192), by omega⟩
  else if hd : j.val < 20480 then ⟨17552 + (j.val - 12288), by omega⟩ else if he : j.val < 22528 then ⟨8192 + (j.val - 20480), by omega⟩
  else ⟨14400 + (j.val - 22528), by omega⟩

/-- The one a narrow column holds: step sizes, index weights, index keys. -/
def colSmall (j : ℕ) (h : j < 144) : Fin 25744 := if h1 : j < 64 then ⟨10240 + j, by omega⟩ else ⟨17472 + (j - 64), by omega⟩

/-- The projection's columns of the keys, of the values, by head and place, -/
def colK (h : Fin 8) (d : Fin 128) : Fin 25744 := ⟨14400 + (h.val * 128 + d.val), by omega⟩
def colV (h : Fin 8) (d : Fin 128) : Fin 25744 := ⟨15424 + (h.val * 128 + d.val), by omega⟩
/-- and of the index keys. -/
def colI (d : Fin 64) : Fin 25744 := ⟨17488 + d.val, by omega⟩

def main (w : Front) (x : Fin 4096 → EReal) (j : Fin 25600) : EReal := w.u x (colMain j)

def small (w : Front) (x : Fin 4096 → EReal) (j : Fin 256) : EReal := if h : j.val < 144 then w.u x (colSmall j.val h) else 0

end Front

/-- The row an array's row comes from: the prompts' first, then the samples'. -/
def both {N : ℕ} (p : Fin 2 → Fin 4096 → Fin N → EReal) (s : Fin 32 → Fin 16 → Fin N → EReal) (i : Fin 8704) : Fin N → EReal :=
  if h : i.val < 8192 then p ⟨i.val / 4096, by omega⟩ ⟨i.val % 4096, by omega⟩
  else s ⟨(i.val - 8192) / 16, by omega⟩ ⟨(i.val - 8192) % 16, by omega⟩

/-- A number per side of the batch joint is the side's. -/
theorem both_at {N : ℕ} (p : Fin 2 → Fin 4096 → Fin N → EReal) (s : Fin 32 → Fin 16 → Fin N → EReal) (i : Fin 8704) (j : Fin N) :
    (if h : i.val < 8192 then p ⟨i.val / 4096, by omega⟩ ⟨i.val % 4096, by omega⟩ j
      else s ⟨(i.val - 8192) / 16, by omega⟩ ⟨(i.val - 8192) % 16, by omega⟩ j) = both p s i j := by
  unfold both
  split <;> rfl

/-- The nine stretches of the wide columns, one after another. -/
theorem wide_at (f : Fin 25744 → EReal) (j : Fin 25600) :
    (if h : j.val < 4096 then f ⟨j.val, by omega⟩
    else if h : j.val - 4096 < 4096 then f ⟨4096 + (j.val - 4096), by omega⟩
    else if h : j.val - 4096 - 4096 < 4096 then f ⟨10304 + (j.val - 4096 - 4096), by omega⟩
    else if h : j.val - 4096 - 4096 - 4096 < 4096 then f ⟨17552 + (j.val - 4096 - 4096 - 4096), by omega⟩
    else if h : j.val - 4096 - 4096 - 4096 - 4096 < 4096 then f ⟨21648 + (j.val - 4096 - 4096 - 4096 - 4096), by omega⟩
    else if h : j.val - 4096 - 4096 - 4096 - 4096 - 4096 < 2048 then f ⟨8192 + (j.val - 4096 - 4096 - 4096 - 4096 - 4096), by omega⟩
    else if h : j.val - 4096 - 4096 - 4096 - 4096 - 4096 - 2048 < 1024 then f ⟨14400 + (j.val - 4096 - 4096 - 4096 - 4096 - 4096 - 2048), by omega⟩
    else if h : j.val - 4096 - 4096 - 4096 - 4096 - 4096 - 2048 - 1024 < 1024 then f ⟨15424 + (j.val - 4096 - 4096 - 4096 - 4096 - 4096 - 2048 - 1024), by omega⟩
    else f ⟨16448 + (j.val - 4096 - 4096 - 4096 - 4096 - 4096 - 2048 - 1024 - 1024), by omega⟩) = f (Front.colMain j) := by
  have key : ∀ n : Fin 25744, n.val = (Front.colMain j).val → f n = f (Front.colMain j) := fun n h => congrArg f (Fin.ext h)
  have hv : (Front.colMain j).val = if j.val < 8192 then j.val else if j.val < 12288 then 10304 + (j.val - 8192)
      else if j.val < 20480 then 17552 + (j.val - 12288) else if j.val < 22528 then 8192 + (j.val - 20480) else 14400 + (j.val - 22528) := by
    unfold Front.colMain
    split_ifs <;> rfl
  split_ifs <;> (refine key _ ?_; rw [hv]; dsimp only; split_ifs <;> omega)

/-- The three stretches of the narrow columns, and what fills the rest. -/
theorem narrow_at (f : Fin 25744 → EReal) (j : Fin 256) :
    (if h : j.val < 64 then f ⟨10240 + j.val, by omega⟩
    else if h : j.val - 64 < 16 then f ⟨17472 + (j.val - 64), by omega⟩
    else if h : j.val - 64 - 16 < 64 then f ⟨17488 + (j.val - 64 - 16), by omega⟩
    else 0) = if h : j.val < 144 then f (Front.colSmall j.val h) else 0 := by
  have key : ∀ (h : j.val < 144) (n : Fin 25744), n.val = (Front.colSmall j.val h).val → f n = f (Front.colSmall j.val h) := fun _ n h => congrArg f (Fin.ext h)
  have hv : ∀ h : j.val < 144, (Front.colSmall j.val h).val = if j.val < 64 then 10240 + j.val else 17472 + (j.val - 64) := fun h => by
    unfold Front.colSmall
    split_ifs <;> rfl
  split_ifs <;> first
    | omega
    | rfl
    | (refine key (by omega) _ ?_; rw [hv]; dsimp only; split_ifs <;> omega)

theorem both_prompt {N : ℕ} (p : Fin 2 → Fin 4096 → Fin N → EReal) (s : Fin 32 → Fin 16 → Fin N → EReal) (b : Fin 2) (t : Fin 4096) (i : Fin 8704)
    (h : i.val = b.val * 4096 + t.val) : both p s i = p b t := by
  have hb : (⟨i.val / 4096, by omega⟩ : Fin 2) = b := Fin.ext (by simp only; omega)
  have ht : (⟨i.val % 4096, by omega⟩ : Fin 4096) = t := Fin.ext (by simp only; omega)
  unfold both
  rw [dif_pos (by omega), hb, ht]

theorem both_sample {N : ℕ} (p : Fin 2 → Fin 4096 → Fin N → EReal) (s : Fin 32 → Fin 16 → Fin N → EReal) (b : Fin 32) (t : Fin 16) (i : Fin 8704)
    (h : i.val = 8192 + (b.val * 16 + t.val)) : both p s i = s b t := by
  have hb : (⟨(i.val - 8192) / 16, by omega⟩ : Fin 32) = b := Fin.ext (by simp only; omega)
  have ht : (⟨(i.val - 8192) % 16, by omega⟩ : Fin 16) = t := Fin.ext (by simp only; omega)
  unfold both
  rw [dif_neg (by omega), hb, ht]

/-- What a row is sent to is what its side is sent to. -/
theorem map_both {N M : ℕ} (f : (Fin N → EReal) → Fin M → EReal) (p : Fin 2 → Fin 4096 → Fin N → EReal) (s : Fin 32 → Fin 16 → Fin N → EReal) (i : Fin 8704) :
    both (fun b t => f (p b t)) (fun b t => f (s b t)) i = f (both p s i) := by
  unfold both
  split <;> rfl

/-- The wide columns from 22528 on are the projection's from 14400 on, -/
theorem main_kv (w : Front) (x : Fin 4096 → EReal) (n : ℕ) (h : n < 3072) :
    w.main x ⟨22528 + n, by omega⟩ = w.u x ⟨14400 + n, by omega⟩ := by
  refine congrArg (w.u x) (Fin.ext ?_)
  unfold Front.colMain
  rw [dif_neg (by dsimp only; omega), dif_neg (by dsimp only; omega), dif_neg (by dsimp only; omega), dif_neg (by dsimp only; omega)]
  dsimp only
  omega

/-- and the narrow ones from 80 on those from 17488 on. -/
theorem small_ki (w : Front) (x : Fin 4096 → EReal) (n : ℕ) (h : n < 64) :
    w.small x ⟨80 + n, by omega⟩ = w.u x ⟨17488 + n, by omega⟩ := by
  unfold Front.small
  rw [dif_pos (by show 80 + n < 144; omega)]
  refine congrArg (w.u x) (Fin.ext ?_)
  unfold Front.colSmall
  rw [dif_neg (by dsimp only; omega)]
  dsimp only
  omega

end Cert.Rows
end
-- ==== Proof.FrontHost.lean ====
module

public import proofs.«01_k».proof.Proof.Gen.Kernel2Ideal.Frame
public import proofs.«01_k».proof.Proof.FrontSpec
public import Idealize.ShloMosaic.Lib.Pipeline.ValueKit
public import Idealize.ShloMosaic.Lib.StableHlo.RunRead

@[expose] public section

set_option maxRecDepth 100000

noncomputable section

/-! # The front's host stretches: the rows gathered, the weights laid out -/

namespace Cert.Kernel2Ideal.Front

open Cert.Kernel2Ideal Cert.Kernel2Ideal.Gen Idealize.ShloMosaic Idealize.ShloMosaic.TcCoe Idealize.SL.Sem
open Idealize.ShloMosaic.Pointwise

variable (σ : Valuation τ sig (Elt Ideal))

/-- The rows entering: the prompts' and the samples'. -/
abbrev rowsIn : Fin 8704 → Fin 4096 → EReal :=
  Rows.both (fun b t k => σ (Proc.devRef .tc main_arg0) (ix3 b t k)) (fun b t k => σ (Proc.devRef .tc main_arg1) (ix3 b t k))

theorem v29 (i : Fin 4096) (j : Fin 11008) : StableHlo.after hostOps0 σ (Proc.devRef .tc main_v29) (ix2 i j) = σ (Proc.devRef .tc main_arg2) (ix2 i j) := by
  after_reads_simp
  rfl

theorem v30 (i : Fin 4096) (j : Fin 11008) : StableHlo.after hostOps0 σ (Proc.devRef .tc main_v30) (ix2 i j) = σ (Proc.devRef .tc main_arg3) (ix2 i j) := by
  after_reads_simp
  rfl

theorem v27 (i : Fin 8704) (j : Fin 4096) : StableHlo.after hostOps0 σ (Proc.devRef .tc main_v27) (ix2 i j) = rowsIn σ i j := by
  after_reads_simp
  pointwise
  exact Rows.both_at (fun b t k => σ (Proc.devRef .tc main_arg0) (ix3 b t k)) (fun b t k => σ (Proc.devRef .tc main_arg1) (ix3 b t k)) i j

theorem v28 (i : Fin 8704) (j : Fin 4096) : StableHlo.after hostOps0 σ (Proc.devRef .tc main_v28) (ix2 i j) = rowsIn σ i j := by
  after_reads_simp
  pointwise
  after_reads_simp
  pointwise
  exact Rows.both_at (fun b t k => σ (Proc.devRef .tc main_arg0) (ix3 b t k)) (fun b t k => σ (Proc.devRef .tc main_arg1) (ix3 b t k)) i j

theorem v18 (i : Fin 4096) (j : Fin 25600) : StableHlo.after hostOps0 σ (Proc.devRef .tc main_v18) (ix2 i j) = σ (Proc.devRef .tc main_arg7) (ix2 i (Rows.Front.colMain j)) := by
  after_reads_simp
  pointwise
  after_reads_simp
  pointwise
  exact Rows.wide_at (fun n => σ (Proc.devRef .tc main_arg7) (ix2 i n)) j

theorem v24 (i : Fin 4096) (j : Fin 256) : StableHlo.after hostOps0 σ (Proc.devRef .tc main_v24) (ix2 i j)
    = if h : j.val < 144 then σ (Proc.devRef .tc main_arg7) (ix2 i (Rows.Front.colSmall j.val h)) else (0 : EReal) := by
  after_reads_simp
  pointwise
  after_reads_simp
  pointwise
  exact Rows.narrow_at (fun n => σ (Proc.devRef .tc main_arg7) (ix2 i n)) j

theorem v32 (i : Fin 11008) (j : Fin 4096) : StableHlo.after hostOps1 σ (Proc.devRef .tc main_v32) (ix2 i j) = σ (Proc.devRef .tc main_arg4) (ix2 i j) := by
  after_reads_simp
  rfl

theorem v34 (j : Fin 4096) : StableHlo.after hostOps2 σ (Proc.devRef .tc main_v34) (ix2 0 j) = σ (Proc.devRef .tc main_arg5) (ix1 j) := by
  after_reads_simp
  pointwise

theorem v35 (j : Fin 4096) : StableHlo.after hostOps2 σ (Proc.devRef .tc main_v35) (ix2 0 j) = σ (Proc.devRef .tc main_arg6) (ix1 j) := by
  after_reads_simp
  pointwise

theorem v43 (a : Fin 1) (b : Fin 2) (t : Fin 4096) (h : Fin 8) (d : Fin 128) : StableHlo.after hostOps5 σ (Proc.devRef .tc main_v43) (ix5 a b t h d)
    = σ (Proc.devRef .tc main_v37) (ix2 ⟨b.val * 4096 + t.val, by omega⟩ ⟨22528 + (h.val * 128 + d.val), by omega⟩) := by
  after_reads_simp
  pointwise

theorem v47 (a : Fin 1) (b : Fin 2) (t : Fin 4096) (d : Fin 64) : StableHlo.after hostOps5 σ (Proc.devRef .tc main_v47) (ix4 a b t d)
    = σ (Proc.devRef .tc main_v38) (ix2 ⟨b.val * 4096 + t.val, by omega⟩ ⟨80 + d.val, by omega⟩) := by
  after_reads_simp
  pointwise

theorem v45 (a : Fin 1) (b : Fin 2) (t : Fin 4096) (h : Fin 8) (d : Fin 128) : StableHlo.after hostOps5 σ (Proc.devRef .tc main_v45) (ix5 a b t h d)
    = σ (Proc.devRef .tc main_v37) (ix2 ⟨b.val * 4096 + t.val, by omega⟩ ⟨23552 + (h.val * 128 + d.val), by omega⟩) := by
  after_reads_simp
  pointwise

theorem v49 (a : Fin 1) (b : Fin 32) (t : Fin 16) (h : Fin 8) (d : Fin 128) : StableHlo.after hostOps5 σ (Proc.devRef .tc main_v49) (ix5 a b t h d)
    = σ (Proc.devRef .tc main_v37) (ix2 ⟨8192 + (b.val * 16 + t.val), by omega⟩ ⟨22528 + (h.val * 128 + d.val), by omega⟩) := by
  after_reads_simp
  pointwise

theorem v51 (a : Fin 1) (b : Fin 32) (t : Fin 16) (h : Fin 8) (d : Fin 128) : StableHlo.after hostOps5 σ (Proc.devRef .tc main_v51) (ix5 a b t h d)
    = σ (Proc.devRef .tc main_v37) (ix2 ⟨8192 + (b.val * 16 + t.val), by omega⟩ ⟨23552 + (h.val * 128 + d.val), by omega⟩) := by
  after_reads_simp
  pointwise

theorem v53 (a : Fin 1) (b : Fin 32) (t : Fin 16) (d : Fin 64) : StableHlo.after hostOps5 σ (Proc.devRef .tc main_v53) (ix4 a b t d)
    = σ (Proc.devRef .tc main_v38) (ix2 ⟨8192 + (b.val * 16 + t.val), by omega⟩ ⟨80 + d.val, by omega⟩) := by
  after_reads_simp
  pointwise

end Cert.Kernel2Ideal.Front
end
-- ==== Proof.FrontCalls.lean ====
module

public import proofs.«01_k».proof.Proof.Gen.Kernel2Ideal.Frame
public import proofs.«01_k».proof.Proof.RowSpec
public import Idealize.ShloMosaic.Lib.Pipeline.ValueKit

@[expose] public section

set_option maxRecDepth 16384

noncomputable section

/-! # The calls of the layer's front, each read at the contents it is entered with -/

namespace Cert.Kernel2Ideal.Front

open Cert.Kernel2Ideal Cert.Kernel2Ideal.Gen Idealize.ShloMosaic Idealize.ShloMosaic.TcCoe Idealize.SL.Sem
open Idealize.ShloMosaic.Pointwise

variable (V : (c : Dev nD) → (b : Ref sig .tc) → Buf (Elt Ideal) ((c : Thread nD τ).loc b)) (c : Dev nD)

theorem zero2 : (![0, 0] : Fin 2 → Nat) = fun _ => 0 := by decide

/-! ## The hidden rows -/

theorem pay0 (x : Vec Ideal S1088x4096 .bf16) (w1 w3 : Vec Ideal S4096x256 .bf16) (i : Fin 1088) (j : Fin 256) :
    out0_3 x w1 w3 (ix2 i j) = Rows.up (fun k => x (ix2 i k)) (fun k n => w1 (ix2 k n)) (fun k n => w3 (ix2 k n)) j := by
  unfold out0_3
  rw [View.canon_unit_zero zero2, View.ld_unit_zero zero2, View.ld_unit_zero zero2, View.ld_unit_zero zero2]
  pointwise [k0_pay1]
  rfl

theorem idx0_0 : ∀ t : Fin cfg0.N, win0_0.index t = ![t.val / 43, 0] := by decide +kernel
theorem idx0_1 : ∀ t : Fin cfg0.N, win0_1.index t = ![0, t.val % 43] := by decide +kernel
theorem idx0_2 : ∀ t : Fin cfg0.N, win0_2.index t = ![0, t.val % 43] := by decide +kernel
theorem idx0_3 : ∀ t : Fin cfg0.N, win0_3.index t = ![t.val / 43, t.val % 43] := by decide +kernel

theorem hid_eq : (dat0 V c).arrAt 3 cfg0.N
    = fun i : S8704x11008.Idx => Rows.up (fun k => V c main_v28 (ix2 (i 0) k)) (fun k n => V c main_v29 (ix2 k n))
        (fun k n => V c main_v30 (ix2 k n)) (i 1) := by
  refine (dat0 V c).arrAt_eq_of_covers 3 _ (by decide +kernel) fun t hf y => ?_
  blk_simp
  rw [after0_3]
  refine ((congrArg (out0_3 _ _ _) (eq_ix2 y)).trans (pay0 _ _ _ _ _)).trans ?_
  refine Rows.up_congr (fun k => ?_) (fun k => ?_) (fun k => ?_)
  · blk_ext! [iblk0, idx0_0 t, idx0_3 t]
  · blk_ext! [iblk0, idx0_1 t, idx0_3 t]
  · blk_ext! [iblk0, idx0_2 t, idx0_3 t]

/-! ## The feed-forward rows -/

theorem pay1 (x : Vec Ideal S544x11008 .bf16) (w : Vec Ideal S11008x256 .bf16) (i : Fin 544) (j : Fin 256) :
    out1_2 x w (ix2 i j) = Rows.dot (fun k => x (ix2 i k)) (fun k n => w (ix2 k n)) j := by
  unfold out1_2
  rw [View.canon_unit_zero zero2, View.ld_unit_zero zero2, View.ld_unit_zero zero2]
  pointwise [k1_pay1]
  rfl

theorem idx1_0 : ∀ t : Fin cfg1.N, win1_0.index t = ![t.val / 16, 0] := by decide +kernel
theorem idx1_1 : ∀ t : Fin cfg1.N, win1_1.index t = ![0, t.val % 16] := by decide +kernel
theorem idx1_2 : ∀ t : Fin cfg1.N, win1_2.index t = ![t.val / 16, t.val % 16] := by decide +kernel

theorem down_eq : (dat1 V c).arrAt 2 cfg1.N
    = fun i : S8704x4096.Idx => Rows.dot (fun k => V c main_v31 (ix2 (i 0) k)) (fun k n => V c main_v32 (ix2 k n)) (i 1) := by
  refine (dat1 V c).arrAt_eq_of_covers 2 _ (by decide +kernel) fun t hf y => ?_
  blk_simp
  rw [after1_2]
  refine ((congrArg (out1_2 _ _) (eq_ix2 y)).trans (pay1 _ _ _ _)).trans ?_
  refine Rows.dot_congr (fun k => ?_) (fun k => ?_)
  · blk_ext! [iblk1, idx1_0 t, idx1_2 t]
  · blk_ext! [iblk1, idx1_1 t, idx1_2 t]

/-! ## The normed rows -/

theorem pay2 (x d : Vec Ideal S256x4096 .f32) (g b : Vec Ideal S1x4096 .f32) (i : Fin 256) (j : Fin 4096) :
    out2_4 x d g b (ix2 i j) = Rows.norm (Rows.res Rows.half (fun k => x (ix2 i k)) fun k => d (ix2 i k))
      (fun k => g (ix2 0 k)) (fun k => b (ix2 0 k)) j := by
  unfold out2_4
  rw [View.canon_unit_zero zero2, View.ld_unit_zero zero2, View.ld_unit_zero zero2, View.ld_unit_zero zero2, View.ld_unit_zero zero2]
  pointwise [k2_pay1]
  rfl

theorem pay2' (x d : Vec Ideal S256x4096 .f32) (g b : Vec Ideal S1x4096 .f32) (i : Fin 256) (j : Fin 4096) :
    out2_5 x d g b (ix2 i j) = out2_4 x d g b (ix2 i j) := by
  unfold out2_4 out2_5
  rw [View.canon_unit_zero zero2, View.canon_unit_zero zero2]
  rfl

theorem idx2_0 : ∀ t : Fin cfg2.N, win2_0.index t = ![t.val, 0] := by decide +kernel
theorem idx2_1 : ∀ t : Fin cfg2.N, win2_1.index t = ![t.val, 0] := by decide +kernel
theorem idx2_2 : ∀ t : Fin cfg2.N, win2_2.index t = ![0, 0] := by decide +kernel
theorem idx2_3 : ∀ t : Fin cfg2.N, win2_3.index t = ![0, 0] := by decide +kernel
theorem idx2_4 : ∀ t : Fin cfg2.N, win2_4.index t = ![t.val, 0] := by decide +kernel
theorem idx2_5 : ∀ t : Fin cfg2.N, win2_5.index t = ![t.val, 0] := by decide +kernel

/-- The normed array, -/
def normed (i : S8704x4096.Idx) : EReal :=
  Rows.norm (Rows.res Rows.half (fun k => V c main_v27 (ix2 (i 0) k)) fun k => V c main_v33 (ix2 (i 0) k))
    (fun k => V c main_v34 (ix2 0 k)) (fun k => V c main_v35 (ix2 0 k)) (i 1)

theorem norm_eq : (dat2 V c).arrAt 4 cfg2.N = normed V c := by
  refine (dat2 V c).arrAt_eq_of_covers 4 _ (by decide +kernel) fun t hf y => ?_
  unfold normed
  blk_simp
  rw [after2_4]
  refine ((congrArg (out2_4 _ _ _ _) (eq_ix2 y)).trans (pay2 _ _ _ _ _ _)).trans ?_
  refine Rows.norm_congr (fun k => congrArg₂ (· + ·) (congrArg (_ * ·) ?_) (congrArg (_ * ·) ?_)) (fun k => ?_) (fun k => ?_) ?_
  · blk_ext! [iblk2, idx2_0 t, idx2_4 t]
  · blk_ext! [iblk2, idx2_1 t, idx2_4 t]
  · blk_ext! [iblk2, idx2_2 t, idx2_4 t]
  · blk_ext! [iblk2, idx2_3 t, idx2_4 t]
  · apply Fin.ext; blk_simp [idx2_4 t]

/-- kept twice. -/
theorem norm_eq' : (dat2 V c).arrAt 5 cfg2.N = normed V c := by
  refine (dat2 V c).arrAt_eq_of_covers 5 _ (by decide +kernel) fun t hf y => ?_
  unfold normed
  blk_simp
  rw [after2_5]
  refine ((congrArg (out2_5 _ _ _ _) (eq_ix2 y)).trans ((pay2' _ _ _ _ _ _).trans (pay2 _ _ _ _ _ _))).trans ?_
  refine Rows.norm_congr (fun k => congrArg₂ (· + ·) (congrArg (_ * ·) ?_) (congrArg (_ * ·) ?_)) (fun k => ?_) (fun k => ?_) ?_
  · blk_ext! [iblk2, idx2_0 t, idx2_5 t]
  · blk_ext! [iblk2, idx2_1 t, idx2_5 t]
  · blk_ext! [iblk2, idx2_2 t, idx2_5 t]
  · blk_ext! [iblk2, idx2_3 t, idx2_5 t]
  · apply Fin.ext; blk_simp [idx2_5 t]

/-! ## The projections -/

theorem pay3 (x : Vec Ideal S1088x4096 .bf16) (w : Vec Ideal S4096x512 .bf16) (i : Fin 1088) (j : Fin 512) :
    out3_2 x w (ix2 i j) = Rows.dot (fun k => x (ix2 i k)) (fun k n => w (ix2 k n)) j := by
  unfold out3_2
  rw [View.canon_unit_zero zero2, View.ld_unit_zero zero2, View.ld_unit_zero zero2]
  pointwise [k3_pay1]
  rfl

theorem idx3_0 : ∀ t : Fin cfg3.N, win3_0.index t = ![t.val / 50, 0] := by decide +kernel
theorem idx3_1 : ∀ t : Fin cfg3.N, win3_1.index t = ![0, t.val % 50] := by decide +kernel
theorem idx3_2 : ∀ t : Fin cfg3.N, win3_2.index t = ![t.val / 50, t.val % 50] := by decide +kernel

theorem main_eq : (dat3 V c).arrAt 2 cfg3.N
    = fun i : S8704x25600.Idx => Rows.dot (fun k => V c main_v36_1 (ix2 (i 0) k)) (fun k n => V c main_v18 (ix2 k n)) (i 1) := by
  refine (dat3 V c).arrAt_eq_of_covers 2 _ (by decide +kernel) fun t hf y => ?_
  blk_simp
  rw [after3_2]
  refine ((congrArg (out3_2 _ _) (eq_ix2 y)).trans (pay3 _ _ _ _)).trans ?_
  refine Rows.dot_congr (fun k => ?_) (fun k => ?_)
  · blk_ext! [iblk3, idx3_0 t, idx3_2 t]
  · blk_ext! [iblk3, idx3_1 t, idx3_2 t]

theorem pay4 (x : Vec Ideal S1088x4096 .bf16) (w : Vec Ideal S4096x256 .bf16) (i : Fin 1088) (j : Fin 256) :
    out4_2 x w (ix2 i j) = Rows.dot (fun k => x (ix2 i k)) (fun k n => w (ix2 k n)) j := by
  unfold out4_2
  rw [View.canon_unit_zero zero2, View.ld_unit_zero zero2, View.ld_unit_zero zero2]
  pointwise [k4_pay1]
  rfl

theorem idx4_0 : ∀ t : Fin cfg4.N, win4_0.index t = ![t.val, 0] := by decide +kernel
theorem idx4_1 : ∀ t : Fin cfg4.N, win4_1.index t = ![0, 0] := by decide +kernel
theorem idx4_2 : ∀ t : Fin cfg4.N, win4_2.index t = ![t.val, 0] := by decide +kernel

theorem small_eq : (dat4 V c).arrAt 2 cfg4.N
    = fun i : S8704x256.Idx => Rows.dot (fun k => V c main_v36_1 (ix2 (i 0) k)) (fun k n => V c main_v24 (ix2 k n)) (i 1) := by
  refine (dat4 V c).arrAt_eq_of_covers 2 _ (by decide +kernel) fun t hf y => ?_
  blk_simp
  rw [after4_2]
  refine ((congrArg (out4_2 _ _) (eq_ix2 y)).trans (pay4 _ _ _ _)).trans ?_
  refine Rows.dot_congr (fun k => ?_) (fun k => ?_)
  · blk_ext! [iblk4, idx4_0 t, idx4_2 t]
  · blk_ext! [iblk4, idx4_1 t, idx4_2 t]

end Cert.Kernel2Ideal.Front
end
-- ==== Proof.FrontRun.lean ====
module

public import proofs.«01_k».proof.Proof.Gen.Kernel2Ideal.Frame
public import proofs.«01_k».proof.Proof.FrontHost
public import proofs.«01_k».proof.Proof.FrontCalls
public import Idealize.ShloMosaic.Lib.Pipeline.ValueKit
public import Idealize.ShloMosaic.Lib.StableHlo.RunRead

@[expose] public section

set_option maxRecDepth 100000

noncomputable section

/-! # What the front's program leaves -/

namespace Cert.Kernel2Ideal.Front

open Cert.Kernel2Ideal Cert.Kernel2Ideal.Gen Idealize.ShloMosaic Idealize.ShloMosaic.TcCoe Idealize.SL.Sem
open Idealize.ShloMosaic.Pointwise
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- The whole program, every buffer of it at the last boundary's contents. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

variable (c : Dev nD)

/-- The weights and the rows, as launched. -/
def wts : Rows.Front where
  w1 k n := m ((c : Thread nD τ).loc main_arg2) (ix2 k n)
  w3 k n := m ((c : Thread nD τ).loc main_arg3) (ix2 k n)
  w2 k n := m ((c : Thread nD τ).loc main_arg4) (ix2 k n)
  g k := m ((c : Thread nD τ).loc main_arg5) (ix1 k)
  b k := m ((c : Thread nD τ).loc main_arg6) (ix1 k)
  win k n := m ((c : Thread nD τ).loc main_arg7) (ix2 k n)

abbrev prompt (b : Fin 2) (t : Fin 4096) (k : Fin 4096) : EReal := m ((c : Thread nD τ).loc main_arg0) (ix3 b t k)
abbrev sample (b : Fin 32) (t : Fin 16) (k : Fin 4096) : EReal := m ((c : Thread nD τ).loc main_arg1) (ix3 b t k)
def rows : Fin 8704 → Fin 4096 → EReal := Rows.both (prompt m c) (sample m c)

theorem hid_at : W2 m ρ c (Proc.devRef .tc main_v31) = fun i : S8704x11008.Idx => Rows.up (rows m c (i 0)) (wts m c).w1 (wts m c).w3 (i 1) :=
  ((W2_arr m ρ c 3).trans (hid_eq (V1 m ρ) c)).trans (funext fun i =>
    Rows.up_congr (fun k => v28 (W0 m ρ c) (i 0) k) (fun k => v29 (W0 m ρ c) k (i 1)) (fun k => v30 (W0 m ρ c) k (i 1)))

theorem down_at : W4 m ρ c (Proc.devRef .tc main_v33) = fun i : S8704x4096.Idx => Rows.ffn (rows m c (i 0)) (wts m c).w1 (wts m c).w3 (wts m c).w2 (i 1) :=
  ((W4_arr m ρ c 2).trans (down_eq (V3 m ρ) c)).trans (funext fun i =>
    Rows.dot_congr (fun k => congrFun ((W3_of m ρ c main_v31 (by decide)).trans (hid_at m ρ c)) (ix2 (i 0) k))
      (fun k => (v32 (W2 m ρ c) k (i 1)).trans (congrFun (W2_args m ρ c main_arg4 (by decide)) _)))

theorem in_at : W5 m ρ c (Proc.devRef .tc main_v27) = W1 m ρ c (Proc.devRef .tc main_v27) :=
  (W5_of m ρ c main_v27 (by decide)).trans ((W4_of m ρ c main_v27 (by decide)).trans ((W3_of m ρ c main_v27 (by decide)).trans (W2_of m ρ c main_v27 (by decide))))

theorem normed_at : normed (V5 m ρ) c = fun i : S8704x4096.Idx => (wts m c).x1 (rows m c (i 0)) (i 1) := funext fun i =>
  Rows.norm_congr
    (fun k => congrArg₂ (· + ·) (congrArg (_ * ·) ((congrFun (in_at m ρ c) (ix2 (i 0) k)).trans (v27 (W0 m ρ c) (i 0) k)))
      (congrArg (_ * ·) (congrFun ((W5_of m ρ c main_v33 (by decide)).trans (down_at m ρ c)) (ix2 (i 0) k))))
    (fun k => (v34 (W4 m ρ c) k).trans (congrFun (W4_args m ρ c main_arg5 (by decide)) _))
    (fun k => (v35 (W4 m ρ c) k).trans (congrFun (W4_args m ρ c main_arg6 (by decide)) _)) rfl

theorem x1_at : W6 m ρ c (Proc.devRef .tc main_v36_0) = fun i : S8704x4096.Idx => (wts m c).x1 (rows m c (i 0)) (i 1) :=
  ((W6_arr m ρ c 4).trans (norm_eq (V5 m ρ) c)).trans (normed_at m ρ c)

theorem x1_at' : W6 m ρ c (Proc.devRef .tc main_v36_1) = fun i : S8704x4096.Idx => (wts m c).x1 (rows m c (i 0)) (i 1) :=
  ((W6_arr m ρ c 5).trans (norm_eq' (V5 m ρ) c)).trans (normed_at m ρ c)

/-- The laid out weights are kept as far as the projections. -/
theorem w_at (r : Ref sig .tc) (h5 : r ∉ hostOps2_W) (h3 : r ∉ hostOps1_W)
    (h6 : ∀ w : Fin cfg2.W, Pipeline.arrRef spec2 w = r → (cfg2.win w).isOut = false)
    (h4 : ∀ w : Fin cfg1.W, Pipeline.arrRef spec1 w = r → (cfg1.win w).isOut = false)
    (h2 : ∀ w : Fin cfg0.W, Pipeline.arrRef spec0 w = r → (cfg0.win w).isOut = false) :
    W6 m ρ c (Proc.devRef .tc r) = W1 m ρ c (Proc.devRef .tc r) :=
  (W6_of m ρ c r h6).trans ((W5_of m ρ c r h5).trans ((W4_of m ρ c r h4).trans ((W3_of m ρ c r h3).trans (W2_of m ρ c r h2))))

theorem main_at : W7 m ρ c (Proc.devRef .tc main_v37) = fun i : S8704x25600.Idx => (wts m c).main (rows m c (i 0)) (i 1) :=
  ((W7_arr m ρ c 2).trans (main_eq (V6 m ρ) c)).trans (funext fun i =>
    Rows.dot_congr (fun k => congrFun (x1_at' m ρ c) (ix2 (i 0) k))
      (fun k => (congrFun (w_at m ρ c main_v18 (by decide) (by decide) (by decide) (by decide) (by decide)) _).trans (v18 (W0 m ρ c) k (i 1))))

theorem small_at : W8 m ρ c (Proc.devRef .tc main_v38) = fun i : S8704x256.Idx => (wts m c).small (rows m c (i 0)) (i 1) :=
  ((W8_arr m ρ c 2).trans (small_eq (V7 m ρ) c)).trans (funext fun i => by
    have hx : ∀ k : Fin 4096, W7 m ρ c (Proc.devRef .tc main_v36_1) (ix2 (i 0) k) = (wts m c).x1 (rows m c (i 0)) k := fun k =>
      congrFun ((W7_of m ρ c main_v36_1 (by decide)).trans (x1_at' m ρ c)) (ix2 (i 0) k)
    have hw : ∀ k : Fin 4096, W7 m ρ c (Proc.devRef .tc main_v24) (ix2 k (i 1))
        = if h : (i 1).val < 144 then (wts m c).win k (Rows.Front.colSmall (i 1).val h) else (0 : EReal) := fun k =>
      (congrFun ((W7_of m ρ c main_v24 (by decide)).trans (w_at m ρ c main_v24 (by decide) (by decide) (by decide) (by decide) (by decide))) _).trans (v24 (W0 m ρ c) k (i 1))
    refine (Rows.dot_congr (j' := i 1) (w' := fun k _ => if h : (i 1).val < 144 then (wts m c).win k (Rows.Front.colSmall (i 1).val h) else (0 : EReal)) hx hw).trans ?_
    unfold Rows.dot Rows.Front.small
    by_cases h : (i 1).val < 144
    · simp only [dif_pos h]; rfl
    · simp only [dif_neg h, mul_zero, Finset.sum_const_zero])

/-! The results. -/

theorem r_x1 : W9 m ρ c (Proc.devRef .tc main_v36_0) = fun i : S8704x4096.Idx => (wts m c).x1 (rows m c (i 0)) (i 1) :=
  (W9_of m ρ c main_v36_0 (by decide)).trans ((W8_of m ρ c main_v36_0 (by decide)).trans ((W7_of m ρ c main_v36_0 (by decide)).trans (x1_at m ρ c)))

theorem main_at' : W8 m ρ c (Proc.devRef .tc main_v37) = fun i : S8704x25600.Idx => (wts m c).main (rows m c (i 0)) (i 1) :=
  (W8_of m ρ c main_v37 (by decide)).trans (main_at m ρ c)

theorem r_main : W9 m ρ c (Proc.devRef .tc main_v37) = fun i : S8704x25600.Idx => (wts m c).main (rows m c (i 0)) (i 1) :=
  (W9_of m ρ c main_v37 (by decide)).trans (main_at' m ρ c)

theorem r_small : W9 m ρ c (Proc.devRef .tc main_v38) = fun i : S8704x256.Idx => (wts m c).small (rows m c (i 0)) (i 1) :=
  (W9_of m ρ c main_v38 (by decide)).trans (small_at m ρ c)

open Rows.Front (colK colV colI)

/-- A wide entry at a prompt's row, past the first 22528 columns, -/
theorem wide_p (b : Fin 2) (t : Fin 4096) (n : ℕ) (h : n < 3072) (hr : b.val * 4096 + t.val < 8704) :
    W8 m ρ c (Proc.devRef .tc main_v37) (ix2 ⟨b.val * 4096 + t.val, hr⟩ ⟨22528 + n, by omega⟩) = (wts m c).u (prompt m c b t) ⟨14400 + n, by omega⟩ := by
  rw [main_at']
  refine (Rows.main_kv (wts m c) _ n h).trans ?_
  exact congrArg (fun x => (wts m c).u x _) (Rows.both_prompt _ _ b t _ rfl)

/-- or at a sample's. -/
theorem wide_s (b : Fin 32) (t : Fin 16) (n : ℕ) (h : n < 3072) (hr : 8192 + (b.val * 16 + t.val) < 8704) :
    W8 m ρ c (Proc.devRef .tc main_v37) (ix2 ⟨8192 + (b.val * 16 + t.val), hr⟩ ⟨22528 + n, by omega⟩) = (wts m c).u (sample m c b t) ⟨14400 + n, by omega⟩ := by
  rw [main_at']
  refine (Rows.main_kv (wts m c) _ n h).trans ?_
  exact congrArg (fun x => (wts m c).u x _) (Rows.both_sample _ _ b t _ rfl)

theorem r_pk : W9 m ρ c (Proc.devRef .tc main_v43) = fun i : S1x2x4096x8x128.Idx => (wts m c).u (prompt m c (i 1) (i 2)) (colK (i 3) (i 4)) := by
  funext i
  rw [eq_ix5 i]
  exact (v43 (W8 m ρ c) _ _ _ _ _).trans (wide_p m ρ c _ _ _ (by omega) _)

theorem r_sk : W9 m ρ c (Proc.devRef .tc main_v49) = fun i : S1x32x16x8x128.Idx => (wts m c).u (sample m c (i 1) (i 2)) (colK (i 3) (i 4)) := by
  funext i
  rw [eq_ix5 i]
  exact (v49 (W8 m ρ c) _ _ _ _ _).trans (wide_s m ρ c _ _ _ (by omega) _)

theorem wide_at_col (r : Fin 8704) (n : ℕ) (h : 23552 + n < 25600) : W8 m ρ c (Proc.devRef .tc main_v37) (ix2 r ⟨23552 + n, h⟩)
    = W8 m ρ c (Proc.devRef .tc main_v37) (ix2 r ⟨22528 + (1024 + n), by omega⟩) :=
  congrArg (fun k => W8 m ρ c (Proc.devRef .tc main_v37) (ix2 r k)) (Fin.ext (show 23552 + n = 22528 + (1024 + n) by omega))

theorem colV_eq (h : Fin 8) (d : Fin 128) : (⟨14400 + (1024 + (h.val * 128 + d.val)), by omega⟩ : Fin 25744) = colV h d :=
  Fin.ext (by simp only [colV]; omega)

theorem r_pv : W9 m ρ c (Proc.devRef .tc main_v45) = fun i : S1x2x4096x8x128.Idx => (wts m c).u (prompt m c (i 1) (i 2)) (colV (i 3) (i 4)) := by
  funext i
  rw [eq_ix5 i]
  exact ((v45 (W8 m ρ c) _ _ _ _ _).trans (wide_at_col m ρ c _ _ _)).trans ((wide_p m ρ c _ _ _ (by omega) _).trans (congrArg _ (colV_eq _ _)))

theorem r_sv : W9 m ρ c (Proc.devRef .tc main_v51) = fun i : S1x32x16x8x128.Idx => (wts m c).u (sample m c (i 1) (i 2)) (colV (i 3) (i 4)) := by
  funext i
  rw [eq_ix5 i]
  exact ((v51 (W8 m ρ c) _ _ _ _ _).trans (wide_at_col m ρ c _ _ _)).trans ((wide_s m ρ c _ _ _ (by omega) _).trans (congrArg _ (colV_eq _ _)))

theorem r_pki : W9 m ρ c (Proc.devRef .tc main_v47) = fun i : S1x2x4096x64.Idx => (wts m c).u (prompt m c (i 1) (i 2)) (colI (i 3)) := by
  funext i
  rw [eq_ix4 i]
  refine (v47 (W8 m ρ c) _ _ _ _).trans ?_
  rw [small_at]
  refine (Rows.small_ki (wts m c) _ _ (by omega)).trans ?_
  exact congrArg (fun x => (wts m c).u x _) (Rows.both_prompt _ _ (i 1) (i 2) _ rfl)

theorem r_ski : W9 m ρ c (Proc.devRef .tc main_v53) = fun i : S1x32x16x64.Idx => (wts m c).u (sample m c (i 1) (i 2)) (colI (i 3)) := by
  funext i
  rw [eq_ix4 i]
  refine (v53 (W8 m ρ c) _ _ _ _).trans ?_
  rw [small_at]
  refine (Rows.small_ki (wts m c) _ _ (by omega)).trans ?_
  exact congrArg (fun x => (wts m c).u x _) (Rows.both_sample _ _ (i 1) (i 2) _ rfl)

end Cert.Kernel2Ideal.Front
end
-- ==== Proof.FrontRef.lean ====
module

public import proofs.«01_k».proof.Proof.FrontSpec
public import proofs.«01_k».proof.Proof.Gen.Reference2Ideal.Read
public import Idealize.ShloMosaic.Lib.Pointwise

@[expose] public section

set_option maxRecDepth 16384

noncomputable section

/-! # The front's reference, read on a row -/

namespace Cert.Reference2Ideal.Front

open Cert.Reference2Ideal Cert.Reference2Ideal.Gen Cert.Reference2Ideal.Read Idealize.ShloMosaic.TcCoe Idealize.ShloMosaic.StableHlo Idealize.ShloMosaic Idealize.SL.Sem
open Idealize.ShloMosaic.Pointwise
open Cert.Rows.Front (colK colV colI)

variable (x0 : FVec Ideal S2x4096x4096 .f32) (x1 : FVec Ideal S32x16x4096 .f32) (x2 x3 : FVec Ideal S4096x11008 .f32)
  (x4 : FVec Ideal S11008x4096 .f32) (x5 x6 : FVec Ideal S4096 .f32) (x7 : FVec Ideal S4096x25744 .f32)

/-- The arguments' weights and rows. -/
def wts : Rows.Front where
  w1 k n := x2 (ix2 k n)
  w3 k n := x3 (ix2 k n)
  w2 k n := x4 (ix2 k n)
  g k := x5 (ix1 k)
  b k := x6 (ix1 k)
  win k n := x7 (ix2 k n)

abbrev prompt (b : Fin 2) (t : Fin 4096) (k : Fin 4096) : EReal := x0 (ix3 b t k)
abbrev sample (b : Fin 32) (t : Fin 16) (k : Fin 4096) : EReal := x1 (ix3 b t k)

/-! The prompts. -/

theorem v5_apply (b : Fin 2) (t : Fin 4096) (n : Fin 11008) :
    val_main_v5 (F := Ideal) x0 x2 x3 (ix3 b t n) = Rows.up (prompt x0 b t) (fun k n => x2 (ix2 k n)) (fun k n => x3 (ix2 k n)) n := by
  pointwise [val_main_v5, val_main_v4, val_main_v3, val_main_call0_v5, val_main_call0_v4, val_main_call0_cst_0, val_main_call0_v3, val_main_call0_v2, val_main_call0_cst, val_main_call0_v1, val_main_call0_v0, val_main_v2]
  unfold Rows.up Rows.sig
  rw [zero_sub]
  rfl

theorem v33_apply (b : Fin 2) (t : Fin 4096) (j : Fin 4096) :
    val_main_v33 (F := Ideal) x0 x2 x3 x4 x5 x6 (ix3 b t j) = (wts x2 x3 x4 x5 x6 x7).x1 (prompt x0 b t) j := by
  have e : ∀ k, val_main_v9 (F := Ideal) x0 x2 x3 x4 (ix3 b t k) = Rows.res Rows.half (prompt x0 b t) (Rows.ffn (prompt x0 b t) (wts x2 x3 x4 x5 x6 x7).w1 (wts x2 x3 x4 x5 x6 x7).w3 (wts x2 x3 x4 x5 x6 x7).w2) k := fun k => by
    pointwise [val_main_v9, val_main_v8, val_main_v7, val_main_cst_0, val_main_v6, val_main_v1, val_main_v0, val_main_cst]
    simp only [v5_apply]
    rfl
  pointwise [val_main_v33, val_main_v32, val_main_v31, val_main_v30, val_main_v29, val_main_v28, val_main_v27, val_main_v26, val_main_v25, val_main_v24, val_main_v23, val_main_cst_5, val_main_v22, val_main_v21, val_main_v20, val_main_v19, val_main_cst_4, val_main_v18, val_main_v17, val_main_v16, val_main_v15, val_main_v14, val_main_v13, val_main_v12, val_main_v11, val_main_v10, val_main_cst_1, val_main_cst_2, val_main_cst_3]
  simp only [e]
  rfl

theorem v34_apply (b : Fin 2) (t : Fin 4096) (n : Fin 25744) :
    val_main_v34 (F := Ideal) x0 x2 x3 x4 x5 x6 x7 (ix3 b t n) = (wts x2 x3 x4 x5 x6 x7).u (prompt x0 b t) n := by
  pointwise [val_main_v34]
  simp only [v33_apply x0 x2 x3 x4 x5 x6 x7]
  rfl

theorem v48_apply (b : Fin 2) (t : Fin 4096) (j : Fin 25600) :
    val_main_v48 (F := Ideal) x0 x2 x3 x4 x5 x6 x7 (ix3 b t j) = (wts x2 x3 x4 x5 x6 x7).main (prompt x0 b t) j := by
  pointwise [val_main_v48, val_main_v35, val_main_v46, val_main_v36, val_main_v38, val_main_v44, val_main_v45, val_main_v47, val_main_v39, val_main_v40, val_main_v41]
  simp only [v34_apply, ← Nat.add_assoc, Nat.reduceAdd]
  exact Rows.wide_at (fun n => (wts x2 x3 x4 x5 x6 x7).u (prompt x0 b t) n) j

theorem v50_apply (b : Fin 2) (t : Fin 4096) (j : Fin 256) :
    val_main_v50 (F := Ideal) x0 x2 x3 x4 x5 x6 x7 (ix3 b t j) = (wts x2 x3 x4 x5 x6 x7).small (prompt x0 b t) j := by
  pointwise [val_main_v50, val_main_v37, val_main_v42, val_main_v43, val_main_v49, val_main_cst_6]
  simp only [v34_apply]
  exact Rows.narrow_at (fun n => (wts x2 x3 x4 x5 x6 x7).u (prompt x0 b t) n) j

theorem v51_eq : val_main_v51 (F := Ideal) x0 x2 x3 x4 x5 x6 x7 = fun i : S1x2x4096x8x128.Idx =>
    (wts x2 x3 x4 x5 x6 x7).u (prompt x0 (i 1) (i 2)) (colK (i 3) (i 4)) := by
  funext i
  rw [eq_ix5 i]
  pointwise [val_main_v51, val_main_v39]
  exact v34_apply _ _ _ _ _ _ _ _ _ _

theorem v52_eq : val_main_v52 (F := Ideal) x0 x2 x3 x4 x5 x6 x7 = fun i : S1x2x4096x8x128.Idx =>
    (wts x2 x3 x4 x5 x6 x7).u (prompt x0 (i 1) (i 2)) (colV (i 3) (i 4)) := by
  funext i
  rw [eq_ix5 i]
  pointwise [val_main_v52, val_main_v40]
  exact v34_apply _ _ _ _ _ _ _ _ _ _

theorem v53_eq : val_main_v53 (F := Ideal) x0 x2 x3 x4 x5 x6 x7 = fun i : S1x2x4096x64.Idx =>
    (wts x2 x3 x4 x5 x6 x7).u (prompt x0 (i 1) (i 2)) (colI (i 3)) := by
  funext i
  rw [eq_ix4 i]
  pointwise [val_main_v53, val_main_v43]
  exact v34_apply _ _ _ _ _ _ _ _ _ _

/-! The samples. -/

theorem v59_apply (b : Fin 32) (t : Fin 16) (n : Fin 11008) :
    val_main_v59 (F := Ideal) x1 x2 x3 (ix3 b t n) = Rows.up (sample x1 b t) (fun k n => x2 (ix2 k n)) (fun k n => x3 (ix2 k n)) n := by
  pointwise [val_main_v59, val_main_v58, val_main_v57, val_main_call1_v5, val_main_call1_v4, val_main_call1_cst_0, val_main_call1_v3, val_main_call1_v2, val_main_call1_cst, val_main_call1_v1, val_main_call1_v0, val_main_v56]
  unfold Rows.up Rows.sig
  rw [zero_sub]
  rfl

theorem v87_apply (b : Fin 32) (t : Fin 16) (j : Fin 4096) :
    val_main_v87 (F := Ideal) x1 x2 x3 x4 x5 x6 (ix3 b t j) = (wts x2 x3 x4 x5 x6 x7).x1 (sample x1 b t) j := by
  have e : ∀ k, val_main_v63 (F := Ideal) x1 x2 x3 x4 (ix3 b t k) = Rows.res Rows.half (sample x1 b t) (Rows.ffn (sample x1 b t) (wts x2 x3 x4 x5 x6 x7).w1 (wts x2 x3 x4 x5 x6 x7).w3 (wts x2 x3 x4 x5 x6 x7).w2) k := fun k => by
    pointwise [val_main_v63, val_main_v62, val_main_v61, val_main_cst_8, val_main_v60, val_main_v55, val_main_v54, val_main_cst_7]
    simp only [v59_apply]
    rfl
  pointwise [val_main_v87, val_main_v86, val_main_v85, val_main_v84, val_main_v83, val_main_v82, val_main_v81, val_main_v80, val_main_v79, val_main_v78, val_main_v77, val_main_cst_13, val_main_v76, val_main_v75, val_main_v74, val_main_v73, val_main_cst_12, val_main_v72, val_main_v71, val_main_v70, val_main_v69, val_main_v68, val_main_v67, val_main_v66, val_main_v65, val_main_v64, val_main_cst_9, val_main_cst_10, val_main_cst_11]
  simp only [e]
  rfl

theorem v88_apply (b : Fin 32) (t : Fin 16) (n : Fin 25744) :
    val_main_v88 (F := Ideal) x1 x2 x3 x4 x5 x6 x7 (ix3 b t n) = (wts x2 x3 x4 x5 x6 x7).u (sample x1 b t) n := by
  pointwise [val_main_v88]
  simp only [v87_apply x1 x2 x3 x4 x5 x6 x7]
  rfl

theorem v102_apply (b : Fin 32) (t : Fin 16) (j : Fin 25600) :
    val_main_v102 (F := Ideal) x1 x2 x3 x4 x5 x6 x7 (ix3 b t j) = (wts x2 x3 x4 x5 x6 x7).main (sample x1 b t) j := by
  pointwise [val_main_v102, val_main_v89, val_main_v100, val_main_v90, val_main_v92, val_main_v98, val_main_v99, val_main_v101, val_main_v93, val_main_v94, val_main_v95]
  simp only [v88_apply, ← Nat.add_assoc, Nat.reduceAdd]
  exact Rows.wide_at (fun n => (wts x2 x3 x4 x5 x6 x7).u (sample x1 b t) n) j

theorem v104_apply (b : Fin 32) (t : Fin 16) (j : Fin 256) :
    val_main_v104 (F := Ideal) x1 x2 x3 x4 x5 x6 x7 (ix3 b t j) = (wts x2 x3 x4 x5 x6 x7).small (sample x1 b t) j := by
  pointwise [val_main_v104, val_main_v91, val_main_v96, val_main_v97, val_main_v103, val_main_cst_14]
  simp only [v88_apply]
  exact Rows.narrow_at (fun n => (wts x2 x3 x4 x5 x6 x7).u (sample x1 b t) n) j

theorem v105_eq : val_main_v105 (F := Ideal) x1 x2 x3 x4 x5 x6 x7 = fun i : S1x32x16x8x128.Idx =>
    (wts x2 x3 x4 x5 x6 x7).u (sample x1 (i 1) (i 2)) (colK (i 3) (i 4)) := by
  funext i
  rw [eq_ix5 i]
  pointwise [val_main_v105, val_main_v93]
  exact v88_apply _ _ _ _ _ _ _ _ _ _

theorem v106_eq : val_main_v106 (F := Ideal) x1 x2 x3 x4 x5 x6 x7 = fun i : S1x32x16x8x128.Idx =>
    (wts x2 x3 x4 x5 x6 x7).u (sample x1 (i 1) (i 2)) (colV (i 3) (i 4)) := by
  funext i
  rw [eq_ix5 i]
  pointwise [val_main_v106, val_main_v94]
  exact v88_apply _ _ _ _ _ _ _ _ _ _

theorem v107_eq : val_main_v107 (F := Ideal) x1 x2 x3 x4 x5 x6 x7 = fun i : S1x32x16x64.Idx =>
    (wts x2 x3 x4 x5 x6 x7).u (sample x1 (i 1) (i 2)) (colI (i 3)) := by
  funext i
  rw [eq_ix4 i]
  pointwise [val_main_v107, val_main_v97]
  exact v88_apply _ _ _ _ _ _ _ _ _ _

/-! Both, one after the other. -/

theorem v110_apply (r : Fin 8704) (j : Fin 4096) :
    val_main_v110 (F := Ideal) x0 x1 x2 x3 x4 x5 x6 (ix2 r j) = (wts x2 x3 x4 x5 x6 x7).x1 (Rows.both (prompt x0) (sample x1) r) j := by
  pointwise [val_main_v110, val_main_v108, val_main_v109]
  simp only [v33_apply x0 x2 x3 x4 x5 x6 x7, v87_apply x1 x2 x3 x4 x5 x6 x7]
  exact (Rows.both_at (fun b t => (wts x2 x3 x4 x5 x6 x7).x1 (prompt x0 b t)) (fun b t => (wts x2 x3 x4 x5 x6 x7).x1 (sample x1 b t)) _ _).trans
    (congrFun (Rows.map_both _ _ _ _) _)

theorem v110_eq : val_main_v110 (F := Ideal) x0 x1 x2 x3 x4 x5 x6 = fun i : S8704x4096.Idx =>
    (wts x2 x3 x4 x5 x6 x7).x1 (Rows.both (prompt x0) (sample x1) (i 0)) (i 1) := by
  funext i
  rw [eq_ix2 i]
  exact v110_apply x0 x1 x2 x3 x4 x5 x6 x7 (i 0) (i 1)

theorem v113_apply (r : Fin 8704) (j : Fin 25600) :
    val_main_v113 (F := Ideal) x0 x1 x2 x3 x4 x5 x6 x7 (ix2 r j) = (wts x2 x3 x4 x5 x6 x7).main (Rows.both (prompt x0) (sample x1) r) j := by
  pointwise [val_main_v113, val_main_v111, val_main_v112]
  simp only [v48_apply, v102_apply]
  exact (Rows.both_at (fun b t => (wts x2 x3 x4 x5 x6 x7).main (prompt x0 b t)) (fun b t => (wts x2 x3 x4 x5 x6 x7).main (sample x1 b t)) _ _).trans
    (congrFun (Rows.map_both _ _ _ _) _)

theorem v113_eq : val_main_v113 (F := Ideal) x0 x1 x2 x3 x4 x5 x6 x7 = fun i : S8704x25600.Idx =>
    (wts x2 x3 x4 x5 x6 x7).main (Rows.both (prompt x0) (sample x1) (i 0)) (i 1) := by
  funext i
  rw [eq_ix2 i]
  exact v113_apply x0 x1 x2 x3 x4 x5 x6 x7 (i 0) (i 1)

theorem v116_apply (r : Fin 8704) (j : Fin 256) :
    val_main_v116 (F := Ideal) x0 x1 x2 x3 x4 x5 x6 x7 (ix2 r j) = (wts x2 x3 x4 x5 x6 x7).small (Rows.both (prompt x0) (sample x1) r) j := by
  pointwise [val_main_v116, val_main_v114, val_main_v115]
  simp only [v50_apply, v104_apply]
  exact (Rows.both_at (fun b t => (wts x2 x3 x4 x5 x6 x7).small (prompt x0 b t)) (fun b t => (wts x2 x3 x4 x5 x6 x7).small (sample x1 b t)) _ _).trans
    (congrFun (Rows.map_both _ _ _ _) _)

theorem v116_eq : val_main_v116 (F := Ideal) x0 x1 x2 x3 x4 x5 x6 x7 = fun i : S8704x256.Idx =>
    (wts x2 x3 x4 x5 x6 x7).small (Rows.both (prompt x0) (sample x1) (i 0)) (i 1) := by
  funext i
  rw [eq_ix2 i]
  exact v116_apply x0 x1 x2 x3 x4 x5 x6 x7 (i 0) (i 1)

end Cert.Reference2Ideal.Front
end
-- ==== Proof.FrontClaim.lean ====
module

public import proofs.«01_k».proof.Defs
public import proofs.«01_k».proof.Proof.FrontRun
public import proofs.«01_k».proof.Proof.FrontRef
public import proofs.«01_k».proof.Proof.Gen.Reference2Ideal.Run
public import Idealize.ShloMosaic.Lib.Quiescent

@[expose] public section

set_option maxRecDepth 16384

noncomputable section

namespace Cert.Proof.Front

open Idealize.ShloMosaic Idealize.SL.Sem Idealize.ShloMosaic.TcCoe
open Cert.Kernel2Ideal Cert.Kernel2Ideal.Gen Cert.Kernel2Ideal.Front

/-- The reference's run keeps its arguments; it declares no semaphore. -/
theorem refFrame : Cert.quiescent_Reference2Ideal (hReference2Ideal := Cert.Reference2Ideal.Gen.facts) := by
  intro m ρ _
  exact (θ_run Cert.Reference2Ideal.defs _ _).mono (fun r h => ⟨fun c => (h c).2.2.2.2.2.2.2.2.2,
      Idealize.ShloMosaic.sem_eq_zero_of_no_sems (by decide) r.2⟩)
    (Cert.Reference2Ideal.Value.run (F := Ideal) m ρ)

/-- The kernel's results are the reference's. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => W9 m ρ c (Proc.devRef .tc main_v36_0), fun c => W9 m ρ c (Proc.devRef .tc main_v37), fun c => W9 m ρ c (Proc.devRef .tc main_v38),
    fun c => W9 m ρ c (Proc.devRef .tc main_v43), fun c => W9 m ρ c (Proc.devRef .tc main_v45), fun c => W9 m ρ c (Proc.devRef .tc main_v47),
    fun c => W9 m ρ c (Proc.devRef .tc main_v49), fun c => W9 m ρ c (Proc.devRef .tc main_v51), fun c => W9 m ρ c (Proc.devRef .tc main_v53), ?_, ?_⟩
  · refine (θ_run Cert.Kernel2Ideal.defs _ _).mono (fun r h c => ?_) (run m ρ)
    exact ⟨h c _ (mem_uc main_v36_0 (by decide)),
      h c _ (mem_uc main_v37 (by decide)),
      h c _ (mem_uc main_v38 (by decide)),
      h c _ (mem_uc main_v43 (by decide)),
      h c _ (mem_uc main_v45 (by decide)),
      h c _ (mem_uc main_v47 (by decide)),
      h c _ (mem_uc main_v49 (by decide)),
      h c _ (mem_uc main_v51 (by decide)),
      h c _ (mem_uc main_v53 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c)⟩
  refine (θ_run Cert.Reference2Ideal.defs _ _).mono (fun r h c => ?_) (Cert.Reference2Ideal.Value.run (F := Ideal) m' ρ')
  obtain ⟨h0, h1, h2, h3, h4, h5, h6, h7⟩ := hagree c
  have hw : wts m c = Cert.Reference2Ideal.Front.wts (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) := by
    rw [h2, h3, h4, h5, h6, h7]; rfl
  have hp : prompt m c = Cert.Reference2Ideal.Front.prompt (m' ((c.tc : Thread Cert.Reference2Ideal.nD Cert.Reference2Ideal.τ).loc Cert.Reference2Ideal.main_arg0)) := by rw [h0]
  have hs : sample m c = Cert.Reference2Ideal.Front.sample (m' ((c.tc : Thread Cert.Reference2Ideal.nD Cert.Reference2Ideal.τ).loc Cert.Reference2Ideal.main_arg1)) := by rw [h1]
  have hr : rows m c = Rows.both (Cert.Reference2Ideal.Front.prompt (m' ((c.tc : Thread Cert.Reference2Ideal.nD Cert.Reference2Ideal.τ).loc Cert.Reference2Ideal.main_arg0))) (Cert.Reference2Ideal.Front.sample (m' ((c.tc : Thread Cert.Reference2Ideal.nD Cert.Reference2Ideal.τ).loc Cert.Reference2Ideal.main_arg1))) := by
    unfold rows; rw [hp, hs]
  obtain ⟨e0, e1, e2, e3, e4, e5, e6, e7, e8, hargs⟩ := h c
  refine ⟨(e0.trans (Cert.Reference2Ideal.Read.val_main_v110_eq _)).trans ?_, (e1.trans (Cert.Reference2Ideal.Read.val_main_v113_eq _)).trans ?_, (e2.trans (Cert.Reference2Ideal.Read.val_main_v116_eq _)).trans ?_, (e3.trans (Cert.Reference2Ideal.Read.val_main_v51_eq _)).trans ?_, (e4.trans (Cert.Reference2Ideal.Read.val_main_v52_eq _)).trans ?_, (e5.trans (Cert.Reference2Ideal.Read.val_main_v53_eq _)).trans ?_, (e6.trans (Cert.Reference2Ideal.Read.val_main_v105_eq _)).trans ?_, (e7.trans (Cert.Reference2Ideal.Read.val_main_v106_eq _)).trans ?_, (e8.trans (Cert.Reference2Ideal.Read.val_main_v107_eq _)).trans ?_, hargs⟩
  · refine (Cert.Reference2Ideal.Front.v110_eq _ _ _ _ _ _ _ (m' ((c.tc : Thread Cert.Reference2Ideal.nD Cert.Reference2Ideal.τ).loc Cert.Reference2Ideal.main_arg7))).trans ?_
    refine Eq.trans ?_ (r_x1 m ρ c).symm
    rw [hw, hr]
  · refine (Cert.Reference2Ideal.Front.v113_eq _ _ _ _ _ _ _ _).trans ?_
    refine Eq.trans ?_ (r_main m ρ c).symm
    rw [hw, hr]
  · refine (Cert.Reference2Ideal.Front.v116_eq _ _ _ _ _ _ _ _).trans ?_
    refine Eq.trans ?_ (r_small m ρ c).symm
    rw [hw, hr]
  · refine (Cert.Reference2Ideal.Front.v51_eq _ _ _ _ _ _ _).trans ?_
    refine Eq.trans ?_ (r_pk m ρ c).symm
    rw [hw, hp]
  · refine (Cert.Reference2Ideal.Front.v52_eq _ _ _ _ _ _ _).trans ?_
    refine Eq.trans ?_ (r_pv m ρ c).symm
    rw [hw, hp]
  · refine (Cert.Reference2Ideal.Front.v53_eq _ _ _ _ _ _ _).trans ?_
    refine Eq.trans ?_ (r_pki m ρ c).symm
    rw [hw, hp]
  · refine (Cert.Reference2Ideal.Front.v105_eq _ _ _ _ _ _ _).trans ?_
    refine Eq.trans ?_ (r_sk m ρ c).symm
    rw [hw, hs]
  · refine (Cert.Reference2Ideal.Front.v106_eq _ _ _ _ _ _ _).trans ?_
    refine Eq.trans ?_ (r_sv m ρ c).symm
    rw [hw, hs]
  · refine (Cert.Reference2Ideal.Front.v107_eq _ _ _ _ _ _ _).trans ?_
    refine Eq.trans ?_ (r_ski m ρ c).symm
    rw [hw, hs]

end Cert.Proof.Front
end
-- ==== Proof.BackSpec.lean ====
module

public import proofs.«01_k».proof.Proof.RowSpec

@[expose] public section

noncomputable section

/-! # The layer's back on a row: the merge of the mixers, the memory attention, the second feed-forward block -/

namespace Cert.Rows

open Idealize.ShloMosaic

/-! ## One head of the memory attention -/

/-- A query's scores against the memory's 256 rows, -/
def score (q : Fin 1024 → EReal) (k : Fin 256 → Fin 1024 → EReal) (m : Fin 256) : EReal :=
  (∑ d, q d * k m d) * Ideal.ofBits .f32 1023410176#32

/-- their largest, -/
def top (s : Fin 256 → EReal) : EReal := Finset.fold max (Ideal.ofBits .f32 4286578688#32) s Finset.univ

/-- their weights, -/
def weight (s : Fin 256 → EReal) (m : Fin 256) : EReal :=
  Ideal.div (Ideal.exp (s m - top s)) (∑ m', Ideal.exp (s m' - top s))

/-- and the weighted memory. -/
def head (q : Fin 1024 → EReal) (k v : Fin 256 → Fin 1024 → EReal) (d : Fin 1024) : EReal :=
  ∑ m, weight (score q k) m * v m d

/-! ## The four heads side by side -/

/-- A head's column. -/
def colH (h : Fin 4) (d : Fin 1024) : Fin 4096 := ⟨h.val * 1024 + d.val, by omega⟩

def headAt (j : Fin 4096) : Fin 4 := ⟨j.val / 1024, by omega⟩
def placeAt (j : Fin 4096) : Fin 1024 := ⟨j.val % 1024, by omega⟩

theorem headAt_colH (h : Fin 4) (d : Fin 1024) : headAt (colH h d) = h := by
  apply Fin.ext; simp only [headAt, colH]; omega

theorem placeAt_colH (h : Fin 4) (d : Fin 1024) : placeAt (colH h d) = d := by
  apply Fin.ext; simp only [placeAt, colH]; omega

/-- The attention of a row of queries over a memory of 256 rows. -/
def att (q : Fin 4096 → EReal) (k v : Fin 256 → Fin 4096 → EReal) (j : Fin 4096) : EReal :=
  head (fun d => q (colH (headAt j) d)) (fun m d => k m (colH (headAt j) d)) (fun m d => v m (colH (headAt j) d)) (placeAt j)

theorem att_colH (q : Fin 4096 → EReal) (k v : Fin 256 → Fin 4096 → EReal) (h : Fin 4) (d : Fin 1024) :
    att q k v (colH h d) = head (fun d => q (colH h d)) (fun m d => k m (colH h d)) (fun m d => v m (colH h d)) d := by
  unfold att
  rw [headAt_colH, placeAt_colH]

theorem att_congr {q q' : Fin 4096 → EReal} {k k' v v' : Fin 256 → Fin 4096 → EReal} {j j' : Fin 4096} (hq : ∀ n, q n = q' n)
    (hk : ∀ m n, k m n = k' m n) (hv : ∀ m n, v m n = v' m n) (hj : j = j') : att q k v j = att q' k' v' j' := by
  rw [funext hq, funext fun m => funext (hk m), funext fun m => funext (hv m), hj]

/-! ## The merge, and the layer's back -/

/-- The mixers' rows, each through its matrix and gated. -/
def merge {K N : ℕ} (gs ga : Fin N → EReal) (ys ya : Fin K → EReal) (ws wa : Fin K → Fin N → EReal) (j : Fin N) : EReal :=
  sig (gs j) * dot ys ws j + sig (ga j) * dot ya wa j

theorem merge_congr {K N N' : ℕ} {gs ga : Fin N → EReal} {gs' ga' : Fin N' → EReal} {ys ya ys' ya' : Fin K → EReal}
    {ws wa : Fin K → Fin N → EReal} {ws' wa' : Fin K → Fin N' → EReal} {j : Fin N} {j' : Fin N'}
    (hgs : gs j = gs' j') (hga : ga j = ga' j') (hys : ∀ k, ys k = ys' k) (hya : ∀ k, ya k = ya' k)
    (hws : ∀ k, ws k j = ws' k j') (hwa : ∀ k, wa k j = wa' k j') : merge gs ga ys ya ws wa j = merge gs' ga' ys' ya' ws' wa' j' := by
  unfold merge
  rw [hgs, hga, dot_congr hys hws, dot_congr hya hwa]

/-- The residual row of an unscaled branch. -/
def add {K : ℕ} (x d : Fin K → EReal) (j : Fin K) : EReal := Ideal.ofBits .f32 1066940400#32 * x j + d j

/-- The back's weights. -/
structure Back where
  ws : Fin 4096 → Fin 4096 → EReal
  wa : Fin 4096 → Fin 4096 → EReal
  wo : Fin 4096 → Fin 4096 → EReal
  g2 : Fin 4096 → EReal
  b2 : Fin 4096 → EReal
  wq : Fin 4096 → Fin 4096 → EReal
  wm : Fin 4096 → Fin 4096 → EReal
  g3 : Fin 4096 → EReal
  b3 : Fin 4096 → EReal
  w1 : Fin 4096 → Fin 11008 → EReal
  w3 : Fin 4096 → Fin 11008 → EReal
  w2 : Fin 11008 → Fin 4096 → EReal
  g4 : Fin 4096 → EReal
  b4 : Fin 4096 → EReal

/-- What a row is computed from: the stream, the two gates, the two mixers' rows, and the memory it attends to. -/
structure Row where
  x : Fin 4096 → EReal
  gs : Fin 4096 → EReal
  ga : Fin 4096 → EReal
  ys : Fin 4096 → EReal
  ya : Fin 4096 → EReal
  k : Fin 256 → Fin 4096 → EReal
  v : Fin 256 → Fin 4096 → EReal

namespace Back

/-- The stream after the merge, -/
def x2 (w : Back) (r : Row) : Fin 4096 → EReal :=
  norm (add r.x (dot (merge r.gs r.ga r.ys r.ya w.ws w.wa) w.wo)) w.g2 w.b2

/-- its attention to the memory, -/
def mem (w : Back) (r : Row) : Fin 4096 → EReal := att (dot (w.x2 r) w.wq) r.k r.v

/-- the stream after it, -/
def x3 (w : Back) (r : Row) : Fin 4096 → EReal := norm (add (w.x2 r) (dot (w.mem r) w.wm)) w.g3 w.b3

/-- and the layer's row. -/
def y (w : Back) (r : Row) : Fin 4096 → EReal := norm (res half (w.x3 r) (ffn (w.x3 r) w.w1 w.w3 w.w2)) w.g4 w.b4

end Back

end Cert.Rows
end
-- ==== Proof.BackHost.lean ====
module

public import proofs.«01_k».proof.Proof.Gen.Kernel3Ideal.Frame
public import proofs.«01_k».proof.Proof.BackSpec
public import Idealize.ShloMosaic.Lib.Pipeline.ValueKit
public import Idealize.ShloMosaic.Lib.StableHlo.RunRead

@[expose] public section

set_option maxRecDepth 100000

noncomputable section

/-! # The back's host stretches: weights cast, vectors and memories laid out as rows -/

namespace Cert.Kernel3Ideal.Back

open Cert.Kernel3Ideal Cert.Kernel3Ideal.Gen Idealize.ShloMosaic Idealize.ShloMosaic.TcCoe Idealize.SL.Sem
open Idealize.ShloMosaic.Pointwise

variable (σ : Valuation τ sig (Elt Ideal))

theorem v0 (i : Fin 4096) (j : Fin 4096) : StableHlo.after hostOps0 σ (Proc.devRef .tc main_v0) (ix2 i j) = σ (Proc.devRef .tc main_arg7) (ix2 i j) := by
  after_reads_simp
  rfl

theorem v1 (i : Fin 4096) (j : Fin 4096) : StableHlo.after hostOps0 σ (Proc.devRef .tc main_v1) (ix2 i j) = σ (Proc.devRef .tc main_arg8) (ix2 i j) := by
  after_reads_simp
  rfl

theorem v3 (i : Fin 4096) (j : Fin 4096) : StableHlo.after hostOps1 σ (Proc.devRef .tc main_v3) (ix2 i j) = σ (Proc.devRef .tc main_arg9) (ix2 i j) := by
  after_reads_simp
  rfl

theorem v10 (i : Fin 4096) (j : Fin 4096) : StableHlo.after hostOps3 σ (Proc.devRef .tc main_v10) (ix2 i j) = σ (Proc.devRef .tc main_arg13) (ix2 i j) := by
  after_reads_simp
  rfl

theorem v12 (i : Fin 4096) (j : Fin 4096) : StableHlo.after hostOps4 σ (Proc.devRef .tc main_v12) (ix2 i j) = σ (Proc.devRef .tc main_arg14) (ix2 i j) := by
  after_reads_simp
  rfl

theorem v14 (i : Fin 4096) (j : Fin 4096) : StableHlo.after hostOps5 σ (Proc.devRef .tc main_v14) (ix2 i j) = σ (Proc.devRef .tc main_arg12) (ix2 i j) := by
  after_reads_simp
  rfl

theorem v21 (i : Fin 4096) (j : Fin 4096) : StableHlo.after hostOps8 σ (Proc.devRef .tc main_v21) (ix2 i j) = σ (Proc.devRef .tc main_arg15) (ix2 i j) := by
  after_reads_simp
  rfl

theorem v26 (i : Fin 4096) (j : Fin 11008) : StableHlo.after hostOps10 σ (Proc.devRef .tc main_v26) (ix2 i j) = σ (Proc.devRef .tc main_arg18) (ix2 i j) := by
  after_reads_simp
  rfl

theorem v27 (i : Fin 4096) (j : Fin 11008) : StableHlo.after hostOps10 σ (Proc.devRef .tc main_v27) (ix2 i j) = σ (Proc.devRef .tc main_arg19) (ix2 i j) := by
  after_reads_simp
  rfl

theorem v29 (i : Fin 11008) (j : Fin 4096) : StableHlo.after hostOps11 σ (Proc.devRef .tc main_v29) (ix2 i j) = σ (Proc.devRef .tc main_arg20) (ix2 i j) := by
  after_reads_simp
  rfl

theorem v5 (j : Fin 4096) : StableHlo.after hostOps2 σ (Proc.devRef .tc main_v5) (ix2 0 j) = σ (Proc.devRef .tc main_arg10) (ix1 j) := by
  after_reads_simp
  pointwise

theorem v6 (j : Fin 4096) : StableHlo.after hostOps2 σ (Proc.devRef .tc main_v6) (ix2 0 j) = σ (Proc.devRef .tc main_arg11) (ix1 j) := by
  after_reads_simp
  pointwise

theorem v23 (j : Fin 4096) : StableHlo.after hostOps9 σ (Proc.devRef .tc main_v23) (ix2 0 j) = σ (Proc.devRef .tc main_arg16) (ix1 j) := by
  after_reads_simp
  pointwise

theorem v24 (j : Fin 4096) : StableHlo.after hostOps9 σ (Proc.devRef .tc main_v24) (ix2 0 j) = σ (Proc.devRef .tc main_arg17) (ix1 j) := by
  after_reads_simp
  pointwise

theorem v31 (j : Fin 4096) : StableHlo.after hostOps12 σ (Proc.devRef .tc main_v31) (ix2 0 j) = σ (Proc.devRef .tc main_arg21) (ix1 j) := by
  after_reads_simp
  pointwise

theorem v32 (j : Fin 4096) : StableHlo.after hostOps12 σ (Proc.devRef .tc main_v32) (ix2 0 j) = σ (Proc.devRef .tc main_arg22) (ix1 j) := by
  after_reads_simp
  pointwise

/-- The prompts' memories, a row of the array each. -/
theorem v9 (i : Fin 512) (j : Fin 4096) : StableHlo.after hostOps3 σ (Proc.devRef .tc main_v9) (ix2 i j)
    = σ (Proc.devRef .tc main_arg4) (ix3 ⟨i.val / 256, by omega⟩ ⟨i.val % 256, by omega⟩ j) := by
  after_reads_simp
  pointwise

theorem v17 (i : Fin 8192) (j : Fin 4096) : StableHlo.after hostOps7 σ (Proc.devRef .tc main_v17) (ix2 i j)
    = σ (Proc.devRef .tc main_arg5) (ix4 ⟨i.val / 256, by omega⟩ ⟨i.val % 256, by omega⟩ (Rows.headAt j) (Rows.placeAt j)) := by
  after_reads_simp
  pointwise
  rfl

theorem v18 (i : Fin 8192) (j : Fin 4096) : StableHlo.after hostOps7 σ (Proc.devRef .tc main_v18) (ix2 i j)
    = σ (Proc.devRef .tc main_arg6) (ix4 ⟨i.val / 256, by omega⟩ ⟨i.val % 256, by omega⟩ (Rows.headAt j) (Rows.placeAt j)) := by
  after_reads_simp
  pointwise
  rfl

/-- The attention's rows: the prompts', then the samples'. -/
theorem v20 (i : Fin 8704) (j : Fin 4096) : StableHlo.after hostOps8 σ (Proc.devRef .tc main_v20) (ix2 i j)
    = if h : i.val < 8192 then σ (Proc.devRef .tc main_v16) (ix2 (⟨i.val, h⟩ : Fin 8192) j)
      else σ (Proc.devRef .tc main_v19) (ix2 (⟨i.val - 8192, by omega⟩ : Fin 512) j) := by
  after_reads_simp
  pointwise

theorem v35 (b : Fin 2) (t j : Fin 4096) : StableHlo.after hostOps13 σ (Proc.devRef .tc main_v35) (ix3 b t j)
    = σ (Proc.devRef .tc main_v33_0) (ix2 ⟨b.val * 4096 + t.val, by omega⟩ j) := by
  after_reads_simp
  pointwise

theorem v37 (b : Fin 32) (t : Fin 16) (j : Fin 4096) : StableHlo.after hostOps13 σ (Proc.devRef .tc main_v37) (ix3 b t j)
    = σ (Proc.devRef .tc main_v33_0) (ix2 ⟨8192 + (b.val * 16 + t.val), by omega⟩ j) := by
  after_reads_simp
  pointwise

theorem v38 (z : Fin 1) (b : Fin 2) (m : Fin 256) (h : Fin 4) (d : Fin 1024) : StableHlo.after hostOps13 σ (Proc.devRef .tc main_v38) (ix5 z b m h d)
    = σ (Proc.devRef .tc main_v11) (ix2 ⟨b.val * 256 + m.val, by omega⟩ (Rows.colH h d)) := by
  after_reads_simp
  pointwise
  rfl

theorem v39 (z : Fin 1) (b : Fin 2) (m : Fin 256) (h : Fin 4) (d : Fin 1024) : StableHlo.after hostOps13 σ (Proc.devRef .tc main_v39) (ix5 z b m h d)
    = σ (Proc.devRef .tc main_v13) (ix2 ⟨b.val * 256 + m.val, by omega⟩ (Rows.colH h d)) := by
  after_reads_simp
  pointwise
  rfl

end Cert.Kernel3Ideal.Back
end
-- ==== Proof.BackCalls.lean ====
module

public import proofs.«01_k».proof.Proof.Gen.Kernel3Ideal.Frame
public import proofs.«01_k».proof.Proof.BackSpec
public import Idealize.ShloMosaic.Lib.Pipeline.ValueKit

@[expose] public section

set_option maxRecDepth 16384

noncomputable section

/-! # The calls of the layer's back outside the attention, each read at the contents it is entered with -/

namespace Cert.Kernel3Ideal.Back

open Cert.Kernel3Ideal Cert.Kernel3Ideal.Gen Idealize.ShloMosaic Idealize.ShloMosaic.TcCoe Idealize.SL.Sem
open Idealize.ShloMosaic.Pointwise

variable (V : (c : Dev nD) → (b : Ref sig .tc) → Buf (Elt Ideal) ((c : Thread nD τ).loc b)) (c : Dev nD)

theorem zero2 : (![0, 0] : Fin 2 → Nat) = fun _ => 0 := by decide

/-! ## The merged rows -/

theorem pay0 (ys ya : Vec Ideal S544x4096 .bf16) (ws wa : Vec Ideal S4096x512 .bf16) (gs ga : Vec Ideal S544x512 .f32) (i : Fin 544) (j : Fin 512) :
    out0_6 ys ya ws wa gs ga (ix2 i j) = Rows.merge (fun n => gs (ix2 i n)) (fun n => ga (ix2 i n)) (fun k => ys (ix2 i k)) (fun k => ya (ix2 i k))
      (fun k n => ws (ix2 k n)) (fun k n => wa (ix2 k n)) j := by
  unfold out0_6
  rw [View.canon_unit_zero zero2, View.ld_unit_zero zero2, View.ld_unit_zero zero2, View.ld_unit_zero zero2, View.ld_unit_zero zero2,
    View.ld_unit_zero zero2, View.ld_unit_zero zero2]
  pointwise [k0_pay1]
  rfl

theorem idx0_0 : ∀ t : Fin cfg0.N, win0_0.index t = ![t.val / 8, 0] := by decide +kernel
theorem idx0_1 : ∀ t : Fin cfg0.N, win0_1.index t = ![t.val / 8, 0] := by decide +kernel
theorem idx0_2 : ∀ t : Fin cfg0.N, win0_2.index t = ![0, t.val % 8] := by decide +kernel
theorem idx0_3 : ∀ t : Fin cfg0.N, win0_3.index t = ![0, t.val % 8] := by decide +kernel
theorem idx0_4 : ∀ t : Fin cfg0.N, win0_4.index t = ![t.val / 8, 24 + t.val % 8] := by decide +kernel
theorem idx0_5 : ∀ t : Fin cfg0.N, win0_5.index t = ![t.val / 8, 32 + t.val % 8] := by decide +kernel
theorem idx0_6 : ∀ t : Fin cfg0.N, win0_6.index t = ![t.val / 8, t.val % 8] := by decide +kernel

/-- The gates' columns of the projection. -/
def gateS (n : Fin 4096) : Fin 25600 := ⟨12288 + n.val, by omega⟩
def gateA (n : Fin 4096) : Fin 25600 := ⟨16384 + n.val, by omega⟩

theorem merged_eq : (dat0 V c).arrAt 6 cfg0.N
    = fun i : S8704x4096.Idx => Rows.merge (fun n => V c main_arg1 (ix2 (i 0) (gateS n))) (fun n => V c main_arg1 (ix2 (i 0) (gateA n)))
        (fun k => V c main_arg2 (ix2 (i 0) k)) (fun k => V c main_arg3 (ix2 (i 0) k))
        (fun k n => V c main_v0 (ix2 k n)) (fun k n => V c main_v1 (ix2 k n)) (i 1) := by
  refine (dat0 V c).arrAt_eq_of_covers 6 _ (by decide +kernel) fun t hf y => ?_
  blk_simp
  rw [after0_6]
  refine ((congrArg (out0_6 _ _ _ _ _ _) (eq_ix2 y)).trans (pay0 _ _ _ _ _ _ _ _)).trans ?_
  refine Rows.merge_congr ?_ ?_ (fun k => ?_) (fun k => ?_) (fun k => ?_) (fun k => ?_)
  · blk_ext! [iblk0, gateS, idx0_4 t, idx0_6 t]
  · blk_ext! [iblk0, gateA, idx0_5 t, idx0_6 t]
  · blk_ext! [iblk0, idx0_0 t, idx0_6 t]
  · blk_ext! [iblk0, idx0_1 t, idx0_6 t]
  · blk_ext! [iblk0, idx0_2 t, idx0_6 t]
  · blk_ext! [iblk0, idx0_3 t, idx0_6 t]

/-! ## The products -/

theorem pay1 (x : Vec Ideal S1088x4096 .bf16) (w : Vec Ideal S4096x512 .bf16) (i : Fin 1088) (j : Fin 512) :
    out1_2 x w (ix2 i j) = Rows.dot (fun k => x (ix2 i k)) (fun k n => w (ix2 k n)) j := by
  unfold out1_2
  rw [View.canon_unit_zero zero2, View.ld_unit_zero zero2, View.ld_unit_zero zero2]
  pointwise [k1_pay1]
  rfl

theorem idx1_0 : ∀ t : Fin cfg1.N, win1_0.index t = ![t.val / 8, 0] := by decide +kernel
theorem idx1_1 : ∀ t : Fin cfg1.N, win1_1.index t = ![0, t.val % 8] := by decide +kernel
theorem idx1_2 : ∀ t : Fin cfg1.N, win1_2.index t = ![t.val / 8, t.val % 8] := by decide +kernel

theorem out_eq : (dat1 V c).arrAt 2 cfg1.N
    = fun i : S8704x4096.Idx => Rows.dot (fun k => V c main_v2 (ix2 (i 0) k)) (fun k n => V c main_v3 (ix2 k n)) (i 1) := by
  refine (dat1 V c).arrAt_eq_of_covers 2 _ (by decide +kernel) fun t hf y => ?_
  blk_simp
  rw [after1_2]
  refine ((congrArg (out1_2 _ _) (eq_ix2 y)).trans (pay1 _ _ _ _)).trans ?_
  refine Rows.dot_congr (fun k => ?_) (fun k => ?_)
  · blk_ext! [iblk1, idx1_0 t, idx1_2 t]
  · blk_ext! [iblk1, idx1_1 t, idx1_2 t]

theorem pay3 (x : Vec Ideal S512x4096 .bf16) (w : Vec Ideal S4096x512 .bf16) (i : Fin 512) (j : Fin 512) :
    out3_2 x w (ix2 i j) = Rows.dot (fun k => x (ix2 i k)) (fun k n => w (ix2 k n)) j := by
  unfold out3_2
  rw [View.canon_unit_zero zero2, View.ld_unit_zero zero2, View.ld_unit_zero zero2]
  pointwise [k3_pay1]
  rfl

theorem idx3_0 : ∀ t : Fin cfg3.N, win3_0.index t = ![t.val / 8, 0] := by decide +kernel
theorem idx3_1 : ∀ t : Fin cfg3.N, win3_1.index t = ![0, t.val % 8] := by decide +kernel
theorem idx3_2 : ∀ t : Fin cfg3.N, win3_2.index t = ![t.val / 8, t.val % 8] := by decide +kernel

theorem keys_eq : (dat3 V c).arrAt 2 cfg3.N
    = fun i : S512x4096.Idx => Rows.dot (fun k => V c main_v9 (ix2 (i 0) k)) (fun k n => V c main_v10 (ix2 k n)) (i 1) := by
  refine (dat3 V c).arrAt_eq_of_covers 2 _ (by decide +kernel) fun t hf y => ?_
  blk_simp
  rw [after3_2]
  refine ((congrArg (out3_2 _ _) (eq_ix2 y)).trans (pay3 _ _ _ _)).trans ?_
  refine Rows.dot_congr (fun k => ?_) (fun k => ?_)
  · blk_ext! [iblk3, idx3_0 t, idx3_2 t]
  · blk_ext! [iblk3, idx3_1 t, idx3_2 t]

theorem pay4 (x : Vec Ideal S512x4096 .bf16) (w : Vec Ideal S4096x512 .bf16) (i : Fin 512) (j : Fin 512) :
    out4_2 x w (ix2 i j) = Rows.dot (fun k => x (ix2 i k)) (fun k n => w (ix2 k n)) j := by
  unfold out4_2
  rw [View.canon_unit_zero zero2, View.ld_unit_zero zero2, View.ld_unit_zero zero2]
  pointwise [k4_pay1]
  rfl

theorem idx4_0 : ∀ t : Fin cfg4.N, win4_0.index t = ![t.val / 8, 0] := by decide +kernel
theorem idx4_1 : ∀ t : Fin cfg4.N, win4_1.index t = ![0, t.val % 8] := by decide +kernel
theorem idx4_2 : ∀ t : Fin cfg4.N, win4_2.index t = ![t.val / 8, t.val % 8] := by decide +kernel

theorem vals_eq : (dat4 V c).arrAt 2 cfg4.N
    = fun i : S512x4096.Idx => Rows.dot (fun k => V c main_v9 (ix2 (i 0) k)) (fun k n => V c main_v12 (ix2 k n)) (i 1) := by
  refine (dat4 V c).arrAt_eq_of_covers 2 _ (by decide +kernel) fun t hf y => ?_
  blk_simp
  rw [after4_2]
  refine ((congrArg (out4_2 _ _) (eq_ix2 y)).trans (pay4 _ _ _ _)).trans ?_
  refine Rows.dot_congr (fun k => ?_) (fun k => ?_)
  · blk_ext! [iblk4, idx4_0 t, idx4_2 t]
  · blk_ext! [iblk4, idx4_1 t, idx4_2 t]

theorem pay5 (x : Vec Ideal S1088x4096 .bf16) (w : Vec Ideal S4096x512 .bf16) (i : Fin 1088) (j : Fin 512) :
    out5_2 x w (ix2 i j) = Rows.dot (fun k => x (ix2 i k)) (fun k n => w (ix2 k n)) j := by
  unfold out5_2
  rw [View.canon_unit_zero zero2, View.ld_unit_zero zero2, View.ld_unit_zero zero2]
  pointwise [k5_pay1]
  rfl

theorem idx5_0 : ∀ t : Fin cfg5.N, win5_0.index t = ![t.val / 8, 0] := by decide +kernel
theorem idx5_1 : ∀ t : Fin cfg5.N, win5_1.index t = ![0, t.val % 8] := by decide +kernel
theorem idx5_2 : ∀ t : Fin cfg5.N, win5_2.index t = ![t.val / 8, t.val % 8] := by decide +kernel

theorem query_eq : (dat5 V c).arrAt 2 cfg5.N
    = fun i : S8704x4096.Idx => Rows.dot (fun k => V c main_v7_1 (ix2 (i 0) k)) (fun k n => V c main_v14 (ix2 k n)) (i 1) := by
  refine (dat5 V c).arrAt_eq_of_covers 2 _ (by decide +kernel) fun t hf y => ?_
  blk_simp
  rw [after5_2]
  refine ((congrArg (out5_2 _ _) (eq_ix2 y)).trans (pay5 _ _ _ _)).trans ?_
  refine Rows.dot_congr (fun k => ?_) (fun k => ?_)
  · blk_ext! [iblk5, idx5_0 t, idx5_2 t]
  · blk_ext! [iblk5, idx5_1 t, idx5_2 t]

theorem pay8 (x : Vec Ideal S1088x4096 .bf16) (w : Vec Ideal S4096x512 .bf16) (i : Fin 1088) (j : Fin 512) :
    out8_2 x w (ix2 i j) = Rows.dot (fun k => x (ix2 i k)) (fun k n => w (ix2 k n)) j := by
  unfold out8_2
  rw [View.canon_unit_zero zero2, View.ld_unit_zero zero2, View.ld_unit_zero zero2]
  pointwise [k8_pay1]
  rfl

theorem idx8_0 : ∀ t : Fin cfg8.N, win8_0.index t = ![t.val / 8, 0] := by decide +kernel
theorem idx8_1 : ∀ t : Fin cfg8.N, win8_1.index t = ![0, t.val % 8] := by decide +kernel
theorem idx8_2 : ∀ t : Fin cfg8.N, win8_2.index t = ![t.val / 8, t.val % 8] := by decide +kernel

theorem mem_eq : (dat8 V c).arrAt 2 cfg8.N
    = fun i : S8704x4096.Idx => Rows.dot (fun k => V c main_v20 (ix2 (i 0) k)) (fun k n => V c main_v21 (ix2 k n)) (i 1) := by
  refine (dat8 V c).arrAt_eq_of_covers 2 _ (by decide +kernel) fun t hf y => ?_
  blk_simp
  rw [after8_2]
  refine ((congrArg (out8_2 _ _) (eq_ix2 y)).trans (pay8 _ _ _ _)).trans ?_
  refine Rows.dot_congr (fun k => ?_) (fun k => ?_)
  · blk_ext! [iblk8, idx8_0 t, idx8_2 t]
  · blk_ext! [iblk8, idx8_1 t, idx8_2 t]

end Cert.Kernel3Ideal.Back
end
-- ==== Proof.BackNorms.lean ====
module

public import proofs.«01_k».proof.Proof.BackCalls
public import Idealize.ShloMosaic.Lib.Pipeline.ValueKit

@[expose] public section

set_option maxRecDepth 16384

noncomputable section

/-! # The norms and the feed-forward block of the layer's back, each call read at the contents it is entered with -/

namespace Cert.Kernel3Ideal.Back

open Cert.Kernel3Ideal Cert.Kernel3Ideal.Gen Idealize.ShloMosaic Idealize.ShloMosaic.TcCoe Idealize.SL.Sem
open Idealize.ShloMosaic.Pointwise

variable (V : (c : Dev nD) → (b : Ref sig .tc) → Buf (Elt Ideal) ((c : Thread nD τ).loc b)) (c : Dev nD)

/-! ## The feed-forward block -/

theorem pay11 (x : Vec Ideal S544x11008 .bf16) (w : Vec Ideal S11008x256 .bf16) (i : Fin 544) (j : Fin 256) :
    out11_2 x w (ix2 i j) = Rows.dot (fun k => x (ix2 i k)) (fun k n => w (ix2 k n)) j := by
  unfold out11_2
  rw [View.canon_unit_zero zero2, View.ld_unit_zero zero2, View.ld_unit_zero zero2]
  pointwise [k11_pay1]
  rfl

theorem idx11_0 : ∀ t : Fin cfg11.N, win11_0.index t = ![t.val / 16, 0] := by decide +kernel
theorem idx11_1 : ∀ t : Fin cfg11.N, win11_1.index t = ![0, t.val % 16] := by decide +kernel
theorem idx11_2 : ∀ t : Fin cfg11.N, win11_2.index t = ![t.val / 16, t.val % 16] := by decide +kernel

theorem down_eq : (dat11 V c).arrAt 2 cfg11.N
    = fun i : S8704x4096.Idx => Rows.dot (fun k => V c main_v28 (ix2 (i 0) k)) (fun k n => V c main_v29 (ix2 k n)) (i 1) := by
  refine (dat11 V c).arrAt_eq_of_covers 2 _ (by decide +kernel) fun t hf y => ?_
  blk_simp
  rw [after11_2]
  refine ((congrArg (out11_2 _ _) (eq_ix2 y)).trans (pay11 _ _ _ _)).trans ?_
  refine Rows.dot_congr (fun k => ?_) (fun k => ?_)
  · blk_ext! [iblk11, idx11_0 t, idx11_2 t]
  · blk_ext! [iblk11, idx11_1 t, idx11_2 t]

theorem pay10 (x : Vec Ideal S1088x4096 .bf16) (w1 w3 : Vec Ideal S4096x256 .bf16) (i : Fin 1088) (j : Fin 256) :
    out10_3 x w1 w3 (ix2 i j) = Rows.up (fun k => x (ix2 i k)) (fun k n => w1 (ix2 k n)) (fun k n => w3 (ix2 k n)) j := by
  unfold out10_3
  rw [View.canon_unit_zero zero2, View.ld_unit_zero zero2, View.ld_unit_zero zero2, View.ld_unit_zero zero2]
  pointwise [k10_pay1]
  rfl

theorem idx10_0 : ∀ t : Fin cfg10.N, win10_0.index t = ![t.val / 43, 0] := by decide +kernel
theorem idx10_1 : ∀ t : Fin cfg10.N, win10_1.index t = ![0, t.val % 43] := by decide +kernel
theorem idx10_2 : ∀ t : Fin cfg10.N, win10_2.index t = ![0, t.val % 43] := by decide +kernel
theorem idx10_3 : ∀ t : Fin cfg10.N, win10_3.index t = ![t.val / 43, t.val % 43] := by decide +kernel

theorem hid_eq : (dat10 V c).arrAt 3 cfg10.N
    = fun i : S8704x11008.Idx => Rows.up (fun k => V c main_v25_1 (ix2 (i 0) k)) (fun k n => V c main_v26 (ix2 k n))
        (fun k n => V c main_v27 (ix2 k n)) (i 1) := by
  refine (dat10 V c).arrAt_eq_of_covers 3 _ (by decide +kernel) fun t hf y => ?_
  blk_simp
  rw [after10_3]
  refine ((congrArg (out10_3 _ _ _) (eq_ix2 y)).trans (pay10 _ _ _ _ _)).trans ?_
  refine Rows.up_congr (fun k => ?_) (fun k => ?_) (fun k => ?_)
  · blk_ext! [iblk10, idx10_0 t, idx10_3 t]
  · blk_ext! [iblk10, idx10_1 t, idx10_3 t]
  · blk_ext! [iblk10, idx10_2 t, idx10_3 t]

/-! ## The norms -/

theorem pay2 (x d : Vec Ideal S256x4096 .f32) (g b : Vec Ideal S1x4096 .f32) (i : Fin 256) (j : Fin 4096) :
    out2_4 x d g b (ix2 i j) = Rows.norm (Rows.add (fun k => x (ix2 i k)) fun k => d (ix2 i k))
      (fun k => g (ix2 0 k)) (fun k => b (ix2 0 k)) j := by
  unfold out2_4
  rw [View.canon_unit_zero zero2, View.ld_unit_zero zero2, View.ld_unit_zero zero2, View.ld_unit_zero zero2, View.ld_unit_zero zero2]
  pointwise [k2_pay1]
  rfl

theorem idx2_0 : ∀ t : Fin cfg2.N, win2_0.index t = ![t.val, 0] := by decide +kernel
theorem idx2_1 : ∀ t : Fin cfg2.N, win2_1.index t = ![t.val, 0] := by decide +kernel
theorem idx2_2 : ∀ t : Fin cfg2.N, win2_2.index t = ![0, 0] := by decide +kernel
theorem idx2_3 : ∀ t : Fin cfg2.N, win2_3.index t = ![0, 0] := by decide +kernel
theorem idx2_4 : ∀ t : Fin cfg2.N, win2_4.index t = ![t.val, 0] := by decide +kernel
theorem idx2_5 : ∀ t : Fin cfg2.N, win2_5.index t = ![t.val, 0] := by decide +kernel

def norm2 (i : S8704x4096.Idx) : EReal :=
  Rows.norm (Rows.add (fun k => V c main_arg0 (ix2 (i 0) k)) fun k => V c main_v4 (ix2 (i 0) k))
    (fun k => V c main_v5 (ix2 0 k)) (fun k => V c main_v6 (ix2 0 k)) (i 1)

theorem norm2_eq : (dat2 V c).arrAt 4 cfg2.N = norm2 V c := by
  refine (dat2 V c).arrAt_eq_of_covers 4 _ (by decide +kernel) fun t hf y => ?_
  unfold norm2
  blk_simp
  rw [after2_4]
  refine ((congrArg (out2_4 _ _ _ _) (eq_ix2 y)).trans (pay2 _ _ _ _ _ _)).trans ?_
  refine Rows.norm_congr (fun k => congrArg₂ (· + ·) (congrArg (_ * ·) ?_) ?_) (fun k => ?_) (fun k => ?_) ?_
  · blk_ext! [iblk2, idx2_0 t, idx2_4 t]
  · blk_ext! [iblk2, idx2_1 t, idx2_4 t]
  · blk_ext! [iblk2, idx2_2 t, idx2_4 t]
  · blk_ext! [iblk2, idx2_3 t, idx2_4 t]
  · apply Fin.ext; blk_simp [idx2_4 t]

theorem pay2' (x d : Vec Ideal S256x4096 .f32) (g b : Vec Ideal S1x4096 .f32) (i : Fin 256) (j : Fin 4096) :
    out2_5 x d g b (ix2 i j) = out2_4 x d g b (ix2 i j) := by
  unfold out2_4 out2_5
  rw [View.canon_unit_zero zero2, View.canon_unit_zero zero2]
  rfl

theorem norm2_eq' : (dat2 V c).arrAt 5 cfg2.N = norm2 V c := by
  refine (dat2 V c).arrAt_eq_of_covers 5 _ (by decide +kernel) fun t hf y => ?_
  unfold norm2
  blk_simp
  rw [after2_5]
  refine ((congrArg (out2_5 _ _ _ _) (eq_ix2 y)).trans ((pay2' _ _ _ _ _ _).trans (pay2 _ _ _ _ _ _))).trans ?_
  refine Rows.norm_congr (fun k => congrArg₂ (· + ·) (congrArg (_ * ·) ?_) ?_) (fun k => ?_) (fun k => ?_) ?_
  · blk_ext! [iblk2, idx2_0 t, idx2_5 t]
  · blk_ext! [iblk2, idx2_1 t, idx2_5 t]
  · blk_ext! [iblk2, idx2_2 t, idx2_5 t]
  · blk_ext! [iblk2, idx2_3 t, idx2_5 t]
  · apply Fin.ext; blk_simp [idx2_5 t]

theorem pay9 (x d : Vec Ideal S256x4096 .f32) (g b : Vec Ideal S1x4096 .f32) (i : Fin 256) (j : Fin 4096) :
    out9_4 x d g b (ix2 i j) = Rows.norm (Rows.add (fun k => x (ix2 i k)) fun k => d (ix2 i k))
      (fun k => g (ix2 0 k)) (fun k => b (ix2 0 k)) j := by
  unfold out9_4
  rw [View.canon_unit_zero zero2, View.ld_unit_zero zero2, View.ld_unit_zero zero2, View.ld_unit_zero zero2, View.ld_unit_zero zero2]
  pointwise [k9_pay1]
  rfl

theorem idx9_0 : ∀ t : Fin cfg9.N, win9_0.index t = ![t.val, 0] := by decide +kernel
theorem idx9_1 : ∀ t : Fin cfg9.N, win9_1.index t = ![t.val, 0] := by decide +kernel
theorem idx9_2 : ∀ t : Fin cfg9.N, win9_2.index t = ![0, 0] := by decide +kernel
theorem idx9_3 : ∀ t : Fin cfg9.N, win9_3.index t = ![0, 0] := by decide +kernel
theorem idx9_4 : ∀ t : Fin cfg9.N, win9_4.index t = ![t.val, 0] := by decide +kernel
theorem idx9_5 : ∀ t : Fin cfg9.N, win9_5.index t = ![t.val, 0] := by decide +kernel

def norm3 (i : S8704x4096.Idx) : EReal :=
  Rows.norm (Rows.add (fun k => V c main_v7_0 (ix2 (i 0) k)) fun k => V c main_v22 (ix2 (i 0) k))
    (fun k => V c main_v23 (ix2 0 k)) (fun k => V c main_v24 (ix2 0 k)) (i 1)

theorem norm3_eq : (dat9 V c).arrAt 4 cfg9.N = norm3 V c := by
  refine (dat9 V c).arrAt_eq_of_covers 4 _ (by decide +kernel) fun t hf y => ?_
  unfold norm3
  blk_simp
  rw [after9_4]
  refine ((congrArg (out9_4 _ _ _ _) (eq_ix2 y)).trans (pay9 _ _ _ _ _ _)).trans ?_
  refine Rows.norm_congr (fun k => congrArg₂ (· + ·) (congrArg (_ * ·) ?_) ?_) (fun k => ?_) (fun k => ?_) ?_
  · blk_ext! [iblk9, idx9_0 t, idx9_4 t]
  · blk_ext! [iblk9, idx9_1 t, idx9_4 t]
  · blk_ext! [iblk9, idx9_2 t, idx9_4 t]
  · blk_ext! [iblk9, idx9_3 t, idx9_4 t]
  · apply Fin.ext; blk_simp [idx9_4 t]

theorem pay9' (x d : Vec Ideal S256x4096 .f32) (g b : Vec Ideal S1x4096 .f32) (i : Fin 256) (j : Fin 4096) :
    out9_5 x d g b (ix2 i j) = out9_4 x d g b (ix2 i j) := by
  unfold out9_4 out9_5
  rw [View.canon_unit_zero zero2, View.canon_unit_zero zero2]
  rfl

theorem norm3_eq' : (dat9 V c).arrAt 5 cfg9.N = norm3 V c := by
  refine (dat9 V c).arrAt_eq_of_covers 5 _ (by decide +kernel) fun t hf y => ?_
  unfold norm3
  blk_simp
  rw [after9_5]
  refine ((congrArg (out9_5 _ _ _ _) (eq_ix2 y)).trans ((pay9' _ _ _ _ _ _).trans (pay9 _ _ _ _ _ _))).trans ?_
  refine Rows.norm_congr (fun k => congrArg₂ (· + ·) (congrArg (_ * ·) ?_) ?_) (fun k => ?_) (fun k => ?_) ?_
  · blk_ext! [iblk9, idx9_0 t, idx9_5 t]
  · blk_ext! [iblk9, idx9_1 t, idx9_5 t]
  · blk_ext! [iblk9, idx9_2 t, idx9_5 t]
  · blk_ext! [iblk9, idx9_3 t, idx9_5 t]
  · apply Fin.ext; blk_simp [idx9_5 t]

theorem pay12 (x d : Vec Ideal S256x4096 .f32) (g b : Vec Ideal S1x4096 .f32) (i : Fin 256) (j : Fin 4096) :
    out12_4 x d g b (ix2 i j) = Rows.norm (Rows.res Rows.half (fun k => x (ix2 i k)) fun k => d (ix2 i k))
      (fun k => g (ix2 0 k)) (fun k => b (ix2 0 k)) j := by
  unfold out12_4
  rw [View.canon_unit_zero zero2, View.ld_unit_zero zero2, View.ld_unit_zero zero2, View.ld_unit_zero zero2, View.ld_unit_zero zero2]
  pointwise [k12_pay1]
  rfl

theorem idx12_0 : ∀ t : Fin cfg12.N, win12_0.index t = ![t.val, 0] := by decide +kernel
theorem idx12_1 : ∀ t : Fin cfg12.N, win12_1.index t = ![t.val, 0] := by decide +kernel
theorem idx12_2 : ∀ t : Fin cfg12.N, win12_2.index t = ![0, 0] := by decide +kernel
theorem idx12_3 : ∀ t : Fin cfg12.N, win12_3.index t = ![0, 0] := by decide +kernel
theorem idx12_4 : ∀ t : Fin cfg12.N, win12_4.index t = ![t.val, 0] := by decide +kernel

def norm4 (i : S8704x4096.Idx) : EReal :=
  Rows.norm (Rows.res Rows.half (fun k => V c main_v25_0 (ix2 (i 0) k)) fun k => V c main_v30 (ix2 (i 0) k))
    (fun k => V c main_v31 (ix2 0 k)) (fun k => V c main_v32 (ix2 0 k)) (i 1)

theorem norm4_eq : (dat12 V c).arrAt 4 cfg12.N = norm4 V c := by
  refine (dat12 V c).arrAt_eq_of_covers 4 _ (by decide +kernel) fun t hf y => ?_
  unfold norm4
  blk_simp
  rw [after12_4]
  refine ((congrArg (out12_4 _ _ _ _) (eq_ix2 y)).trans (pay12 _ _ _ _ _ _)).trans ?_
  refine Rows.norm_congr (fun k => congrArg₂ (· + ·) (congrArg (_ * ·) ?_) (congrArg (_ * ·) ?_)) (fun k => ?_) (fun k => ?_) ?_
  · blk_ext! [iblk12, idx12_0 t, idx12_4 t]
  · blk_ext! [iblk12, idx12_1 t, idx12_4 t]
  · blk_ext! [iblk12, idx12_2 t, idx12_4 t]
  · blk_ext! [iblk12, idx12_3 t, idx12_4 t]
  · apply Fin.ext; blk_simp [idx12_4 t]

end Cert.Kernel3Ideal.Back
end
-- ==== Proof.BackAttn.lean ====
module

public import proofs.«01_k».proof.Proof.Gen.Kernel3Ideal.Frame
public import proofs.«01_k».proof.Proof.BackSpec
public import Idealize.ShloMosaic.Lib.Pipeline.ValueKit

@[expose] public section

set_option maxRecDepth 16384

noncomputable section

/-! # The memory attention's two calls, read at the contents each is entered with -/

namespace Cert.Kernel3Ideal.Back

open Cert.Kernel3Ideal Cert.Kernel3Ideal.Gen Idealize.ShloMosaic Idealize.ShloMosaic.TcCoe Idealize.SL.Sem
open Idealize.ShloMosaic.Pointwise

variable (V : (c : Dev nD) → (b : Ref sig .tc) → Buf (Elt Ideal) ((c : Thread nD τ).loc b)) (c : Dev nD)

/-- A head's tile of an array of rows reads the head's columns, -/
theorem ld_col {R : ℕ} {e : EltTy} (x : (⟨2, ![R, 4096]⟩ : Shape).Idx → Elt Ideal e) (h : Fin 4) (off : Fin 2 → ℕ) (ho : off = ![0, h.val * 1024])
    (inb : ∀ a, off a + (![R, 1024] : Fin 2 → ℕ) a ≤ (⟨2, ![R, 4096]⟩ : Shape).size a) (i : Fin R) (n : Fin 1024) :
    View.ld x (Rect.unit (s := ⟨2, ![R, 4096]⟩) off ![R, 1024] inb) (ix2 i n) = x (ix2 i (Rows.colH h n)) := by
  subst ho
  exact View.ld_unit_apply_of _ _ _ _ _ _ (fun a => by fin_cases a <;> simp [Rows.colH])

/-- and is stored at them. -/
theorem emb_col {R : ℕ} (h : Fin 4) (off : Fin 2 → ℕ) (ho : off = ![0, h.val * 1024])
    (inb : ∀ a, off a + (![R, 1024] : Fin 2 → ℕ) a ≤ (⟨2, ![R, 4096]⟩ : Shape).size a) (i : Fin R) (n : Fin 1024) :
    (Rect.unit (s := ⟨2, ![R, 4096]⟩) off ![R, 1024] inb).emb (ix2 i n) = ix2 i (Rows.colH h n) := by
  subst ho
  funext a; fin_cases a <;> apply Fin.ext <;> simp [Rect.emb_apply, Rows.colH]

/-- The attention of an array's rows, by index. -/
def attArr {R : ℕ} (x : (⟨2, ![R, 4096]⟩ : Shape).Idx → EReal) (k v : (⟨2, ![256, 4096]⟩ : Shape).Idx → EReal) (y : (⟨2, ![R, 4096]⟩ : Shape).Idx) :
    Elt Ideal .bf16 :=
  Rows.att (fun n => x (ix2 (y 0) n)) (fun m n => k (ix2 m n)) (fun m n => v (ix2 m n)) (y 1)

/-- The head of the head's tiles is the attention at the head's column. -/
theorem head_col {R : ℕ} (x : (⟨2, ![R, 4096]⟩ : Shape).Idx → Elt Ideal .bf16) (k v : (⟨2, ![256, 4096]⟩ : Shape).Idx → Elt Ideal .f32) (h : Fin 4)
    (off off' : Fin 2 → ℕ) (ho : off = ![0, h.val * 1024]) (ho' : off' = ![0, h.val * 1024])
    (inb : ∀ a, off a + (![R, 1024] : Fin 2 → ℕ) a ≤ (⟨2, ![R, 4096]⟩ : Shape).size a)
    (inb' : ∀ a, off' a + (![256, 1024] : Fin 2 → ℕ) a ≤ (⟨2, ![256, 4096]⟩ : Shape).size a) (i : Fin R) (d : Fin 1024) :
    Rows.head (fun n => View.ld x (Rect.unit (s := ⟨2, ![R, 4096]⟩) off ![R, 1024] inb) (ix2 i n))
        (fun m n => View.ld k (Rect.unit (s := ⟨2, ![256, 4096]⟩) off' ![256, 1024] inb') (ix2 m n))
        (fun m n => View.ld v (Rect.unit (s := ⟨2, ![256, 4096]⟩) off' ![256, 1024] inb') (ix2 m n)) d
      = attArr x k v ((Rect.unit (s := ⟨2, ![R, 4096]⟩) off ![R, 1024] inb).emb (ix2 i d)) := by
  rw [emb_col h off ho inb]
  refine Eq.trans ?_ (Rows.att_colH _ _ _ h d).symm
  rw [funext fun n => ld_col x h off ho inb i n, funext fun m => funext fun n => ld_col k h off' ho' inb' m n,
    funext fun m => funext fun n => ld_col v h off' ho' inb' m n]
  rfl

/-! ## Tiles of 16 queries -/

theorem pay7_0 (q : Vec Ideal S16x1024 .bf16) (k v : Vec Ideal S256x1024 .f32) (i : Fin 16) (d : Fin 1024) :
    k7_pay2 q k v (ix2 i d) = Rows.head (fun n => q (ix2 i n)) (fun m n => k (ix2 m n)) (fun m n => v (ix2 m n)) d := by
  pointwise [k7_pay2]
  rfl

theorem pay7_1 (q : Vec Ideal S16x1024 .bf16) (k v : Vec Ideal S256x1024 .f32) (i : Fin 16) (d : Fin 1024) :
    k7_pay5 (k7_pay3 v) (k7_pay4 q k) (ix2 i d) = Rows.head (fun n => q (ix2 i n)) (fun m n => k (ix2 m n)) (fun m n => v (ix2 m n)) d := by
  pointwise [k7_pay5, k7_pay3, k7_pay4]
  rfl

theorem pay7_2 (q : Vec Ideal S16x1024 .bf16) (k v : Vec Ideal S256x1024 .f32) (i : Fin 16) (d : Fin 1024) :
    k7_pay6 q k v (ix2 i d) = Rows.head (fun n => q (ix2 i n)) (fun m n => k (ix2 m n)) (fun m n => v (ix2 m n)) d := by
  pointwise [k7_pay6]
  rfl

theorem pay7_3 (q : Vec Ideal S16x1024 .bf16) (k v : Vec Ideal S256x1024 .f32) (i : Fin 16) (d : Fin 1024) :
    k7_pay1 (k7_pay7 q) k v (ix2 i d) = Rows.head (fun n => q (ix2 i n)) (fun m n => k (ix2 m n)) (fun m n => v (ix2 m n)) d := by
  pointwise [k7_pay1, k7_pay7]
  rfl

theorem pay7 (x : Vec Ideal S16x4096 .bf16) (k v : Vec Ideal S256x4096 .f32) (i : Fin 16) (j : Fin 4096) :
    out7_3 x k v (ix2 i j) = Rows.att (fun n => x (ix2 i n)) (fun m n => k (ix2 m n)) (fun m n => v (ix2 m n)) j := by
  refine Eq.trans (b := attArr x k v (ix2 i j)) ?_ rfl
  unfold out7_3
  refine View.canon_apply_of_pieces (attArr x k v) _ ?_ (ix2 i j) (cover7_3 _ _ _ _ _)
  intro p hp z
  simp only [List.mem_cons, List.not_mem_nil, or_false] at hp
  rcases hp with rfl | rfl | rfl | rfl
  · exact (congrArg _ (eq_ix2 z)).trans ((pay7_3 _ _ _ _ _).trans ((head_col x k v 3 _ _ rfl rfl _ _ (z 0) (z 1)).trans (congrArg _ (congrArg _ (eq_ix2 z).symm))))
  · exact (congrArg _ (eq_ix2 z)).trans ((pay7_2 _ _ _ _ _).trans ((head_col x k v 2 _ _ rfl rfl _ _ (z 0) (z 1)).trans (congrArg _ (congrArg _ (eq_ix2 z).symm))))
  · exact (congrArg _ (eq_ix2 z)).trans ((pay7_1 _ _ _ _ _).trans ((head_col x k v 1 _ _ rfl rfl _ _ (z 0) (z 1)).trans (congrArg _ (congrArg _ (eq_ix2 z).symm))))
  · exact (congrArg _ (eq_ix2 z)).trans ((pay7_0 _ _ _ _ _).trans ((head_col x k v 0 _ _ rfl rfl _ _ (z 0) (z 1)).trans (congrArg _ (congrArg _ (eq_ix2 z).symm))))

/-! ## Tiles of 512 queries -/

theorem pay6_0 (q : Vec Ideal S512x1024 .bf16) (k v : Vec Ideal S256x1024 .f32) (i : Fin 512) (d : Fin 1024) :
    k6_pay2 q k v (ix2 i d) = Rows.head (fun n => q (ix2 i n)) (fun m n => k (ix2 m n)) (fun m n => v (ix2 m n)) d := by
  pointwise [k6_pay2]
  rfl

theorem pay6_1 (q : Vec Ideal S512x1024 .bf16) (k v : Vec Ideal S256x1024 .f32) (i : Fin 512) (d : Fin 1024) :
    k6_pay5 (k6_pay3 v) (k6_pay4 q k) (ix2 i d) = Rows.head (fun n => q (ix2 i n)) (fun m n => k (ix2 m n)) (fun m n => v (ix2 m n)) d := by
  pointwise [k6_pay5, k6_pay3, k6_pay4]
  rfl

theorem pay6_2 (q : Vec Ideal S512x1024 .bf16) (k v : Vec Ideal S256x1024 .f32) (i : Fin 512) (d : Fin 1024) :
    k6_pay6 q k v (ix2 i d) = Rows.head (fun n => q (ix2 i n)) (fun m n => k (ix2 m n)) (fun m n => v (ix2 m n)) d := by
  pointwise [k6_pay6]
  rfl

theorem pay6_3 (q : Vec Ideal S512x1024 .bf16) (k v : Vec Ideal S256x1024 .f32) (i : Fin 512) (d : Fin 1024) :
    k6_pay1 (k6_pay7 q) k v (ix2 i d) = Rows.head (fun n => q (ix2 i n)) (fun m n => k (ix2 m n)) (fun m n => v (ix2 m n)) d := by
  pointwise [k6_pay1, k6_pay7]
  rfl

theorem pay6 (x : Vec Ideal S512x4096 .bf16) (k v : Vec Ideal S256x4096 .f32) (i : Fin 512) (j : Fin 4096) :
    out6_3 x k v (ix2 i j) = Rows.att (fun n => x (ix2 i n)) (fun m n => k (ix2 m n)) (fun m n => v (ix2 m n)) j := by
  refine Eq.trans (b := attArr x k v (ix2 i j)) ?_ rfl
  unfold out6_3
  refine View.canon_apply_of_pieces (attArr x k v) _ ?_ (ix2 i j) (cover6_3 _ _ _ _ _)
  intro p hp z
  simp only [List.mem_cons, List.not_mem_nil, or_false] at hp
  rcases hp with rfl | rfl | rfl | rfl
  · exact (congrArg _ (eq_ix2 z)).trans ((pay6_3 _ _ _ _ _).trans ((head_col x k v 3 _ _ rfl rfl _ _ (z 0) (z 1)).trans (congrArg _ (congrArg _ (eq_ix2 z).symm))))
  · exact (congrArg _ (eq_ix2 z)).trans ((pay6_2 _ _ _ _ _).trans ((head_col x k v 2 _ _ rfl rfl _ _ (z 0) (z 1)).trans (congrArg _ (congrArg _ (eq_ix2 z).symm))))
  · exact (congrArg _ (eq_ix2 z)).trans ((pay6_1 _ _ _ _ _).trans ((head_col x k v 1 _ _ rfl rfl _ _ (z 0) (z 1)).trans (congrArg _ (congrArg _ (eq_ix2 z).symm))))
  · exact (congrArg _ (eq_ix2 z)).trans ((pay6_0 _ _ _ _ _).trans ((head_col x k v 0 _ _ rfl rfl _ _ (z 0) (z 1)).trans (congrArg _ (congrArg _ (eq_ix2 z).symm))))

/-! ## The calls -/

theorem idx6_0 : ∀ t : Fin cfg6.N, win6_0.index t = ![t.val, 0] := by decide +kernel
theorem idx6_1 : ∀ t : Fin cfg6.N, win6_1.index t = ![t.val / 8, 0] := by decide +kernel
theorem idx6_2 : ∀ t : Fin cfg6.N, win6_2.index t = ![t.val / 8, 0] := by decide +kernel
theorem idx6_3 : ∀ t : Fin cfg6.N, win6_3.index t = ![t.val, 0] := by decide +kernel

/-- The prompts' rows: each attends to its prompt's memory. -/
theorem prompt_eq : (dat6 V c).arrAt 3 cfg6.N
    = fun i : S8192x4096.Idx => Rows.att (fun n => V c main_v15 (ix2 (⟨(i 0).val, by have := (i 0).isLt; simp at this; omega⟩ : Fin 8704) n))
        (fun m n => V c main_v11 (ix2 (⟨(i 0).val / 4096 * 256 + m.val, by have := (i 0).isLt; simp at this; omega⟩ : Fin 512) n))
        (fun m n => V c main_v13 (ix2 (⟨(i 0).val / 4096 * 256 + m.val, by have := (i 0).isLt; simp at this; omega⟩ : Fin 512) n)) (i 1) := by
  refine (dat6 V c).arrAt_eq_of_covers 3 _ (by decide +kernel) fun t hf y => ?_
  blk_simp
  rw [after6_3]
  refine ((congrArg (out6_3 _ _ _) (eq_ix2 y)).trans (pay6 _ _ _ _ _)).trans ?_
  refine Rows.att_congr (fun n => ?_) (fun m n => ?_) (fun m n => ?_) ?_
  · blk_ext! [iblk6, idx6_0 t, idx6_3 t]
  · blk_ext! [iblk6, idx6_1 t, idx6_3 t]
  · blk_ext! [iblk6, idx6_2 t, idx6_3 t]
  · apply Fin.ext; blk_simp [idx6_3 t]

theorem idx7_0 : ∀ t : Fin cfg7.N, win7_0.index t = ![512 + t.val, 0] := by decide +kernel
theorem idx7_1 : ∀ t : Fin cfg7.N, win7_1.index t = ![t.val, 0] := by decide +kernel
theorem idx7_2 : ∀ t : Fin cfg7.N, win7_2.index t = ![t.val, 0] := by decide +kernel
theorem idx7_3 : ∀ t : Fin cfg7.N, win7_3.index t = ![t.val, 0] := by decide +kernel

/-- The samples' rows: each attends to its sample's memory. -/
theorem sample_eq : (dat7 V c).arrAt 3 cfg7.N
    = fun i : S512x4096.Idx => Rows.att (fun n => V c main_v15 (ix2 (⟨8192 + (i 0).val, by have := (i 0).isLt; simp at this; omega⟩ : Fin 8704) n))
        (fun m n => V c main_v17 (ix2 (⟨(i 0).val / 16 * 256 + m.val, by have := (i 0).isLt; simp at this; omega⟩ : Fin 8192) n))
        (fun m n => V c main_v18 (ix2 (⟨(i 0).val / 16 * 256 + m.val, by have := (i 0).isLt; simp at this; omega⟩ : Fin 8192) n)) (i 1) := by
  refine (dat7 V c).arrAt_eq_of_covers 3 _ (by decide +kernel) fun t hf y => ?_
  blk_simp
  rw [after7_3]
  refine ((congrArg (out7_3 _ _ _) (eq_ix2 y)).trans (pay7 _ _ _ _ _)).trans ?_
  refine Rows.att_congr (fun n => ?_) (fun m n => ?_) (fun m n => ?_) ?_
  · blk_ext! [iblk7, idx7_0 t, idx7_3 t]
  · blk_ext! [iblk7, idx7_1 t, idx7_3 t]
  · blk_ext! [iblk7, idx7_2 t, idx7_3 t]
  · apply Fin.ext; blk_simp [idx7_3 t]

end Cert.Kernel3Ideal.Back
end
-- ==== Proof.BackRun.lean ====
module

public import proofs.«01_k».proof.Proof.Gen.Kernel3Ideal.Frame
public import proofs.«01_k».proof.Proof.BackHost
public import proofs.«01_k».proof.Proof.BackNorms
public import proofs.«01_k».proof.Proof.BackAttn
public import Idealize.ShloMosaic.Lib.Pipeline.ValueKit
public import Idealize.ShloMosaic.Lib.StableHlo.RunRead

@[expose] public section

set_option maxRecDepth 100000

noncomputable section

/-! # What the back's program leaves -/

namespace Cert.Kernel3Ideal.Back

open Cert.Kernel3Ideal Cert.Kernel3Ideal.Gen Idealize.ShloMosaic Idealize.ShloMosaic.TcCoe Idealize.SL.Sem
open Idealize.ShloMosaic.Pointwise
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- The whole program, every buffer of it at the last boundary's contents. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W26 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h _ => h)

variable (c : Dev nD)

/-- The weights, as launched. -/
def wts : Rows.Back where
  ws k n := m ((c : Thread nD τ).loc main_arg7) (ix2 k n)
  wa k n := m ((c : Thread nD τ).loc main_arg8) (ix2 k n)
  wo k n := m ((c : Thread nD τ).loc main_arg9) (ix2 k n)
  g2 k := m ((c : Thread nD τ).loc main_arg10) (ix1 k)
  b2 k := m ((c : Thread nD τ).loc main_arg11) (ix1 k)
  wq k n := m ((c : Thread nD τ).loc main_arg12) (ix2 k n)
  wm k n := m ((c : Thread nD τ).loc main_arg15) (ix2 k n)
  g3 k := m ((c : Thread nD τ).loc main_arg16) (ix1 k)
  b3 k := m ((c : Thread nD τ).loc main_arg17) (ix1 k)
  w1 k n := m ((c : Thread nD τ).loc main_arg18) (ix2 k n)
  w3 k n := m ((c : Thread nD τ).loc main_arg19) (ix2 k n)
  w2 k n := m ((c : Thread nD τ).loc main_arg20) (ix2 k n)
  g4 k := m ((c : Thread nD τ).loc main_arg21) (ix1 k)
  b4 k := m ((c : Thread nD τ).loc main_arg22) (ix1 k)

/-- The prompts' keys and values: the memories through their matrices. -/
def mkeys (b : Fin 2) (r : Fin 256) : Fin 4096 → EReal :=
  Rows.dot (fun k => m ((c : Thread nD τ).loc main_arg4) (ix3 b r k)) fun k n => m ((c : Thread nD τ).loc main_arg13) (ix2 k n)
def mvals (b : Fin 2) (r : Fin 256) : Fin 4096 → EReal :=
  Rows.dot (fun k => m ((c : Thread nD τ).loc main_arg4) (ix3 b r k)) fun k n => m ((c : Thread nD τ).loc main_arg14) (ix2 k n)

/-- The memory a row attends to: its prompt's, or its sample's carried one. -/
def memOf (p : Fin 2 → Fin 256 → Fin 4096 → EReal) (s : Fin 32 → Fin 256 → Fin 4096 → EReal) (i : Fin 8704) : Fin 256 → Fin 4096 → EReal :=
  if h : i.val < 8192 then p ⟨i.val / 4096, by omega⟩ else s ⟨(i.val - 8192) / 16, by omega⟩

def skeys (b : Fin 32) (r : Fin 256) (n : Fin 4096) : EReal := m ((c : Thread nD τ).loc main_arg5) (ix4 b r (Rows.headAt n) (Rows.placeAt n))
def svals (b : Fin 32) (r : Fin 256) (n : Fin 4096) : EReal := m ((c : Thread nD τ).loc main_arg6) (ix4 b r (Rows.headAt n) (Rows.placeAt n))

/-- A row, as launched. -/
def row (i : Fin 8704) : Rows.Row where
  x k := m ((c : Thread nD τ).loc main_arg0) (ix2 i k)
  gs n := m ((c : Thread nD τ).loc main_arg1) (ix2 i (gateS n))
  ga n := m ((c : Thread nD τ).loc main_arg1) (ix2 i (gateA n))
  ys k := m ((c : Thread nD τ).loc main_arg2) (ix2 i k)
  ya k := m ((c : Thread nD τ).loc main_arg3) (ix2 i k)
  k := memOf (mkeys m c) (skeys m c) i
  v := memOf (mvals m c) (svals m c) i

theorem merged_at : W2 m ρ c (Proc.devRef .tc main_v2) = fun i : S8704x4096.Idx => Rows.merge (row m c (i 0)).gs (row m c (i 0)).ga (row m c (i 0)).ys (row m c (i 0)).ya (wts m c).ws (wts m c).wa (i 1) :=
  ((W2_arr m ρ c 6).trans (merged_eq (V1 m ρ) c)).trans (funext fun i =>
    Rows.merge_congr (congrFun (W1_args m ρ c main_arg1 (by decide)) _) (congrFun (W1_args m ρ c main_arg1 (by decide)) _)
      (fun k => congrFun (W1_args m ρ c main_arg2 (by decide)) _) (fun k => congrFun (W1_args m ρ c main_arg3 (by decide)) _)
      (fun k => v0 (W0 m ρ c) k (i 1)) (fun k => v1 (W0 m ρ c) k (i 1)))

theorem out_at : W4 m ρ c (Proc.devRef .tc main_v4) = fun i : S8704x4096.Idx => Rows.dot (Rows.merge (row m c (i 0)).gs (row m c (i 0)).ga (row m c (i 0)).ys (row m c (i 0)).ya (wts m c).ws (wts m c).wa) (wts m c).wo (i 1) :=
  ((W4_arr m ρ c 2).trans (out_eq (V3 m ρ) c)).trans (funext fun i =>
    Rows.dot_congr (fun k => congrFun ((W3_of m ρ c main_v2 (by decide)).trans (merged_at m ρ c)) (ix2 (i 0) k))
      (fun k => (v3 (W2 m ρ c) k (i 1)).trans (congrFun (W2_args m ρ c main_arg9 (by decide)) _)))

theorem x2_at_aux : norm2 (V5 m ρ) c = fun i : S8704x4096.Idx => (wts m c).x2 (row m c (i 0)) (i 1) := funext fun i =>
  Rows.norm_congr
    (fun k => congrArg₂ (· + ·) (congrArg (_ * ·) (congrFun (W5_args m ρ c main_arg0 (by decide)) _)) (congrFun ((W5_of m ρ c main_v4 (by decide)).trans (out_at m ρ c)) (ix2 (i 0) k)))
    (fun k => (v5 (W4 m ρ c) k).trans (congrFun (W4_args m ρ c main_arg10 (by decide)) _)) (fun k => (v6 (W4 m ρ c) k).trans (congrFun (W4_args m ρ c main_arg11 (by decide)) _)) rfl

theorem x2_at : W6 m ρ c (Proc.devRef .tc main_v7_0) = fun i : S8704x4096.Idx => (wts m c).x2 (row m c (i 0)) (i 1) :=
  ((W6_arr m ρ c 4).trans (norm2_eq (V5 m ρ) c)).trans (x2_at_aux m ρ c)

theorem x2_at' : W6 m ρ c (Proc.devRef .tc main_v7_1) = fun i : S8704x4096.Idx => (wts m c).x2 (row m c (i 0)) (i 1) :=
  ((W6_arr m ρ c 5).trans (norm2_eq' (V5 m ρ) c)).trans (x2_at_aux m ρ c)

theorem keys_at : W8 m ρ c (Proc.devRef .tc main_v11) = fun i : S512x4096.Idx => Rows.dot (fun k => m ((c : Thread nD τ).loc main_arg4) (ix3 ⟨(i 0).val / 256, by have := (i 0).isLt; simp at this; omega⟩ ⟨(i 0).val % 256, by omega⟩ k)) (fun k n => m ((c : Thread nD τ).loc main_arg13) (ix2 k n)) (i 1) :=
  ((W8_arr m ρ c 2).trans (keys_eq (V7 m ρ) c)).trans (funext fun i =>
    Rows.dot_congr (fun k => (v9 (W6 m ρ c) (i 0) k).trans (congrFun (W6_args m ρ c main_arg4 (by decide)) _))
      (fun k => (v10 (W6 m ρ c) k (i 1)).trans (congrFun (W6_args m ρ c main_arg13 (by decide)) _)))

theorem vals_at : W10 m ρ c (Proc.devRef .tc main_v13) = fun i : S512x4096.Idx => Rows.dot (fun k => m ((c : Thread nD τ).loc main_arg4) (ix3 ⟨(i 0).val / 256, by have := (i 0).isLt; simp at this; omega⟩ ⟨(i 0).val % 256, by omega⟩ k)) (fun k n => m ((c : Thread nD τ).loc main_arg14) (ix2 k n)) (i 1) :=
  ((W10_arr m ρ c 2).trans (vals_eq (V9 m ρ) c)).trans (funext fun i =>
    Rows.dot_congr (fun k => (congrFun ((W9_of m ρ c main_v9 (by decide)).trans (W8_of m ρ c main_v9 (by decide))) _).trans ((v9 (W6 m ρ c) (i 0) k).trans (congrFun (W6_args m ρ c main_arg4 (by decide)) _)))
      (fun k => (v12 (W8 m ρ c) k (i 1)).trans (congrFun (W8_args m ρ c main_arg14 (by decide)) _)))

theorem at_place {d N : ℕ} {α : Type} (f : Fin d → Fin 256 → α) (b : Fin d) (r : Fin 256) (m : Fin N) (h : m.val = b.val * 256 + r.val) (h1 : m.val / 256 < d) (h2 : m.val % 256 < 256) :
    f ⟨m.val / 256, h1⟩ ⟨m.val % 256, h2⟩ = f b r := by
  have e1 : (⟨m.val / 256, h1⟩ : Fin d) = b := Fin.ext (by simp only [h]; omega)
  have e2 : (⟨m.val % 256, h2⟩ : Fin 256) = r := Fin.ext (by simp only [h]; omega)
  rw [e1, e2]

/-- A row of the keys, of the values, by prompt and place. -/
theorem key_row (b : Fin 2) (r : Fin 256) (j : Fin 4096) (n : Fin 512) (h : n.val = b.val * 256 + r.val) :
    W8 m ρ c (Proc.devRef .tc main_v11) (ix2 n j) = mkeys m c b r j :=
  (congrFun (keys_at m ρ c) (ix2 n j)).trans (at_place (fun b r => mkeys m c b r j) b r n h _ _)

theorem val_row (b : Fin 2) (r : Fin 256) (j : Fin 4096) (n : Fin 512) (h : n.val = b.val * 256 + r.val) :
    W10 m ρ c (Proc.devRef .tc main_v13) (ix2 n j) = mvals m c b r j :=
  (congrFun (vals_at m ρ c) (ix2 n j)).trans (at_place (fun b r => mvals m c b r j) b r n h _ _)

theorem query_at : W12 m ρ c (Proc.devRef .tc main_v15) = fun i : S8704x4096.Idx => Rows.dot ((wts m c).x2 (row m c (i 0))) (wts m c).wq (i 1) :=
  ((W12_arr m ρ c 2).trans (query_eq (V11 m ρ) c)).trans (funext fun i =>
    Rows.dot_congr (fun k => congrFun (((W11_of m ρ c main_v7_1 (by decide)).trans ((W10_of m ρ c main_v7_1 (by decide)).trans ((W9_of m ρ c main_v7_1 (by decide)).trans ((W8_of m ρ c main_v7_1 (by decide)).trans (W7_of m ρ c main_v7_1 (by decide)))))).trans (x2_at' m ρ c)) (ix2 (i 0) k))
      (fun k => (v14 (W10 m ρ c) k (i 1)).trans (congrFun (W10_args m ρ c main_arg12 (by decide)) _)))

/-- The attention's rows: the prompts', -/
theorem prompt_at : W13 m ρ c (Proc.devRef .tc main_v16)
    = fun i : S8192x4096.Idx => (wts m c).mem (row m c ⟨(i 0).val, by have := (i 0).isLt; simp at this; omega⟩) (i 1) :=
  ((W13_arr m ρ c 3).trans (prompt_eq (V12 m ρ) c)).trans (funext fun i => by
    have hi : (i 0).val < 8192 := (i 0).isLt
    refine Rows.att_congr (fun n => congrFun (query_at m ρ c) _) (fun r n => ?_) (fun r n => ?_) rfl
    · refine (congrFun ((W12_of m ρ c main_v11 (by decide)).trans ((W11_of m ρ c main_v11 (by decide)).trans ((W10_of m ρ c main_v11 (by decide)).trans (W9_of m ρ c main_v11 (by decide))))) _).trans ?_
      refine (key_row m ρ c ⟨(i 0).val / 4096, by omega⟩ r n _ rfl).trans ?_
      show _ = memOf _ _ _ _ _
      rw [memOf, dif_pos hi]
    · refine (congrFun ((W12_of m ρ c main_v13 (by decide)).trans (W11_of m ρ c main_v13 (by decide))) _).trans ?_
      refine (val_row m ρ c ⟨(i 0).val / 4096, by omega⟩ r n _ rfl).trans ?_
      show _ = memOf _ _ _ _ _
      rw [memOf, dif_pos hi])

theorem skey_row (b : Fin 32) (r : Fin 256) (j : Fin 4096) (n : Fin 8192) (h : n.val = b.val * 256 + r.val) :
    W14 m ρ c (Proc.devRef .tc main_v17) (ix2 n j) = skeys m c b r j :=
  ((v17 (W13 m ρ c) n j).trans (congrFun (W13_args m ρ c main_arg5 (by decide)) _)).trans (at_place (fun b r => skeys m c b r j) b r n h (by omega) (by omega))

theorem sval_row (b : Fin 32) (r : Fin 256) (j : Fin 4096) (n : Fin 8192) (h : n.val = b.val * 256 + r.val) :
    W14 m ρ c (Proc.devRef .tc main_v18) (ix2 n j) = svals m c b r j :=
  ((v18 (W13 m ρ c) n j).trans (congrFun (W13_args m ρ c main_arg6 (by decide)) _)).trans (at_place (fun b r => svals m c b r j) b r n h (by omega) (by omega))

/-- then the samples'. -/
theorem sample_at : W15 m ρ c (Proc.devRef .tc main_v19)
    = fun i : S512x4096.Idx => (wts m c).mem (row m c ⟨8192 + (i 0).val, by have := (i 0).isLt; simp at this; omega⟩) (i 1) :=
  ((W15_arr m ρ c 3).trans (sample_eq (V14 m ρ) c)).trans (funext fun i => by
    have hi : (i 0).val < 512 := (i 0).isLt
    have hb : (⟨(8192 + (i 0).val - 8192) / 16, by omega⟩ : Fin 32) = ⟨(i 0).val / 16, by omega⟩ := Fin.ext (by simp)
    refine Rows.att_congr (fun n => congrFun (((W14_of m ρ c main_v15 (by decide)).trans (W13_of m ρ c main_v15 (by decide))).trans (query_at m ρ c)) _) (fun r n => ?_) (fun r n => ?_) rfl
    · refine (skey_row m ρ c ⟨(i 0).val / 16, by omega⟩ r n _ rfl).trans ?_
      show _ = memOf _ _ _ _ _
      rw [memOf, dif_neg (by simp)]
      exact (congrArg (fun b => skeys m c b r n) hb).symm
    · refine (sval_row m ρ c ⟨(i 0).val / 16, by omega⟩ r n _ rfl).trans ?_
      show _ = memOf _ _ _ _ _
      rw [memOf, dif_neg (by simp)]
      exact (congrArg (fun b => svals m c b r n) hb).symm)

theorem both_at : W16 m ρ c (Proc.devRef .tc main_v20) = fun i : S8704x4096.Idx => (wts m c).mem (row m c (i 0)) (i 1) := by
  funext i
  rw [eq_ix2 i]
  refine (v20 (W15 m ρ c) (i 0) (i 1)).trans ?_
  by_cases h : (i 0).val < 8192
  · rw [dif_pos h]
    exact congrFun (((W15_of m ρ c main_v16 (by decide)).trans (W14_of m ρ c main_v16 (by decide))).trans (prompt_at m ρ c)) _
  · rw [dif_neg h]
    refine (congrFun (sample_at m ρ c) _).trans ?_
    exact congrArg (fun n => (wts m c).mem (row m c n) (i 1)) (Fin.ext (Nat.add_sub_cancel' (Nat.le_of_not_lt h)))

theorem mem_at : W17 m ρ c (Proc.devRef .tc main_v22) = fun i : S8704x4096.Idx => Rows.dot ((wts m c).mem (row m c (i 0))) (wts m c).wm (i 1) :=
  ((W17_arr m ρ c 2).trans (mem_eq (V16 m ρ) c)).trans (funext fun i =>
    Rows.dot_congr (fun k => congrFun (both_at m ρ c) (ix2 (i 0) k))
      (fun k => (v21 (W15 m ρ c) k (i 1)).trans (congrFun (W15_args m ρ c main_arg15 (by decide)) _)))

theorem x3_at_aux : norm3 (V18 m ρ) c = fun i : S8704x4096.Idx => (wts m c).x3 (row m c (i 0)) (i 1) := funext fun i =>
  Rows.norm_congr
    (fun k => congrArg₂ (· + ·) (congrArg (_ * ·) (congrFun (((W18_of m ρ c main_v7_0 (by decide)).trans ((W17_of m ρ c main_v7_0 (by decide)).trans ((W16_of m ρ c main_v7_0 (by decide)).trans ((W15_of m ρ c main_v7_0 (by decide)).trans ((W14_of m ρ c main_v7_0 (by decide)).trans ((W13_of m ρ c main_v7_0 (by decide)).trans ((W12_of m ρ c main_v7_0 (by decide)).trans ((W11_of m ρ c main_v7_0 (by decide)).trans ((W10_of m ρ c main_v7_0 (by decide)).trans ((W9_of m ρ c main_v7_0 (by decide)).trans ((W8_of m ρ c main_v7_0 (by decide)).trans (W7_of m ρ c main_v7_0 (by decide))))))))))))).trans (x2_at m ρ c)) (ix2 (i 0) k))) (congrFun ((W18_of m ρ c main_v22 (by decide)).trans (mem_at m ρ c)) (ix2 (i 0) k)))
    (fun k => (v23 (W17 m ρ c) k).trans (congrFun (W17_args m ρ c main_arg16 (by decide)) _)) (fun k => (v24 (W17 m ρ c) k).trans (congrFun (W17_args m ρ c main_arg17 (by decide)) _)) rfl

theorem x3_at : W19 m ρ c (Proc.devRef .tc main_v25_0) = fun i : S8704x4096.Idx => (wts m c).x3 (row m c (i 0)) (i 1) :=
  ((W19_arr m ρ c 4).trans (norm3_eq (V18 m ρ) c)).trans (x3_at_aux m ρ c)

theorem x3_at' : W19 m ρ c (Proc.devRef .tc main_v25_1) = fun i : S8704x4096.Idx => (wts m c).x3 (row m c (i 0)) (i 1) :=
  ((W19_arr m ρ c 5).trans (norm3_eq' (V18 m ρ) c)).trans (x3_at_aux m ρ c)

theorem hid_at : W21 m ρ c (Proc.devRef .tc main_v28) = fun i : S8704x11008.Idx => Rows.up ((wts m c).x3 (row m c (i 0))) (wts m c).w1 (wts m c).w3 (i 1) :=
  ((W21_arr m ρ c 3).trans (hid_eq (V20 m ρ) c)).trans (funext fun i =>
    Rows.up_congr (fun k => congrFun ((W20_of m ρ c main_v25_1 (by decide)).trans (x3_at' m ρ c)) (ix2 (i 0) k))
      (fun k => (v26 (W19 m ρ c) k (i 1)).trans (congrFun (W19_args m ρ c main_arg18 (by decide)) _)) (fun k => (v27 (W19 m ρ c) k (i 1)).trans (congrFun (W19_args m ρ c main_arg19 (by decide)) _)))

theorem down_at : W23 m ρ c (Proc.devRef .tc main_v30) = fun i : S8704x4096.Idx => Rows.ffn ((wts m c).x3 (row m c (i 0))) (wts m c).w1 (wts m c).w3 (wts m c).w2 (i 1) :=
  ((W23_arr m ρ c 2).trans (down_eq (V22 m ρ) c)).trans (funext fun i =>
    Rows.dot_congr (fun k => congrFun ((W22_of m ρ c main_v28 (by decide)).trans (hid_at m ρ c)) (ix2 (i 0) k))
      (fun k => (v29 (W21 m ρ c) k (i 1)).trans (congrFun (W21_args m ρ c main_arg20 (by decide)) _)))

theorem y_at_aux : norm4 (V24 m ρ) c = fun i : S8704x4096.Idx => (wts m c).y (row m c (i 0)) (i 1) := funext fun i =>
  Rows.norm_congr
    (fun k => congrArg₂ (· + ·) (congrArg (_ * ·) (congrFun (((W24_of m ρ c main_v25_0 (by decide)).trans ((W23_of m ρ c main_v25_0 (by decide)).trans ((W22_of m ρ c main_v25_0 (by decide)).trans ((W21_of m ρ c main_v25_0 (by decide)).trans (W20_of m ρ c main_v25_0 (by decide)))))).trans (x3_at m ρ c)) (ix2 (i 0) k))) (congrArg (_ * ·) (congrFun ((W24_of m ρ c main_v30 (by decide)).trans (down_at m ρ c)) (ix2 (i 0) k))))
    (fun k => (v31 (W23 m ρ c) k).trans (congrFun (W23_args m ρ c main_arg21 (by decide)) _)) (fun k => (v32 (W23 m ρ c) k).trans (congrFun (W23_args m ρ c main_arg22 (by decide)) _)) rfl

theorem y_at : W25 m ρ c (Proc.devRef .tc main_v33_0) = fun i : S8704x4096.Idx => (wts m c).y (row m c (i 0)) (i 1) :=
  ((W25_arr m ρ c 4).trans (norm4_eq (V24 m ρ) c)).trans (y_at_aux m ρ c)

/-! The results. -/

theorem r_prompt : W26 m ρ c (Proc.devRef .tc main_v35)
    = fun i : S2x4096x4096.Idx => (wts m c).y (row m c ⟨(i 0).val * 4096 + (i 1).val, by have := (i 0).isLt; have := (i 1).isLt; simp at *; omega⟩) (i 2) := by
  funext i
  rw [eq_ix3 i]
  exact (v35 (W25 m ρ c) _ _ _).trans (congrFun (y_at m ρ c) _)

theorem r_sample : W26 m ρ c (Proc.devRef .tc main_v37)
    = fun i : S32x16x4096.Idx => (wts m c).y (row m c ⟨8192 + ((i 0).val * 16 + (i 1).val), by have := (i 0).isLt; have := (i 1).isLt; simp at *; omega⟩) (i 2) := by
  funext i
  rw [eq_ix3 i]
  exact (v37 (W25 m ρ c) _ _ _).trans (congrFun (y_at m ρ c) _)

theorem r_keys : W26 m ρ c (Proc.devRef .tc main_v38) = fun i : S1x2x256x4x1024.Idx => mkeys m c (i 1) (i 2) (Rows.colH (i 3) (i 4)) := by
  funext i
  rw [eq_ix5 i]
  exact ((v38 (W25 m ρ c) _ _ _ _ _).trans (congrFun ((W25_of m ρ c main_v11 (by decide)).trans ((W24_of m ρ c main_v11 (by decide)).trans ((W23_of m ρ c main_v11 (by decide)).trans ((W22_of m ρ c main_v11 (by decide)).trans ((W21_of m ρ c main_v11 (by decide)).trans ((W20_of m ρ c main_v11 (by decide)).trans ((W19_of m ρ c main_v11 (by decide)).trans ((W18_of m ρ c main_v11 (by decide)).trans ((W17_of m ρ c main_v11 (by decide)).trans ((W16_of m ρ c main_v11 (by decide)).trans ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans (W9_of m ρ c main_v11 (by decide)))))))))))))))))) _)).trans (key_row m ρ c _ _ _ _ rfl)

theorem r_vals : W26 m ρ c (Proc.devRef .tc main_v39) = fun i : S1x2x256x4x1024.Idx => mvals m c (i 1) (i 2) (Rows.colH (i 3) (i 4)) := by
  funext i
  rw [eq_ix5 i]
  exact ((v39 (W25 m ρ c) _ _ _ _ _).trans (congrFun ((W25_of m ρ c main_v13 (by decide)).trans ((W24_of m ρ c main_v13 (by decide)).trans ((W23_of m ρ c main_v13 (by decide)).trans ((W22_of m ρ c main_v13 (by decide)).trans ((W21_of m ρ c main_v13 (by decide)).trans ((W20_of m ρ c main_v13 (by decide)).trans ((W19_of m ρ c main_v13 (by decide)).trans ((W18_of m ρ c main_v13 (by decide)).trans ((W17_of m ρ c main_v13 (by decide)).trans ((W16_of m ρ c main_v13 (by decide)).trans ((W15_of m ρ c main_v13 (by decide)).trans ((W14_of m ρ c main_v13 (by decide)).trans ((W13_of m ρ c main_v13 (by decide)).trans ((W12_of m ρ c main_v13 (by decide)).trans (W11_of m ρ c main_v13 (by decide)))))))))))))))) _)).trans (val_row m ρ c _ _ _ _ rfl)

end Cert.Kernel3Ideal.Back
end
-- ==== Proof.BackRef.lean ====
module

public import proofs.«01_k».proof.Proof.BackSpec
public import proofs.«01_k».proof.Proof.Gen.Reference3Ideal.Read
public import Idealize.ShloMosaic.Lib.Pointwise

@[expose] public section

set_option maxRecDepth 16384

noncomputable section

/-! # The back's reference, read on a row -/

namespace Cert.Reference3Ideal.Back

open Cert.Reference3Ideal Cert.Reference3Ideal.Gen Cert.Reference3Ideal.Read Idealize.ShloMosaic.TcCoe Idealize.ShloMosaic.StableHlo Idealize.ShloMosaic Idealize.SL.Sem
open Idealize.ShloMosaic.Pointwise

variable (x0 : FVec Ideal S8704x4096 .f32) (x1 : FVec Ideal S8704x25600 .f32) (x2 x3 : FVec Ideal S8704x4096 .bf16)
  (x4 : FVec Ideal S2x256x4096 .f32) (x5 x6 : FVec Ideal S32x256x4x1024 .f32) (x7 x8 x9 : FVec Ideal S4096x4096 .f32)
  (x10 x11 : FVec Ideal S4096 .f32) (x12 x13 x14 x15 : FVec Ideal S4096x4096 .f32) (x16 x17 : FVec Ideal S4096 .f32)
  (x18 x19 : FVec Ideal S4096x11008 .f32) (x20 : FVec Ideal S11008x4096 .f32) (x21 x22 : FVec Ideal S4096 .f32)

/-- The arguments' weights, -/
def wts : Rows.Back where
  ws k n := x7 (ix2 k n)
  wa k n := x8 (ix2 k n)
  wo k n := x9 (ix2 k n)
  g2 k := x10 (ix1 k)
  b2 k := x11 (ix1 k)
  wq k n := x12 (ix2 k n)
  wm k n := x15 (ix2 k n)
  g3 k := x16 (ix1 k)
  b3 k := x17 (ix1 k)
  w1 k n := x18 (ix2 k n)
  w3 k n := x19 (ix2 k n)
  w2 k n := x20 (ix2 k n)
  g4 k := x21 (ix1 k)
  b4 k := x22 (ix1 k)

/-- the prompts' keys and values, -/
def mkeys (b : Fin 2) (r : Fin 256) : Fin 4096 → EReal := Rows.dot (fun k => x4 (ix3 b r k)) fun k n => x13 (ix2 k n)
def mvals (b : Fin 2) (r : Fin 256) : Fin 4096 → EReal := Rows.dot (fun k => x4 (ix3 b r k)) fun k n => x14 (ix2 k n)

/-- the samples', -/
def skeys (b : Fin 32) (r : Fin 256) (n : Fin 4096) : EReal := x5 (ix4 b r (Rows.headAt n) (Rows.placeAt n))
def svals (b : Fin 32) (r : Fin 256) (n : Fin 4096) : EReal := x6 (ix4 b r (Rows.headAt n) (Rows.placeAt n))

/-- and a row with the memory it attends to. -/
def row (k v : Fin 256 → Fin 4096 → EReal) (i : Fin 8704) : Rows.Row where
  x n := x0 (ix2 i n)
  gs n := x1 (ix2 i ⟨12288 + n.val, by omega⟩)
  ga n := x1 (ix2 i ⟨16384 + n.val, by omega⟩)
  ys n := x2 (ix2 i n)
  ya n := x3 (ix2 i n)
  k := k
  v := v

/-! Products in the other order, and the largest with the least value. -/

theorem sum_comm {n : ℕ} (f g : Fin n → EReal) : ∑ k, f k * g k = ∑ k, g k * f k := Finset.sum_congr rfl fun k _ => mul_comm _ _

theorem max_top (s : Fin 256 → EReal) : max (Ideal.ofBits .f32 4286578688#32) (Rows.top s) = Rows.top s :=
  max_eq_right (Finset.le_fold_max _ |>.mpr (Or.inl le_rfl))

theorem max_low {s : Shape} (x y : FVec Ideal s .f32) (i : s.Idx) (w : Fin 256 → EReal) (hx : x i = Ideal.ofBits .f32 4286578688#32) (hy : y i = Rows.top w) : maximumf x y i = Rows.top w := by
  unfold maximumf
  rw [hx, hy]
  exact max_top w

theorem max_row0 (v : FVec Ideal S2x4x4096x256 .f32) (c : FVec Ideal S_ .f32) (b : Fin 2) (h : Fin 4) (t : Fin 4096) :
    Host.reduce FloatOps.maximumf v c reducesTo_S2x4x4096x256_S2x4x4096_d3 h_S_ (ix3 b h t) = Finset.univ.fold max (c (Shape.Idx.first h_S_)) fun k : Fin 256 => v (ix4 b h t k) := by
  simp only [pointwise]

theorem low0 (i : S_.Idx) : val_main_cst_11 (F := Ideal) i = Ideal.ofBits .f32 4286578688#32 := rfl

theorem reduce_row0 (v : FVec Ideal S2x4x4096x256 .f32) (b : Fin 2) (h : Fin 4) (t : Fin 4096) (s : Fin 256 → EReal) (hv : ∀ r, v (ix4 b h t r) = s r) :
    Host.reduce FloatOps.maximumf v (val_main_cst_11 (F := Ideal)) reducesTo_S2x4x4096x256_S2x4x4096_d3 h_S_ (ix3 b h t) = Rows.top s := by
  rw [max_row0, low0]
  simp only [hv]
  rfl

theorem top_row0 (v : FVec Ideal S2x4x4096x256 .f32) (b : Fin 2) (h : Fin 4) (t : Fin 4096) (s : Fin 256 → EReal) (hv : ∀ r, v (ix4 b h t r) = s r) :
    maximumf (val_main_v71 (F := Ideal)) (Host.reduce FloatOps.maximumf v (val_main_cst_11 (F := Ideal)) reducesTo_S2x4x4096x256_S2x4x4096_d3 h_S_) (ix3 b h t) = Rows.top s :=
  max_low _ _ _ s (val_main_v71_apply _) (reduce_row0 v b h t s hv)

theorem max_row1 (v : FVec Ideal S32x4x16x256 .f32) (c : FVec Ideal S_ .f32) (b : Fin 32) (h : Fin 4) (t : Fin 16) :
    Host.reduce FloatOps.maximumf v c reducesTo_S32x4x16x256_S32x4x16_d3 h_S_ (ix3 b h t) = Finset.univ.fold max (c (Shape.Idx.first h_S_)) fun k : Fin 256 => v (ix4 b h t k) := by
  simp only [pointwise]

theorem low1 (i : S_.Idx) : val_main_cst_38 (F := Ideal) i = Ideal.ofBits .f32 4286578688#32 := rfl

theorem reduce_row1 (v : FVec Ideal S32x4x16x256 .f32) (b : Fin 32) (h : Fin 4) (t : Fin 16) (s : Fin 256 → EReal) (hv : ∀ r, v (ix4 b h t r) = s r) :
    Host.reduce FloatOps.maximumf v (val_main_cst_38 (F := Ideal)) reducesTo_S32x4x16x256_S32x4x16_d3 h_S_ (ix3 b h t) = Rows.top s := by
  rw [max_row1, low1]
  simp only [hv]
  rfl

theorem top_row1 (v : FVec Ideal S32x4x16x256 .f32) (b : Fin 32) (h : Fin 4) (t : Fin 16) (s : Fin 256 → EReal) (hv : ∀ r, v (ix4 b h t r) = s r) :
    maximumf (val_main_v207 (F := Ideal)) (Host.reduce FloatOps.maximumf v (val_main_cst_38 (F := Ideal)) reducesTo_S32x4x16x256_S32x4x16_d3 h_S_) (ix3 b h t) = Rows.top s :=
  max_low _ _ _ s (val_main_v207_apply _) (reduce_row1 v b h t s hv)

theorem v1_apply (b : Fin 2) (r : Fin 256) (h : Fin 4) (d : Fin 1024) : val_main_v1 (F := Ideal) x4 x13 (ix4 b r h d) = mkeys x4 x13 b r (Rows.colH h d) := by
  pointwise [val_main_v1, val_main_v0]
  rfl

theorem v3_apply (b : Fin 2) (r : Fin 256) (h : Fin 4) (d : Fin 1024) : val_main_v3 (F := Ideal) x4 x14 (ix4 b r h d) = mvals x4 x14 b r (Rows.colH h d) := by
  pointwise [val_main_v3, val_main_v2]
  rfl

theorem x5_apply (b : Fin 32) (r : Fin 256) (h : Fin 4) (d : Fin 1024) : x5 (ix4 b r h d) = skeys x5 b r (Rows.colH h d) := by
  unfold skeys
  rw [Rows.headAt_colH, Rows.placeAt_colH]

theorem x6_apply (b : Fin 32) (r : Fin 256) (h : Fin 4) (d : Fin 1024) : x6 (ix4 b r h d) = svals x6 b r (Rows.colH h d) := by
  unfold svals
  rw [Rows.headAt_colH, Rows.placeAt_colH]

/-! The prompts. -/

theorem v34_apply (b : Fin 2) (t : Fin 4096) (j : Fin 4096) : val_main_v34 (F := Ideal) x1 x2 x3 x7 x8 (ix3 b t j) = Rows.merge (row x0 x1 x2 x3 (mkeys x4 x13 b) (mvals x4 x14 b) ⟨b.val * 4096 + t.val, by omega⟩).gs (row x0 x1 x2 x3 (mkeys x4 x13 b) (mvals x4 x14 b) ⟨b.val * 4096 + t.val, by omega⟩).ga (row x0 x1 x2 x3 (mkeys x4 x13 b) (mvals x4 x14 b) ⟨b.val * 4096 + t.val, by omega⟩).ys (row x0 x1 x2 x3 (mkeys x4 x13 b) (mvals x4 x14 b) ⟨b.val * 4096 + t.val, by omega⟩).ya (wts x7 x8 x9 x10 x11 x12 x15 x16 x17 x18 x19 x20 x21 x22).ws (wts x7 x8 x9 x10 x11 x12 x15 x16 x17 x18 x19 x20 x21 x22).wa j := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, val_main_cst_2, val_main_v4, val_main_v5, val_main_v6, val_main_v7]
  unfold Rows.merge Rows.sig
  rw [zero_sub, zero_sub]
  rfl

theorem v62_apply (b : Fin 2) (t : Fin 4096) (j : Fin 4096) : val_main_v62 (F := Ideal) x0 x1 x2 x3 x7 x8 x9 x10 x11 (ix3 b t j) = (wts x7 x8 x9 x10 x11 x12 x15 x16 x17 x18 x19 x20 x21 x22).x2 (row x0 x1 x2 x3 (mkeys x4 x13 b) (mvals x4 x14 b) ⟨b.val * 4096 + t.val, by omega⟩) j := by
  have e : ∀ n, val_main_v38 (F := Ideal) x0 x1 x2 x3 x7 x8 x9 (ix3 b t n) = Rows.add (row x0 x1 x2 x3 (mkeys x4 x13 b) (mvals x4 x14 b) ⟨b.val * 4096 + t.val, by omega⟩).x (Rows.dot (Rows.merge (row x0 x1 x2 x3 (mkeys x4 x13 b) (mvals x4 x14 b) ⟨b.val * 4096 + t.val, by omega⟩).gs (row x0 x1 x2 x3 (mkeys x4 x13 b) (mvals x4 x14 b) ⟨b.val * 4096 + t.val, by omega⟩).ga (row x0 x1 x2 x3 (mkeys x4 x13 b) (mvals x4 x14 b) ⟨b.val * 4096 + t.val, by omega⟩).ys (row x0 x1 x2 x3 (mkeys x4 x13 b) (mvals x4 x14 b) ⟨b.val * 4096 + t.val, by omega⟩).ya (wts x7 x8 x9 x10 x11 x12 x15 x16 x17 x18 x19 x20 x21 x22).ws (wts x7 x8 x9 x10 x11 x12 x15 x16 x17 x18 x19 x20 x21 x22).wa) (wts x7 x8 x9 x10 x11 x12 x15 x16 x17 x18 x19 x20 x21 x22).wo) n := fun n => by
    pointwise [val_main_v38, val_main_v37, val_main_v36, val_main_v35, val_main_v8, val_main_v9, val_main_cst_3]
    simp only [v34_apply x0 x1 x2 x3 x4 x7 x8 x9 x10 x11 x12 x13 x14 x15 x16 x17 x18 x19 x20 x21 x22]
    rfl
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_4, val_main_cst_5, val_main_cst_6, val_main_cst_7, val_main_cst_8]
  simp only [e]
  rfl

theorem v65_apply (b : Fin 2) (t : Fin 4096) (j : Fin 4096) : val_main_v65 (F := Ideal) x0 x1 x2 x3 x7 x8 x9 x10 x11 x12 (ix3 b t j) = Rows.dot ((wts x7 x8 x9 x10 x11 x12 x15 x16 x17 x18 x19 x20 x21 x22).x2 (row x0 x1 x2 x3 (mkeys x4 x13 b) (mvals x4 x14 b) ⟨b.val * 4096 + t.val, by omega⟩)) (wts x7 x8 x9 x10 x11 x12 x15 x16 x17 x18 x19 x20 x21 x22).wq j := by
  pointwise [val_main_v65]
  simp only [v62_apply x0 x1 x2 x3 x4 x7 x8 x9 x10 x11 x12 x13 x14 x15 x16 x17 x18 x19 x20 x21 x22]
  rfl

theorem v69_apply (b : Fin 2) (t : Fin 4096) (h : Fin 4) (r : Fin 256) : val_main_v69 (F := Ideal) x0 x1 x2 x3 x4 x7 x8 x9 x10 x11 x12 x13 (ix4 b h t r) = Rows.score (fun d => Rows.dot ((wts x7 x8 x9 x10 x11 x12 x15 x16 x17 x18 x19 x20 x21 x22).x2 (row x0 x1 x2 x3 (mkeys x4 x13 b) (mvals x4 x14 b) ⟨b.val * 4096 + t.val, by omega⟩)) (wts x7 x8 x9 x10 x11 x12 x15 x16 x17 x18 x19 x20 x21 x22).wq (Rows.colH h d)) (fun r d => mkeys x4 x13 b r (Rows.colH h d)) r := by
  have e : ∀ d, val_main_v66 (F := Ideal) x0 x1 x2 x3 x7 x8 x9 x10 x11 x12 (ix4 b t h d) = Rows.dot ((wts x7 x8 x9 x10 x11 x12 x15 x16 x17 x18 x19 x20 x21 x22).x2 (row x0 x1 x2 x3 (mkeys x4 x13 b) (mvals x4 x14 b) ⟨b.val * 4096 + t.val, by omega⟩)) (wts x7 x8 x9 x10 x11 x12 x15 x16 x17 x18 x19 x20 x21 x22).wq (Rows.colH h d) := fun d => by
    pointwise [val_main_v66]
    exact v65_apply x0 x1 x2 x3 x4 x7 x8 x9 x10 x11 x12 x13 x14 x15 x16 x17 x18 x19 x20 x21 x22 b t (Rows.colH h d)
  pointwise [val_main_v67, val_main_v68, val_main_v69, val_main_cst_10]
  simp only [e, v1_apply]
  rfl

theorem v72_apply (b : Fin 2) (t : Fin 4096) (h : Fin 4) : val_main_v72 (F := Ideal) x0 x1 x2 x3 x4 x7 x8 x9 x10 x11 x12 x13 (ix3 b h t) = Rows.top (Rows.score (fun d => Rows.dot ((wts x7 x8 x9 x10 x11 x12 x15 x16 x17 x18 x19 x20 x21 x22).x2 (row x0 x1 x2 x3 (mkeys x4 x13 b) (mvals x4 x14 b) ⟨b.val * 4096 + t.val, by omega⟩)) (wts x7 x8 x9 x10 x11 x12 x15 x16 x17 x18 x19 x20 x21 x22).wq (Rows.colH h d)) (fun r d => mkeys x4 x13 b r (Rows.colH h d))) := by
  unfold val_main_v72 val_main_v70
  exact top_row0 _ b h t _ fun r => v69_apply x0 x1 x2 x3 x4 x7 x8 x9 x10 x11 x12 x13 x14 x15 x16 x17 x18 x19 x20 x21 x22 b t h r

theorem v80_apply (b : Fin 2) (t : Fin 4096) (h : Fin 4) (r : Fin 256) : val_main_v80 (F := Ideal) x0 x1 x2 x3 x4 x7 x8 x9 x10 x11 x12 x13 (ix4 b h t r) = Rows.weight (Rows.score (fun d => Rows.dot ((wts x7 x8 x9 x10 x11 x12 x15 x16 x17 x18 x19 x20 x21 x22).x2 (row x0 x1 x2 x3 (mkeys x4 x13 b) (mvals x4 x14 b) ⟨b.val * 4096 + t.val, by omega⟩)) (wts x7 x8 x9 x10 x11 x12 x15 x16 x17 x18 x19 x20 x21 x22).wq (Rows.colH h d)) (fun r d => mkeys x4 x13 b r (Rows.colH h d))) r := by
  pointwise [val_main_v80, val_main_v79, val_main_v78, val_main_v77, val_main_v76, val_main_v75, val_main_v74, val_main_v73, val_main_cst_13]
  simp only [v72_apply x0 x1 x2 x3 x4 x7 x8 x9 x10 x11 x12 x13 x14 x15 x16 x17 x18 x19 x20 x21 x22, v69_apply x0 x1 x2 x3 x4 x7 x8 x9 x10 x11 x12 x13 x14 x15 x16 x17 x18 x19 x20 x21 x22]
  rfl

theorem v82_apply (b : Fin 2) (t : Fin 4096) (h : Fin 4) (d : Fin 1024) : val_main_v82 (F := Ideal) x0 x1 x2 x3 x4 x7 x8 x9 x10 x11 x12 x13 x14 (ix4 b t h d) = (wts x7 x8 x9 x10 x11 x12 x15 x16 x17 x18 x19 x20 x21 x22).mem (row x0 x1 x2 x3 (mkeys x4 x13 b) (mvals x4 x14 b) ⟨b.val * 4096 + t.val, by omega⟩) (Rows.colH h d) := by
  refine Eq.trans ?_ (Rows.att_colH _ _ _ h d).symm
  pointwise [val_main_v81, val_main_v82]
  simp only [v3_apply, v80_apply x0 x1 x2 x3 x4 x7 x8 x9 x10 x11 x12 x13 x14 x15 x16 x17 x18 x19 x20 x21 x22]
  exact sum_comm _ _

theorem v83_apply (b : Fin 2) (t : Fin 4096) (j : Fin 4096) : val_main_v83 (F := Ideal) x0 x1 x2 x3 x4 x7 x8 x9 x10 x11 x12 x13 x14 (ix3 b t j) = (wts x7 x8 x9 x10 x11 x12 x15 x16 x17 x18 x19 x20 x21 x22).mem (row x0 x1 x2 x3 (mkeys x4 x13 b) (mvals x4 x14 b) ⟨b.val * 4096 + t.val, by omega⟩) j := by
  have hj : Rows.colH (Rows.headAt j) (Rows.placeAt j) = j := Fin.ext (by simp only [Rows.colH, Rows.headAt, Rows.placeAt]; omega)
  pointwise [val_main_v83]
  exact (v82_apply x0 x1 x2 x3 x4 x7 x8 x9 x10 x11 x12 x13 x14 x15 x16 x17 x18 x19 x20 x21 x22 b t (Rows.headAt j) (Rows.placeAt j)).trans (congrArg _ hj)

theorem v109_apply (b : Fin 2) (t : Fin 4096) (j : Fin 4096) : val_main_v109 (F := Ideal) x0 x1 x2 x3 x4 x7 x8 x9 x10 x11 x12 x13 x14 x15 x16 x17 (ix3 b t j) = (wts x7 x8 x9 x10 x11 x12 x15 x16 x17 x18 x19 x20 x21 x22).x3 (row x0 x1 x2 x3 (mkeys x4 x13 b) (mvals x4 x14 b) ⟨b.val * 4096 + t.val, by omega⟩) j := by
  have e : ∀ n, val_main_v85 (F := Ideal) x0 x1 x2 x3 x4 x7 x8 x9 x10 x11 x12 x13 x14 x15 (ix3 b t n) = Rows.add ((wts x7 x8 x9 x10 x11 x12 x15 x16 x17 x18 x19 x20 x21 x22).x2 (row x0 x1 x2 x3 (mkeys x4 x13 b) (mvals x4 x14 b) ⟨b.val * 4096 + t.val, by omega⟩)) (Rows.dot ((wts x7 x8 x9 x10 x11 x12 x15 x16 x17 x18 x19 x20 x21 x22).mem (row x0 x1 x2 x3 (mkeys x4 x13 b) (mvals x4 x14 b) ⟨b.val * 4096 + t.val, by omega⟩)) (wts x7 x8 x9 x10 x11 x12 x15 x16 x17 x18 x19 x20 x21 x22).wm) n := fun n => by
    pointwise [val_main_v63, val_main_v64, val_main_v84, val_main_v85, val_main_cst_9]
    simp only [v83_apply x0 x1 x2 x3 x4 x7 x8 x9 x10 x11 x12 x13 x14 x15 x16 x17 x18 x19 x20 x21 x22, v62_apply x0 x1 x2 x3 x4 x7 x8 x9 x10 x11 x12 x13 x14 x15 x16 x17 x18 x19 x20 x21 x22]
    rfl
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_cst_14, val_main_cst_15, val_main_cst_16, val_main_cst_17, val_main_cst_18]
  simp only [e]
  rfl

theorem v115_apply (b : Fin 2) (t : Fin 4096) (n : Fin 11008) : val_main_v115 (F := Ideal) x0 x1 x2 x3 x4 x7 x8 x9 x10 x11 x12 x13 x14 x15 x16 x17 x18 x19 (ix3 b t n) = Rows.up ((wts x7 x8 x9 x10 x11 x12 x15 x16 x17 x18 x19 x20 x21 x22).x3 (row x0 x1 x2 x3 (mkeys x4 x13 b) (mvals x4 x14 b) ⟨b.val * 4096 + t.val, by omega⟩)) (wts x7 x8 x9 x10 x11 x12 x15 x16 x17 x18 x19 x20 x21 x22).w1 (wts x7 x8 x9 x10 x11 x12 x15 x16 x17 x18 x19 x20 x21 x22).w3 n := by
  pointwise [val_main_v115, val_main_v114, val_main_v113, val_main_v112, val_main_call0_v5, val_main_call0_v4, val_main_call0_cst_0, val_main_call0_v3, val_main_call0_v2, val_main_call0_cst, val_main_call0_v1, val_main_call0_v0]
  simp only [v109_apply x0 x1 x2 x3 x4 x7 x8 x9 x10 x11 x12 x13 x14 x15 x16 x17 x18 x19 x20 x21 x22]
  unfold Rows.up Rows.sig
  rw [zero_sub]
  rfl

theorem v143_apply (b : Fin 2) (t : Fin 4096) (j : Fin 4096) : val_main_v143 (F := Ideal) x0 x1 x2 x3 x4 x7 x8 x9 x10 x11 x12 x13 x14 x15 x16 x17 x18 x19 x20 x21 x22 (ix3 b t j) = (wts x7 x8 x9 x10 x11 x12 x15 x16 x17 x18 x19 x20 x21 x22).y (row x0 x1 x2 x3 (mkeys x4 x13 b) (mvals x4 x14 b) ⟨b.val * 4096 + t.val, by omega⟩) j := by
  have e : ∀ n, val_main_v119 (F := Ideal) x0 x1 x2 x3 x4 x7 x8 x9 x10 x11 x12 x13 x14 x15 x16 x17 x18 x19 x20 (ix3 b t n) = Rows.res Rows.half ((wts x7 x8 x9 x10 x11 x12 x15 x16 x17 x18 x19 x20 x21 x22).x3 (row x0 x1 x2 x3 (mkeys x4 x13 b) (mvals x4 x14 b) ⟨b.val * 4096 + t.val, by omega⟩)) (Rows.ffn ((wts x7 x8 x9 x10 x11 x12 x15 x16 x17 x18 x19 x20 x21 x22).x3 (row x0 x1 x2 x3 (mkeys x4 x13 b) (mvals x4 x14 b) ⟨b.val * 4096 + t.val, by omega⟩)) (wts x7 x8 x9 x10 x11 x12 x15 x16 x17 x18 x19 x20 x21 x22).w1 (wts x7 x8 x9 x10 x11 x12 x15 x16 x17 x18 x19 x20 x21 x22).w3 (wts x7 x8 x9 x10 x11 x12 x15 x16 x17 x18 x19 x20 x21 x22).w2) n := fun n => by
    pointwise [val_main_v110, val_main_v111, val_main_v119, val_main_v118, val_main_v117, val_main_v116, val_main_cst_19, val_main_cst_20]
    simp only [v115_apply x0 x1 x2 x3 x4 x7 x8 x9 x10 x11 x12 x13 x14 x15 x16 x17 x18 x19 x20 x21 x22, v109_apply x0 x1 x2 x3 x4 x7 x8 x9 x10 x11 x12 x13 x14 x15 x16 x17 x18 x19 x20 x21 x22]
    rfl
  pointwise [val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_cst_21, val_main_cst_22, val_main_cst_23, val_main_cst_24, val_main_cst_25]
  simp only [e]
  rfl

theorem v143_eq : val_main_v143 (F := Ideal) x0 x1 x2 x3 x4 x7 x8 x9 x10 x11 x12 x13 x14 x15 x16 x17 x18 x19 x20 x21 x22 = fun i : S2x4096x4096.Idx => (wts x7 x8 x9 x10 x11 x12 x15 x16 x17 x18 x19 x20 x21 x22).y (row x0 x1 x2 x3 (mkeys x4 x13 (i 0)) (mvals x4 x14 (i 0)) ⟨(i 0).val * 4096 + (i 1).val, by have := (i 0).isLt; have := (i 1).isLt; simp at *; omega⟩) (i 2) := by
  funext i
  rw [eq_ix3 i]
  exact v143_apply x0 x1 x2 x3 x4 x7 x8 x9 x10 x11 x12 x13 x14 x15 x16 x17 x18 x19 x20 x21 x22 (i 0) (i 1) (i 2)

/-! The samples. -/

theorem v170_apply (b : Fin 32) (t : Fin 16) (j : Fin 4096) : val_main_v170 (F := Ideal) x1 x2 x3 x7 x8 (ix3 b t j) = Rows.merge (row x0 x1 x2 x3 (skeys x5 b) (svals x6 b) ⟨8192 + (b.val * 16 + t.val), by omega⟩).gs (row x0 x1 x2 x3 (skeys x5 b) (svals x6 b) ⟨8192 + (b.val * 16 + t.val), by omega⟩).ga (row x0 x1 x2 x3 (skeys x5 b) (svals x6 b) ⟨8192 + (b.val * 16 + t.val), by omega⟩).ys (row x0 x1 x2 x3 (skeys x5 b) (svals x6 b) ⟨8192 + (b.val * 16 + t.val), by omega⟩).ya (wts x7 x8 x9 x10 x11 x12 x15 x16 x17 x18 x19 x20 x21 x22).ws (wts x7 x8 x9 x10 x11 x12 x15 x16 x17 x18 x19 x20 x21 x22).wa j := by
  pointwise [val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_cst_26, val_main_cst_27, val_main_cst_28, val_main_cst_29, val_main_v4, val_main_v5, val_main_v6, val_main_v7]
  unfold Rows.merge Rows.sig
  rw [zero_sub, zero_sub]
  rfl

theorem v198_apply (b : Fin 32) (t : Fin 16) (j : Fin 4096) : val_main_v198 (F := Ideal) x0 x1 x2 x3 x7 x8 x9 x10 x11 (ix3 b t j) = (wts x7 x8 x9 x10 x11 x12 x15 x16 x17 x18 x19 x20 x21 x22).x2 (row x0 x1 x2 x3 (skeys x5 b) (svals x6 b) ⟨8192 + (b.val * 16 + t.val), by omega⟩) j := by
  have e : ∀ n, val_main_v174 (F := Ideal) x0 x1 x2 x3 x7 x8 x9 (ix3 b t n) = Rows.add (row x0 x1 x2 x3 (skeys x5 b) (svals x6 b) ⟨8192 + (b.val * 16 + t.val), by omega⟩).x (Rows.dot (Rows.merge (row x0 x1 x2 x3 (skeys x5 b) (svals x6 b) ⟨8192 + (b.val * 16 + t.val), by omega⟩).gs (row x0 x1 x2 x3 (skeys x5 b) (svals x6 b) ⟨8192 + (b.val * 16 + t.val), by omega⟩).ga (row x0 x1 x2 x3 (skeys x5 b) (svals x6 b) ⟨8192 + (b.val * 16 + t.val), by omega⟩).ys (row x0 x1 x2 x3 (skeys x5 b) (svals x6 b) ⟨8192 + (b.val * 16 + t.val), by omega⟩).ya (wts x7 x8 x9 x10 x11 x12 x15 x16 x17 x18 x19 x20 x21 x22).ws (wts x7 x8 x9 x10 x11 x12 x15 x16 x17 x18 x19 x20 x21 x22).wa) (wts x7 x8 x9 x10 x11 x12 x15 x16 x17 x18 x19 x20 x21 x22).wo) n := fun n => by
    pointwise [val_main_v174, val_main_v173, val_main_v172, val_main_v171, val_main_v144, val_main_v145, val_main_cst_30]
    simp only [v170_apply x0 x1 x2 x3 x5 x6 x7 x8 x9 x10 x11 x12 x15 x16 x17 x18 x19 x20 x21 x22]
    rfl
  pointwise [val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_cst_31, val_main_cst_32, val_main_cst_33, val_main_cst_34, val_main_cst_35]
  simp only [e]
  rfl

theorem v201_apply (b : Fin 32) (t : Fin 16) (j : Fin 4096) : val_main_v201 (F := Ideal) x0 x1 x2 x3 x7 x8 x9 x10 x11 x12 (ix3 b t j) = Rows.dot ((wts x7 x8 x9 x10 x11 x12 x15 x16 x17 x18 x19 x20 x21 x22).x2 (row x0 x1 x2 x3 (skeys x5 b) (svals x6 b) ⟨8192 + (b.val * 16 + t.val), by omega⟩)) (wts x7 x8 x9 x10 x11 x12 x15 x16 x17 x18 x19 x20 x21 x22).wq j := by
  pointwise [val_main_v201]
  simp only [v198_apply x0 x1 x2 x3 x5 x6 x7 x8 x9 x10 x11 x12 x15 x16 x17 x18 x19 x20 x21 x22]
  rfl

theorem v205_apply (b : Fin 32) (t : Fin 16) (h : Fin 4) (r : Fin 256) : val_main_v205 (F := Ideal) x0 x1 x2 x3 x5 x7 x8 x9 x10 x11 x12 (ix4 b h t r) = Rows.score (fun d => Rows.dot ((wts x7 x8 x9 x10 x11 x12 x15 x16 x17 x18 x19 x20 x21 x22).x2 (row x0 x1 x2 x3 (skeys x5 b) (svals x6 b) ⟨8192 + (b.val * 16 + t.val), by omega⟩)) (wts x7 x8 x9 x10 x11 x12 x15 x16 x17 x18 x19 x20 x21 x22).wq (Rows.colH h d)) (fun r d => skeys x5 b r (Rows.colH h d)) r := by
  have e : ∀ d, val_main_v202 (F := Ideal) x0 x1 x2 x3 x7 x8 x9 x10 x11 x12 (ix4 b t h d) = Rows.dot ((wts x7 x8 x9 x10 x11 x12 x15 x16 x17 x18 x19 x20 x21 x22).x2 (row x0 x1 x2 x3 (skeys x5 b) (svals x6 b) ⟨8192 + (b.val * 16 + t.val), by omega⟩)) (wts x7 x8 x9 x10 x11 x12 x15 x16 x17 x18 x19 x20 x21 x22).wq (Rows.colH h d) := fun d => by
    pointwise [val_main_v202]
    exact v201_apply x0 x1 x2 x3 x5 x6 x7 x8 x9 x10 x11 x12 x15 x16 x17 x18 x19 x20 x21 x22 b t (Rows.colH h d)
  pointwise [val_main_v203, val_main_v204, val_main_v205, val_main_cst_37]
  simp only [e, x5_apply]
  rfl

theorem v208_apply (b : Fin 32) (t : Fin 16) (h : Fin 4) : val_main_v208 (F := Ideal) x0 x1 x2 x3 x5 x7 x8 x9 x10 x11 x12 (ix3 b h t) = Rows.top (Rows.score (fun d => Rows.dot ((wts x7 x8 x9 x10 x11 x12 x15 x16 x17 x18 x19 x20 x21 x22).x2 (row x0 x1 x2 x3 (skeys x5 b) (svals x6 b) ⟨8192 + (b.val * 16 + t.val), by omega⟩)) (wts x7 x8 x9 x10 x11 x12 x15 x16 x17 x18 x19 x20 x21 x22).wq (Rows.colH h d)) (fun r d => skeys x5 b r (Rows.colH h d))) := by
  unfold val_main_v208 val_main_v206
  exact top_row1 _ b h t _ fun r => v205_apply x0 x1 x2 x3 x5 x6 x7 x8 x9 x10 x11 x12 x15 x16 x17 x18 x19 x20 x21 x22 b t h r

theorem v216_apply (b : Fin 32) (t : Fin 16) (h : Fin 4) (r : Fin 256) : val_main_v216 (F := Ideal) x0 x1 x2 x3 x5 x7 x8 x9 x10 x11 x12 (ix4 b h t r) = Rows.weight (Rows.score (fun d => Rows.dot ((wts x7 x8 x9 x10 x11 x12 x15 x16 x17 x18 x19 x20 x21 x22).x2 (row x0 x1 x2 x3 (skeys x5 b) (svals x6 b) ⟨8192 + (b.val * 16 + t.val), by omega⟩)) (wts x7 x8 x9 x10 x11 x12 x15 x16 x17 x18 x19 x20 x21 x22).wq (Rows.colH h d)) (fun r d => skeys x5 b r (Rows.colH h d))) r := by
  pointwise [val_main_v216, val_main_v215, val_main_v214, val_main_v213, val_main_v212, val_main_v211, val_main_v210, val_main_v209, val_main_cst_40]
  simp only [v208_apply x0 x1 x2 x3 x5 x6 x7 x8 x9 x10 x11 x12 x15 x16 x17 x18 x19 x20 x21 x22, v205_apply x0 x1 x2 x3 x5 x6 x7 x8 x9 x10 x11 x12 x15 x16 x17 x18 x19 x20 x21 x22]
  rfl

theorem v218_apply (b : Fin 32) (t : Fin 16) (h : Fin 4) (d : Fin 1024) : val_main_v218 (F := Ideal) x0 x1 x2 x3 x5 x6 x7 x8 x9 x10 x11 x12 (ix4 b t h d) = (wts x7 x8 x9 x10 x11 x12 x15 x16 x17 x18 x19 x20 x21 x22).mem (row x0 x1 x2 x3 (skeys x5 b) (svals x6 b) ⟨8192 + (b.val * 16 + t.val), by omega⟩) (Rows.colH h d) := by
  refine Eq.trans ?_ (Rows.att_colH _ _ _ h d).symm
  pointwise [val_main_v217, val_main_v218]
  simp only [x6_apply, v216_apply x0 x1 x2 x3 x5 x6 x7 x8 x9 x10 x11 x12 x15 x16 x17 x18 x19 x20 x21 x22]
  exact sum_comm _ _

theorem v219_apply (b : Fin 32) (t : Fin 16) (j : Fin 4096) : val_main_v219 (F := Ideal) x0 x1 x2 x3 x5 x6 x7 x8 x9 x10 x11 x12 (ix3 b t j) = (wts x7 x8 x9 x10 x11 x12 x15 x16 x17 x18 x19 x20 x21 x22).mem (row x0 x1 x2 x3 (skeys x5 b) (svals x6 b) ⟨8192 + (b.val * 16 + t.val), by omega⟩) j := by
  have hj : Rows.colH (Rows.headAt j) (Rows.placeAt j) = j := Fin.ext (by simp only [Rows.colH, Rows.headAt, Rows.placeAt]; omega)
  pointwise [val_main_v219]
  exact (v218_apply x0 x1 x2 x3 x5 x6 x7 x8 x9 x10 x11 x12 x15 x16 x17 x18 x19 x20 x21 x22 b t (Rows.headAt j) (Rows.placeAt j)).trans (congrArg _ hj)

theorem v245_apply (b : Fin 32) (t : Fin 16) (j : Fin 4096) : val_main_v245 (F := Ideal) x0 x1 x2 x3 x5 x6 x7 x8 x9 x10 x11 x12 x15 x16 x17 (ix3 b t j) = (wts x7 x8 x9 x10 x11 x12 x15 x16 x17 x18 x19 x20 x21 x22).x3 (row x0 x1 x2 x3 (skeys x5 b) (svals x6 b) ⟨8192 + (b.val * 16 + t.val), by omega⟩) j := by
  have e : ∀ n, val_main_v221 (F := Ideal) x0 x1 x2 x3 x5 x6 x7 x8 x9 x10 x11 x12 x15 (ix3 b t n) = Rows.add ((wts x7 x8 x9 x10 x11 x12 x15 x16 x17 x18 x19 x20 x21 x22).x2 (row x0 x1 x2 x3 (skeys x5 b) (svals x6 b) ⟨8192 + (b.val * 16 + t.val), by omega⟩)) (Rows.dot ((wts x7 x8 x9 x10 x11 x12 x15 x16 x17 x18 x19 x20 x21 x22).mem (row x0 x1 x2 x3 (skeys x5 b) (svals x6 b) ⟨8192 + (b.val * 16 + t.val), by omega⟩)) (wts x7 x8 x9 x10 x11 x12 x15 x16 x17 x18 x19 x20 x21 x22).wm) n := fun n => by
    pointwise [val_main_v199, val_main_v200, val_main_v220, val_main_v221, val_main_cst_36]
    simp only [v219_apply x0 x1 x2 x3 x5 x6 x7 x8 x9 x10 x11 x12 x15 x16 x17 x18 x19 x20 x21 x22, v198_apply x0 x1 x2 x3 x5 x6 x7 x8 x9 x10 x11 x12 x15 x16 x17 x18 x19 x20 x21 x22]
    rfl
  pointwise [val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_cst_41, val_main_cst_42, val_main_cst_43, val_main_cst_44, val_main_cst_45]
  simp only [e]
  rfl

theorem v251_apply (b : Fin 32) (t : Fin 16) (n : Fin 11008) : val_main_v251 (F := Ideal) x0 x1 x2 x3 x5 x6 x7 x8 x9 x10 x11 x12 x15 x16 x17 x18 x19 (ix3 b t n) = Rows.up ((wts x7 x8 x9 x10 x11 x12 x15 x16 x17 x18 x19 x20 x21 x22).x3 (row x0 x1 x2 x3 (skeys x5 b) (svals x6 b) ⟨8192 + (b.val * 16 + t.val), by omega⟩)) (wts x7 x8 x9 x10 x11 x12 x15 x16 x17 x18 x19 x20 x21 x22).w1 (wts x7 x8 x9 x10 x11 x12 x15 x16 x17 x18 x19 x20 x21 x22).w3 n := by
  pointwise [val_main_v251, val_main_v250, val_main_v249, val_main_v248, val_main_call1_v5, val_main_call1_v4, val_main_call1_cst_0, val_main_call1_v3, val_main_call1_v2, val_main_call1_cst, val_main_call1_v1, val_main_call1_v0]
  simp only [v245_apply x0 x1 x2 x3 x5 x6 x7 x8 x9 x10 x11 x12 x15 x16 x17 x18 x19 x20 x21 x22]
  unfold Rows.up Rows.sig
  rw [zero_sub]
  rfl

theorem v279_apply (b : Fin 32) (t : Fin 16) (j : Fin 4096) : val_main_v279 (F := Ideal) x0 x1 x2 x3 x5 x6 x7 x8 x9 x10 x11 x12 x15 x16 x17 x18 x19 x20 x21 x22 (ix3 b t j) = (wts x7 x8 x9 x10 x11 x12 x15 x16 x17 x18 x19 x20 x21 x22).y (row x0 x1 x2 x3 (skeys x5 b) (svals x6 b) ⟨8192 + (b.val * 16 + t.val), by omega⟩) j := by
  have e : ∀ n, val_main_v255 (F := Ideal) x0 x1 x2 x3 x5 x6 x7 x8 x9 x10 x11 x12 x15 x16 x17 x18 x19 x20 (ix3 b t n) = Rows.res Rows.half ((wts x7 x8 x9 x10 x11 x12 x15 x16 x17 x18 x19 x20 x21 x22).x3 (row x0 x1 x2 x3 (skeys x5 b) (svals x6 b) ⟨8192 + (b.val * 16 + t.val), by omega⟩)) (Rows.ffn ((wts x7 x8 x9 x10 x11 x12 x15 x16 x17 x18 x19 x20 x21 x22).x3 (row x0 x1 x2 x3 (skeys x5 b) (svals x6 b) ⟨8192 + (b.val * 16 + t.val), by omega⟩)) (wts x7 x8 x9 x10 x11 x12 x15 x16 x17 x18 x19 x20 x21 x22).w1 (wts x7 x8 x9 x10 x11 x12 x15 x16 x17 x18 x19 x20 x21 x22).w3 (wts x7 x8 x9 x10 x11 x12 x15 x16 x17 x18 x19 x20 x21 x22).w2) n := fun n => by
    pointwise [val_main_v246, val_main_v247, val_main_v255, val_main_v254, val_main_v253, val_main_v252, val_main_cst_46, val_main_cst_47]
    simp only [v251_apply x0 x1 x2 x3 x5 x6 x7 x8 x9 x10 x11 x12 x15 x16 x17 x18 x19 x20 x21 x22, v245_apply x0 x1 x2 x3 x5 x6 x7 x8 x9 x10 x11 x12 x15 x16 x17 x18 x19 x20 x21 x22]
    rfl
  pointwise [val_main_v279, val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_cst_48, val_main_cst_49, val_main_cst_50, val_main_cst_51, val_main_cst_52]
  simp only [e]
  rfl

theorem v279_eq : val_main_v279 (F := Ideal) x0 x1 x2 x3 x5 x6 x7 x8 x9 x10 x11 x12 x15 x16 x17 x18 x19 x20 x21 x22 = fun i : S32x16x4096.Idx => (wts x7 x8 x9 x10 x11 x12 x15 x16 x17 x18 x19 x20 x21 x22).y (row x0 x1 x2 x3 (skeys x5 (i 0)) (svals x6 (i 0)) ⟨8192 + ((i 0).val * 16 + (i 1).val), by have := (i 0).isLt; have := (i 1).isLt; simp at *; omega⟩) (i 2) := by
  funext i
  rw [eq_ix3 i]
  exact v279_apply x0 x1 x2 x3 x5 x6 x7 x8 x9 x10 x11 x12 x15 x16 x17 x18 x19 x20 x21 x22 (i 0) (i 1) (i 2)

/-! The memory's caches. -/

theorem v280_eq : val_main_v280 (F := Ideal) x4 x13 = fun i : S1x2x256x4x1024.Idx => mkeys x4 x13 (i 1) (i 2) (Rows.colH (i 3) (i 4)) := by
  funext i
  rw [eq_ix5 i]
  pointwise [val_main_v280]
  exact v1_apply _ _ _ _ _ _

theorem v281_eq : val_main_v281 (F := Ideal) x4 x14 = fun i : S1x2x256x4x1024.Idx => mvals x4 x14 (i 1) (i 2) (Rows.colH (i 3) (i 4)) := by
  funext i
  rw [eq_ix5 i]
  pointwise [val_main_v281]
  exact v3_apply _ _ _ _ _ _

end Cert.Reference3Ideal.Back
end
-- ==== Proof.BackClaim.lean ====
module

public import proofs.«01_k».proof.Defs
public import proofs.«01_k».proof.Proof.BackRun
public import proofs.«01_k».proof.Proof.BackRef
public import proofs.«01_k».proof.Proof.Gen.Reference3Ideal.Run
public import Idealize.ShloMosaic.Lib.Quiescent

@[expose] public section

set_option maxRecDepth 16384

noncomputable section

namespace Cert.Proof.Back

open Idealize.ShloMosaic Idealize.SL.Sem Idealize.ShloMosaic.TcCoe Idealize.ShloMosaic.Pointwise
open Cert.Kernel3Ideal Cert.Kernel3Ideal.Gen Cert.Kernel3Ideal.Back

/-- The reference's run keeps its arguments; it declares no semaphore. -/
theorem refFrame : Cert.quiescent_Reference3Ideal (hReference3Ideal := Cert.Reference3Ideal.Gen.facts) := by
  intro m ρ _
  exact (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

/-- A prompt's row attends to its prompt's memory, -/
theorem memOf_prompt (p : Fin 2 → Fin 256 → Fin 4096 → EReal) (s : Fin 32 → Fin 256 → Fin 4096 → EReal) (b : Fin 2) (t : Fin 4096) (h : b.val * 4096 + t.val < 8704) :
    memOf p s ⟨b.val * 4096 + t.val, h⟩ = p b := by
  unfold memOf
  rw [dif_pos (by dsimp only; omega)]
  exact congrArg p (Fin.ext (by dsimp only; omega))

/-- a sample's row to its own. -/
theorem memOf_sample (p : Fin 2 → Fin 256 → Fin 4096 → EReal) (s : Fin 32 → Fin 256 → Fin 4096 → EReal) (b : Fin 32) (t : Fin 16) (h : 8192 + (b.val * 16 + t.val) < 8704) :
    memOf p s ⟨8192 + (b.val * 16 + t.val), h⟩ = s b := by
  unfold memOf
  rw [dif_neg (by dsimp only; omega)]
  exact congrArg s (Fin.ext (by dsimp only; omega))

theorem row_prompt (m : (ℓ : Loc nD τ sig) → Buf (Elt Ideal) ℓ) (c : Dev nD) (b : Fin 2) (t : Fin 4096) (h : b.val * 4096 + t.val < 8704) :
    row m c ⟨b.val * 4096 + t.val, h⟩ = Cert.Reference3Ideal.Back.row (m ((c.tc : Thread nD τ).loc main_arg0)) (m ((c.tc : Thread nD τ).loc main_arg1)) (m ((c.tc : Thread nD τ).loc main_arg2)) (m ((c.tc : Thread nD τ).loc main_arg3)) (Cert.Reference3Ideal.Back.mkeys (m ((c.tc : Thread nD τ).loc main_arg4)) (m ((c.tc : Thread nD τ).loc main_arg13)) b) (Cert.Reference3Ideal.Back.mvals (m ((c.tc : Thread nD τ).loc main_arg4)) (m ((c.tc : Thread nD τ).loc main_arg14)) b) ⟨b.val * 4096 + t.val, h⟩ := by
  unfold row
  rw [memOf_prompt, memOf_prompt]
  rfl

theorem row_sample (m : (ℓ : Loc nD τ sig) → Buf (Elt Ideal) ℓ) (c : Dev nD) (b : Fin 32) (t : Fin 16) (h : 8192 + (b.val * 16 + t.val) < 8704) :
    row m c ⟨8192 + (b.val * 16 + t.val), h⟩ = Cert.Reference3Ideal.Back.row (m ((c.tc : Thread nD τ).loc main_arg0)) (m ((c.tc : Thread nD τ).loc main_arg1)) (m ((c.tc : Thread nD τ).loc main_arg2)) (m ((c.tc : Thread nD τ).loc main_arg3)) (Cert.Reference3Ideal.Back.skeys (m ((c.tc : Thread nD τ).loc main_arg5)) b) (Cert.Reference3Ideal.Back.svals (m ((c.tc : Thread nD τ).loc main_arg6)) b) ⟨8192 + (b.val * 16 + t.val), h⟩ := by
  unfold row
  rw [memOf_sample, memOf_sample]
  rfl

/-- The kernel's results are the reference's. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => W26 m ρ c (Proc.devRef .tc main_v35), fun c => W26 m ρ c (Proc.devRef .tc main_v37), fun c => W26 m ρ c (Proc.devRef .tc main_v38), fun c => W26 m ρ c (Proc.devRef .tc main_v39), ?_, ?_⟩
  · refine (θ_run Cert.Kernel3Ideal.defs _ _).mono (fun r h c => ?_) (run m ρ)
    exact ⟨h c _ (mem_uc main_v35 (by decide)),
      h c _ (mem_uc main_v37 (by decide)),
      h c _ (mem_uc main_v38 (by decide)),
      h c _ (mem_uc main_v39 (by decide)),
      (h c _ (mem_uc main_arg0 (by decide))).trans (W26_main_arg0 m ρ c),
      (h c _ (mem_uc main_arg1 (by decide))).trans (W26_main_arg1 m ρ c),
      (h c _ (mem_uc main_arg2 (by decide))).trans (W26_main_arg2 m ρ c),
      (h c _ (mem_uc main_arg3 (by decide))).trans (W26_main_arg3 m ρ c),
      (h c _ (mem_uc main_arg4 (by decide))).trans (W26_main_arg4 m ρ c),
      (h c _ (mem_uc main_arg5 (by decide))).trans (W26_main_arg5 m ρ c),
      (h c _ (mem_uc main_arg6 (by decide))).trans (W26_main_arg6 m ρ c),
      (h c _ (mem_uc main_arg7 (by decide))).trans (W26_main_arg7 m ρ c),
      (h c _ (mem_uc main_arg8 (by decide))).trans (W26_main_arg8 m ρ c),
      (h c _ (mem_uc main_arg9 (by decide))).trans (W26_main_arg9 m ρ c),
      (h c _ (mem_uc main_arg10 (by decide))).trans (W26_main_arg10 m ρ c),
      (h c _ (mem_uc main_arg11 (by decide))).trans (W26_main_arg11 m ρ c),
      (h c _ (mem_uc main_arg12 (by decide))).trans (W26_main_arg12 m ρ c),
      (h c _ (mem_uc main_arg13 (by decide))).trans (W26_main_arg13 m ρ c),
      (h c _ (mem_uc main_arg14 (by decide))).trans (W26_main_arg14 m ρ c),
      (h c _ (mem_uc main_arg15 (by decide))).trans (W26_main_arg15 m ρ c),
      (h c _ (mem_uc main_arg16 (by decide))).trans (W26_main_arg16 m ρ c),
      (h c _ (mem_uc main_arg17 (by decide))).trans (W26_main_arg17 m ρ c),
      (h c _ (mem_uc main_arg18 (by decide))).trans (W26_main_arg18 m ρ c),
      (h c _ (mem_uc main_arg19 (by decide))).trans (W26_main_arg19 m ρ c),
      (h c _ (mem_uc main_arg20 (by decide))).trans (W26_main_arg20 m ρ c),
      (h c _ (mem_uc main_arg21 (by decide))).trans (W26_main_arg21 m ρ c),
      (h c _ (mem_uc main_arg22 (by decide))).trans (W26_main_arg22 m ρ c)⟩
  refine (θ_run Cert.Reference3Ideal.defs _ _).mono (fun r h c => ?_) (Cert.Reference3Ideal.Value.run (F := Ideal) m' ρ')
  obtain ⟨h0, h1, h2, h3, h4, h5, h6, h7, h8, h9, h10, h11, h12, h13, h14, h15, h16, h17, h18, h19, h20, h21, h22⟩ := hagree c
  have hw : Cert.Reference3Ideal.Back.wts (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg15)) (m' ((c.tc : Thread Cert.Reference3Ideal.nD Cert.Reference3Ideal.τ).loc Cert.Reference3Ideal.main_arg16)) (m' ((c.tc : Thread Cert.Reference3Ideal.nD Cert.Reference3Ideal.τ).loc Cert.Reference3Ideal.main_arg17)) (m' ((c.tc : Thread Cert.Reference3Ideal.nD Cert.Reference3Ideal.τ).loc Cert.Reference3Ideal.main_arg18)) (m' ((c.tc : Thread Cert.Reference3Ideal.nD Cert.Reference3Ideal.τ).loc Cert.Reference3Ideal.main_arg19)) (m' ((c.tc : Thread Cert.Reference3Ideal.nD Cert.Reference3Ideal.τ).loc Cert.Reference3Ideal.main_arg20)) (m' ((c.tc : Thread Cert.Reference3Ideal.nD Cert.Reference3Ideal.τ).loc Cert.Reference3Ideal.main_arg21)) (m' ((c.tc : Thread Cert.Reference3Ideal.nD Cert.Reference3Ideal.τ).loc Cert.Reference3Ideal.main_arg22)) = wts m c := by
    rw [h7, h8, h9, h10, h11, h12, h15, h16, h17, h18, h19, h20, h21, h22]; rfl
  have hp : ∀ (b : Fin 2) (t : Fin 4096) (hb : b.val * 4096 + t.val < 8704), Cert.Reference3Ideal.Back.row (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (Cert.Reference3Ideal.Back.mkeys (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg13)) b) (Cert.Reference3Ideal.Back.mvals (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg14)) b) ⟨b.val * 4096 + t.val, hb⟩ = row m c ⟨b.val * 4096 + t.val, hb⟩ := fun b t hb => by
    rw [h0, h1, h2, h3, h4, h13, h14]; exact (row_prompt m c b t hb).symm
  have hs : ∀ (b : Fin 32) (t : Fin 16) (hb : 8192 + (b.val * 16 + t.val) < 8704), Cert.Reference3Ideal.Back.row (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (Cert.Reference3Ideal.Back.skeys (m' ((c.tc : Thread Cert.Reference3Ideal.nD Cert.Reference3Ideal.τ).loc Cert.Reference3Ideal.main_arg5)) b) (Cert.Reference3Ideal.Back.svals (m' ((c.tc : Thread Cert.Reference3Ideal.nD Cert.Reference3Ideal.τ).loc Cert.Reference3Ideal.main_arg6)) b) ⟨8192 + (b.val * 16 + t.val), hb⟩ = row m c ⟨8192 + (b.val * 16 + t.val), hb⟩ := fun b t hb => by
    rw [h0, h1, h2, h3, h5, h6]; exact (row_sample m c b t hb).symm
  have hk : Cert.Reference3Ideal.Back.mkeys (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg13)) = mkeys m c := by rw [h4, h13]; rfl
  have hv : Cert.Reference3Ideal.Back.mvals (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg14)) = mvals m c := by rw [h4, h14]; rfl
  obtain ⟨e0, e1, e2, e3, hargs⟩ := h c
  refine ⟨(e0.trans (Cert.Reference3Ideal.Read.val_main_v143_eq _)).trans ?_, (e1.trans (Cert.Reference3Ideal.Read.val_main_v279_eq _)).trans ?_, (e2.trans (Cert.Reference3Ideal.Read.val_main_v280_eq _)).trans ?_, (e3.trans (Cert.Reference3Ideal.Read.val_main_v281_eq _)).trans ?_, hargs⟩
  · refine (Cert.Reference3Ideal.Back.v143_eq _ _ _ _ _ _ _ _ _ _ _ _ _ _ _ _ _ _ _ _ _).trans ?_
    refine Eq.trans ?_ (r_prompt m ρ c).symm
    funext i
    exact congrFun (congrArg₂ Rows.Back.y hw (hp (i 0) (i 1) _)) (i 2)
  · refine (Cert.Reference3Ideal.Back.v279_eq _ _ _ _ _ _ _ _ _ _ _ _ _ _ _ _ _ _ _ _).trans ?_
    refine Eq.trans ?_ (r_sample m ρ c).symm
    funext i
    exact congrFun (congrArg₂ Rows.Back.y hw (hs (i 0) (i 1) _)) (i 2)
  · refine (Cert.Reference3Ideal.Back.v280_eq _ _).trans ?_
    refine Eq.trans ?_ (r_keys m ρ c).symm
    rw [hk]
  · refine (Cert.Reference3Ideal.Back.v281_eq _ _).trans ?_
    refine Eq.trans ?_ (r_vals m ρ c).symm
    rw [hv]

end Cert.Proof.Back
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.SsdClaim
public import proofs.«01_k».proof.Proof.FrontClaim
public import proofs.«01_k».proof.Proof.BackClaim
public import Idealize.ShloMosaic.Adequacy
public import Idealize.ShloMosaic.Init

@[expose] public section

noncomputable section

namespace Cert.Proof

open Idealize.ShloMosaic Idealize.SL.Sem Cert.Kernel

/-- The claims: the frames, the idealizations, and the values of the state-space mixer, of the front and of the back. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, Ssd.refFrame,
  fun m ρ _ => Cert.Kernel2.Gen.frame m ρ, fun m ρ _ => Cert.Kernel2Ideal.Gen.frame m ρ, Front.refFrame,
  fun m ρ _ => Cert.Kernel3.Gen.frame m ρ, fun m ρ _ => Cert.Kernel3Ideal.Gen.frame m ρ, Back.refFrame,
  trivial, Ssd.algebraic, trivial, Front.algebraic, trivial, Back.algebraic⟩

end Cert.Proof

end
